-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_real_entries [hPre_real_entries : Cert.Pre_real_entries.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_real_entries.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_real_entries [hPre_real_entries : Cert.Pre_real_entries.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_real_entries.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_real_entries [hKernel6Ideal : Cert.Kernel6Ideal.Facts] [hPre_real_entries : Cert.Pre_real_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_real_entries m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_real_entries [hReference6Ideal : Cert.Reference6Ideal.Facts] [hPre_real_entries : Cert.Pre_real_entries.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_real_entries m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_real_entries [hKernel6Ideal : Cert.Kernel6Ideal.Facts] [hReference6Ideal : Cert.Reference6Ideal.Facts] [hPre_real_entries : Cert.Pre_real_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_real_entries m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v100_0)) (v1 : (c : Dev Cert.Kernel6Ideal.nD) → Buf (Elt Ideal) ((c.tc : Thread Cert.Kernel6Ideal.nD Cert.Kernel6Ideal.τ).loc Cert.Kernel6Ideal.main_v100_1)) (v2 : (c : Dev Cert.Kernel6Ideal.nD) → Buf (Elt Ideal) ((c.tc : Thread Cert.Kernel6Ideal.nD Cert.Kernel6Ideal.τ).loc Cert.Kernel6Ideal.main_v100_2)) (v3 : (c : Dev Cert.Kernel6Ideal.nD) → Buf (Elt Ideal) ((c.tc : Thread Cert.Kernel6Ideal.nD Cert.Kernel6Ideal.τ).loc Cert.Kernel6Ideal.main_v100_3)) (v4 : (c : Dev Cert.Kernel6Ideal.nD) → Buf (Elt Ideal) ((c.tc : Thread Cert.Kernel6Ideal.nD Cert.Kernel6Ideal.τ).loc Cert.Kernel6Ideal.main_v100_4)) (v5 : (c : Dev Cert.Kernel6Ideal.nD) → Buf (Elt Ideal) ((c.tc : Thread Cert.Kernel6Ideal.nD Cert.Kernel6Ideal.τ).loc Cert.Kernel6Ideal.main_v100_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v100_0) = v0 c
          ∧ r.2.mem ((c.tc : Thread Cert.Kernel6Ideal.nD Cert.Kernel6Ideal.τ).loc Cert.Kernel6Ideal.main_v100_1) = v1 c
          ∧ r.2.mem ((c.tc : Thread Cert.Kernel6Ideal.nD Cert.Kernel6Ideal.τ).loc Cert.Kernel6Ideal.main_v100_2) = v2 c
          ∧ r.2.mem ((c.tc : Thread Cert.Kernel6Ideal.nD Cert.Kernel6Ideal.τ).loc Cert.Kernel6Ideal.main_v100_3) = v3 c
          ∧ r.2.mem ((c.tc : Thread Cert.Kernel6Ideal.nD Cert.Kernel6Ideal.τ).loc Cert.Kernel6Ideal.main_v100_4) = v4 c
          ∧ r.2.mem ((c.tc : Thread Cert.Kernel6Ideal.nD Cert.Kernel6Ideal.τ).loc Cert.Kernel6Ideal.main_v100_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v212) = v0 c
          ∧ r.2.mem ((c.tc : Thread Cert.Reference6Ideal.nD Cert.Reference6Ideal.τ).loc Cert.Reference6Ideal.main_v213) = v1 c
          ∧ r.2.mem ((c.tc : Thread Cert.Reference6Ideal.nD Cert.Reference6Ideal.τ).loc Cert.Reference6Ideal.main_v214) = v2 c
          ∧ r.2.mem ((c.tc : Thread Cert.Reference6Ideal.nD Cert.Reference6Ideal.τ).loc Cert.Reference6Ideal.main_v215) = v3 c
          ∧ r.2.mem ((c.tc : Thread Cert.Reference6Ideal.nD Cert.Reference6Ideal.τ).loc Cert.Reference6Ideal.main_v216) = v4 c
          ∧ r.2.mem ((c.tc : Thread Cert.Reference6Ideal.nD Cert.Reference6Ideal.τ).loc Cert.Reference6Ideal.main_v217) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_real_scores : Cert.Pre_real_scores.Facts) (hPre_real_entries : Cert.Pre_real_entries.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_real_entries (hKernel6Ideal := hKernel6Ideal) (hPre_real_entries := hPre_real_entries)
    ∧ quiescent_Reference6Ideal (hReference6Ideal := hReference6Ideal)
    ∧ quiescent_Reference6Ideal_pre_real_entries (hReference6Ideal := hReference6Ideal) (hPre_real_entries := hPre_real_entries)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_real_entries (hKernel6Ideal := hKernel6Ideal) (hReference6Ideal := hReference6Ideal) (hPre_real_entries := hPre_real_entries)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_real_entries.lean ====
abbrev S4096x256 : Shape := ⟨2, ![4096, 256]⟩
abbrev S4096x4x64 : Shape := ⟨3, ![4096, 4, 64]⟩
abbrev S4096x4 : Shape := ⟨2, ![4096, 4]⟩
abbrev S_ : Shape := ⟨0, ![]⟩

class Facts : Prop where
  bitsLt_bf16_f32 : FTy.bits .bf16 < FTy.bits .f32
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4x64 : S_.BroadcastsInDim S4096x4x64 (![] : Fin 0 → Fin S4096x4x64.rank)
  reducesTo_S4096x4x64_S_d0_1_2 : S4096x4x64.ReducesTo [0, 1, 2] S_
  bcast_S_S4096x4 : S_.BroadcastsInDim S4096x4 (![] : Fin 0 → Fin S4096x4.rank)
  reducesTo_S4096x4_S_d0_1 : S4096x4.ReducesTo [0, 1] S_

variable [Facts]

def fn_part2 {F : FTy → Type} [FloatOps F] (main_v4 : IVec S_ 1) (main_v9 : IVec S_ 1) (main_v14 : IVec S_ 1) (main_v18 : IVec S_ 1) (main_v22 : IVec S_ 1) (main_v26 : IVec S_ 1) (main_v30 : IVec S_ 1) (main_v31 : FVec F S4096x256 .f32) (main_v32 : FVec F S4096x256 .f32) : IVec S_ 1 :=
  let main_v33 : IVec S4096x256 1 := cmpf .olt main_v31 main_v32
  let main_c_13 : IVec S_ 1 := constantI S_ 1 1#1
  let main_v34 : IVec S_ 1 := (fun x v => Host.reduce IntOp.andi x v reducesTo_S4096x256_S_d0_1 h_S_) main_v33 main_c_13
  let main_v35 : IVec S_ 1 := andi main_v4 main_v9
  let main_v36 : IVec S_ 1 := andi main_v35 main_v14
  let main_v37 : IVec S_ 1 := andi main_v36 main_v18
  let main_v38 : IVec S_ 1 := andi main_v37 main_v22
  let main_v39 : IVec S_ 1 := andi main_v38 main_v26
  let main_v40 : IVec S_ 1 := andi main_v39 main_v30
  let main_v41 : IVec S_ 1 := andi main_v40 main_v34
  main_v41

def fn_part1 {F : FTy → Type} [FloatOps F] (main_arg4 : FVec F S4096x4 .f32) (main_arg5 : FVec F S4096x4x64 .f32) (main_arg6 : FVec F S4096x4 .f32) (main_arg7 : FVec F S4096x256 .f32) (main_v4 : IVec S_ 1) (main_v9 : IVec S_ 1) (main_v14 : IVec S_ 1) (main_v15 : FVec F S4096x4x64 .f32) (main_v16 : FVec F S4096x4x64 .f32) : IVec S_ 1 :=
  let main_v17 : IVec S4096x4x64 1 := cmpf .olt main_v15 main_v16
  let main_c_5 : IVec S_ 1 := constantI S_ 1 1#1
  let main_v18 : IVec S_ 1 := (fun x v => Host.reduce IntOp.andi x v reducesTo_S4096x4x64_S_d0_1_2 h_S_) main_v17 main_c_5
  let main_v19 : FVec F S4096x4 .f32 := Host.absf main_arg4
  let main_cst_6 : FVec F S_ .f32 := constant S_ .f32 0x7F800000#32
  let main_v20 : FVec F S4096x4 .f32 := broadcastInDim S4096x4 ![] bcast_S_S4096x4 main_cst_6
  let main_v21 : IVec S4096x4 1 := cmpf .olt main_v19 main_v20
  let main_c_7 : IVec S_ 1 := constantI S_ 1 1#1
  let main_v22 : IVec S_ 1 := (fun x v => Host.reduce IntOp.andi x v reducesTo_S4096x4_S_d0_1 h_S_) main_v21 main_c_7
  let main_v23 : FVec F S4096x4x64 .f32 := Host.absf main_arg5
  let main_cst_8 : FVec F S_ .f32 := constant S_ .f32 0x7F800000#32
  let main_v24 : FVec F S4096x4x64 .f32 := broadcastInDim S4096x4x64 ![] bcast_S_S4096x4x64 main_cst_8
  let main_v25 : IVec S4096x4x64 1 := cmpf .olt main_v23 main_v24
  let main_c_9 : IVec S_ 1 := constantI S_ 1 1#1
  let main_v26 : IVec S_ 1 := (fun x v => Host.reduce IntOp.andi x v reducesTo_S4096x4x64_S_d0_1_2 h_S_) main_v25 main_c_9
  let main_v27 : FVec F S4096x4 .f32 := Host.absf main_arg6
  let main_cst_10 : FVec F S_ .f32 := constant S_ .f32 0x7F800000#32
  let main_v28 : FVec F S4096x4 .f32 := broadcastInDim S4096x4 ![] bcast_S_S4096x4 main_cst_10
  let main_v29 : IVec S4096x4 1 := cmpf .olt main_v27 main_v28
  let main_c_11 : IVec S_ 1 := constantI S_ 1 1#1
  let main_v30 : IVec S_ 1 := (fun x v => Host.reduce IntOp.andi x v reducesTo_S4096x4_S_d0_1 h_S_) main_v29 main_c_11
  let main_v31 : FVec F S4096x256 .f32 := Host.absf main_arg7
  let main_cst_12 : FVec F S_ .f32 := constant S_ .f32 0x7F800000#32
  let main_v32 : FVec F S4096x256 .f32 := broadcastInDim S4096x256 ![] bcast_S_S4096x256 main_cst_12
  fn_part2 (F := F) main_v4 main_v9 main_v14 main_v18 main_v22 main_v26 main_v30 main_v31 main_v32

def fn {F : FTy → Type} [FloatOps F] (main_arg0 : FVec F S4096x256 .bf16) (main_arg1 : FVec F S4096x256 .bf16) (main_arg2 : FVec F S4096x256 .bf16) (main_arg3 : FVec F S4096x4x64 .f32) (main_arg4 : FVec F S4096x4 .f32) (main_arg5 : FVec F S4096x4x64 .f32) (main_arg6 : FVec F S4096x4 .f32) (main_arg7 : FVec F S4096x256 .f32) : IVec S_ 1 :=
  let main_v0 : FVec F S4096x256 .f32 := (extf .f32 · bitsLt_bf16_f32) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_c : IVec S_ 1 := constantI S_ 1 1#1
  let main_v4 : IVec S_ 1 := (fun x v => Host.reduce IntOp.andi x v reducesTo_S4096x256_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : FVec F S4096x256 .f32 := (extf .f32 · bitsLt_bf16_f32) main_arg2
  let main_v11 : FVec F S4096x256 .f32 := Host.absf main_v10
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  let main_c_3 : IVec S_ 1 := constantI S_ 1 1#1
  let main_v14 : IVec S_ 1 := (fun x v => Host.reduce IntOp.andi x v reducesTo_S4096x256_S_d0_1 h_S_) main_v13 main_c_3
  let main_v15 : FVec F S4096x4x64 .f32 := Host.absf main_arg3
  let main_cst_4 : FVec F S_ .f32 := constant S_ .f32 0x7F800000#32
  let main_v16 : FVec F S4096x4x64 .f32 := broadcastInDim S4096x4x64 ![] bcast_S_S4096x4x64 main_cst_4
  fn_part1 (F := F) main_arg4 main_arg5 main_arg6 main_arg7 main_v4 main_v9 main_v14 main_v15 main_v16
-- ==== Pre_real_scores.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x2048, .f32⟩
  | .hbm, ⟨89, _⟩ => ⟨S4096x1024, .f32⟩
  | .hbm, ⟨90, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S4096x1024, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S1x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference2Ideal.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S4096x1024, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S1x4096 : Shape := ⟨2, ![1, 4096]⟩
abbrev S4096x4096 : Shape := ⟨2, ![4096, 4096]⟩
abbrev S_ : Shape := ⟨0, ![]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x4096 : Shape := ⟨2, ![1024, 4096]⟩
abbrev S1x4096 : Shape := ⟨2, ![1, 4096]⟩
abbrev S_ : Shape := ⟨0, ![]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S1024x4096, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S8x1024x512, .f32⟩
  | .hbm, ⟨4, _⟩ => ⟨S4096x1024, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x4096 : Shape := ⟨2, ![4096, 4096]⟩
abbrev S8x1024x512 : Shape := ⟨3, ![8, 1024, 512]⟩
abbrev S4096x1024 : Shape := ⟨2, ![4096, 1024]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S8x1024x512 : Shape := ⟨3, ![8, 1024, 512]⟩
abbrev S_ : Shape := ⟨0, ![]⟩
abbrev S4096x1024 : Shape := ⟨2, ![4096, 1024]⟩
abbrev S1024x8x512 : Shape := ⟨3, ![1024, 8, 512]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S_, .f32⟩
  | .hbm, ⟨3, _⟩ => ⟨S4096x1024, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x256 : Shape := ⟨2, ![4096, 256]⟩
abbrev S4096x4x64 : Shape := ⟨3, ![4096, 4, 64]⟩
abbrev S4096x4 : Shape := ⟨2, ![4096, 4]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x256x4x64 : Shape := ⟨4, ![32, 256, 4, 64]⟩
abbrev S32x4x128x256 : Shape := ⟨4, ![32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x128x256 : Shape := ⟨4, ![32, 1, 128, 256]⟩
abbrev S32x4x128 : Shape := ⟨3, ![32, 4, 128]⟩
abbrev S32x4x128x1 : Shape := ⟨4, ![32, 4, 128, 1]⟩
abbrev S32x4x128x64 : Shape := ⟨4, ![32, 4, 128, 64]⟩
abbrev S32x128x4 : Shape := ⟨3, ![32, 128, 4]⟩
abbrev S4096x4x1 : Shape := ⟨3, ![4096, 4, 1]⟩
abbrev S4096x120 : Shape := ⟨2, ![4096, 120]⟩
abbrev S4096x128 : Shape := ⟨2, ![4096, 128]⟩
abbrev S128x128 : Shape := ⟨2, ![128, 128]⟩
abbrev S512x256 : Shape := ⟨2, ![512, 256]⟩
abbrev S512x128 : Shape := ⟨2, ![512, 128]⟩
abbrev S256x256 : Shape := ⟨2, ![256, 256]⟩
abbrev S512x1 : Shape := ⟨2, ![512, 1]⟩

abbrev nBuf : Space → Nat
  | .hbm => 130
  | .vmem => 36
  | .smem => 0
  | _ => 0

abbrev hbmTy0_0 (i : Nat) : BufTy := match i % 128 with
  | 0 => ⟨S4096x256, .bf16⟩
  | 1 => ⟨S4096x256, .bf16⟩
  | 2 => ⟨S4096x256, .bf16⟩
  | 3 => ⟨S4096x4x64, .f32⟩
  | 4 => ⟨S4096x4, .f32⟩
  | 5 => ⟨S4096x4x64, .f32⟩
  | 6 => ⟨S4096x4, .f32⟩
  | 7 => ⟨S4096x256, .f32⟩
  | 8 => ⟨S4096x256, .f32⟩
  | 9 => ⟨S4096x4x64, .f32⟩
  | 10 => ⟨S4096x256, .f32⟩
  | 11 => ⟨S4096x4x64, .f32⟩
  | 12 => ⟨S4096x256, .f32⟩
  | 13 => ⟨S4096x4x64, .f32⟩
  | 14 => ⟨S32x128x4x64, .f32⟩
  | 15 => ⟨S32x128x4x64, .f32⟩
  | 16 => ⟨S1x128x4x64, .f32⟩
  | 17 => ⟨S_, .f32⟩
  | 18 => ⟨S1x128x4x64, .f32⟩
  | 19 => ⟨S31x128x4x64, .f32⟩
  | 20 => ⟨S32x128x4x64, .f32⟩
  | 21 => ⟨S32x256x4x64, .f32⟩
  | 22 => ⟨S32x128x4x64, .f32⟩
  | 23 => ⟨S1x128x4x64, .f32⟩
  | 24 => ⟨S_, .f32⟩
  | 25 => ⟨S1x128x4x64, .f32⟩
  | 26 => ⟨S31x128x4x64, .f32⟩
  | 27 => ⟨S32x128x4x64, .f32⟩
  | 28 => ⟨S32x256x4x64, .f32⟩
  | 29 => ⟨S32x4x128x256, .f32⟩
  | 30 => ⟨S_, .f32⟩
  | 31 => ⟨S32x4x128x256, .f32⟩
  | 32 => ⟨S32x4x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S32, .i32⟩
  | 51 => ⟨S_, .i32⟩
  | 52 => ⟨S32, .i32⟩
  | 53 => ⟨S32, .i1⟩
  | 54 => ⟨S32x1x1, .i1⟩
  | 55 => ⟨S1x128x256, .i1⟩
  | 56 => ⟨S_, .i32⟩
  | 57 => ⟨S1x256, .i32⟩
  | 58 => ⟨S1x256, .i1⟩
  | 59 => ⟨S1x1x256, .i1⟩
  | 60 => ⟨S32x1x256, .i1⟩
  | 61 => ⟨S32x1x256, .i1⟩
  | 62 => ⟨S32x1x256, .i1⟩
  | 63 => ⟨S32x128x256, .i1⟩
  | 64 => ⟨S32x128x256, .i1⟩
  | 65 => ⟨S32x128x256, .i1⟩
  | 66 => ⟨S32x1x128x256, .i1⟩
  | 67 => ⟨S_, .f32⟩
  | 68 => ⟨S_, .f32⟩
  | 69 => ⟨S32x4x128x256, .i1⟩
  | 70 => ⟨S32x4x128x256, .f32⟩
  | 71 => ⟨S32x4x128x256, .f32⟩
  | 72 => ⟨S_, .f32⟩
  | 73 => ⟨S32x4x128, .f32⟩
  | 74 => ⟨S32x4x128x1, .f32⟩
  | 75 => ⟨S32x4x128x256, .f32⟩
  | 76 => ⟨S32x4x128x256, .f32⟩
  | 77 => ⟨S32x4x128x256, .f32⟩
  | 78 => ⟨S_, .f32⟩
  | 79 => ⟨S32x4x128, .f32⟩
  | 80 => ⟨S32x4x128x1, .f32⟩
  | 81 => ⟨S32x4x128x1, .f32⟩
  | 82 => ⟨S32x4x128x1, .f32⟩
  | 83 => ⟨S32x4x128, .f32⟩
  | 84 => ⟨S32x4x128x64, .f32⟩
  | 85 => ⟨S32x4x128x64, .f32⟩
  | 86 => ⟨S32x4x128x64, .f32⟩
  | 87 => ⟨S32x128x4x64, .f32⟩
  | 88 => ⟨S4096x4x64, .f32⟩
  | 89 => ⟨S32x128x4, .f32⟩
  | 90 => ⟨S4096x4, .f32⟩
  | 91 => ⟨S4096x4, .f32⟩
  | 92 => ⟨S4096x4, .f32⟩
  | 93 => ⟨S4096x4, .f32⟩
  | 94 => ⟨S4096x4, .f32⟩
  | 95 => ⟨S4096x4, .f32⟩
  | 96 => ⟨S4096x4, .f32⟩
  | 97 => ⟨S4096x4, .f32⟩
  | 98 => ⟨S4096x4, .f32⟩
  | 99 => ⟨S4096x4, .f32⟩
  | 100 => ⟨S4096x4, .f32⟩
  | 101 => ⟨S4096x4, .f32⟩
  | 102 => ⟨S4096x4x1, .f32⟩
  | 103 => ⟨S4096x4x64, .f32⟩
  | 104 => ⟨S4096x4x64, .f32⟩
  | 105 => ⟨S4096x4, .f32⟩
  | 106 => ⟨S4096x4x1, .f32⟩
  | 107 => ⟨S4096x4x64, .f32⟩
  | 108 => ⟨S4096x4x64, .f32⟩
  | 109 => ⟨S4096x4x64, .f32⟩
  | 110 => ⟨S4096x4, .f32⟩
  | 111 => ⟨S4096x4x1, .f32⟩
  | 112 => ⟨S4096x4x64, .f32⟩
  | 113 => ⟨S4096x4x64, .f32⟩
  | 114 => ⟨S4096x4x64, .f32⟩
  | 115 => ⟨S4096x4x64, .f32⟩
  | 116 => ⟨S4096x4x64, .f32⟩
  | 117 => ⟨S_, .f32⟩
  | 118 => ⟨S4096x4, .f32⟩
  | 119 => ⟨S4096x4, .f32⟩
  | 120 => ⟨S4096x4, .f32⟩
  | 121 => ⟨S_, .f32⟩
  | 122 => ⟨S4096x120, .f32⟩
  | 123 => ⟨S4096x128, .f32⟩
  | 124 => ⟨S4096x128, .f32⟩
  | 125 => ⟨S4096x128, .f32⟩
  | 126 => ⟨S4096x128, .f32⟩
  | 127 => ⟨S4096x128, .f32⟩
  | _ => ⟨S4096x256, .bf16⟩

abbrev hbmTy0_1 (i : Nat) : BufTy := match i % 128 with
  | 0 => ⟨S4096x128, .f32⟩
  | 1 => ⟨S4096x128, .f32⟩
  | _ => ⟨S4096x256, .bf16⟩

abbrev hbmTy (i : Nat) : BufTy := match i / 128 with
  | 0 => hbmTy0_0 i
  | 1 => hbmTy0_1 i
  | _ => ⟨S4096x256, .bf16⟩

abbrev bufTy : (tb : Table) → Fin (tcTables nBuf tb) → BufTy
  | .hbm, ⟨i, _⟩ => hbmTy i
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_10 : Ref sig .tc := ⟨.hbm, 121, rfl⟩
abbrev main_v98 : Ref sig .tc := ⟨.hbm, 122, rfl⟩
abbrev main_v99 : Ref sig .tc := ⟨.hbm, 123, rfl⟩
abbrev main_v100_0 : Ref sig .tc := ⟨.hbm, 124, rfl⟩
abbrev main_v100_1 : Ref sig .tc := ⟨.hbm, 125, rfl⟩
abbrev main_v100_2 : Ref sig .tc := ⟨.hbm, 126, rfl⟩
abbrev main_v100_3 : Ref sig .tc := ⟨.hbm, 127, rfl⟩
abbrev main_v100_4 : Ref sig .tc := ⟨.hbm, 128, rfl⟩
abbrev main_v100_5 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c1_i32 : BitVec 32 := 1#32
  let c0_i32_0 : BitVec 32 := 0#32
  ![v1.toNat, c1_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  ![v1.toNat, c1_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference6Ideal.lean ====
abbrev S4096x256 : Shape := ⟨2, ![4096, 256]⟩
abbrev S4096x4x64 : Shape := ⟨3, ![4096, 4, 64]⟩
abbrev S4096x4 : Shape := ⟨2, ![4096, 4]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x256x4x64 : Shape := ⟨4, ![32, 256, 4, 64]⟩
abbrev S32x4x128x256 : Shape := ⟨4, ![32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x128x256 : Shape := ⟨4, ![32, 1, 128, 256]⟩
abbrev S32x4x128 : Shape := ⟨3, ![32, 4, 128]⟩
abbrev S32x4x128x1 : Shape := ⟨4, ![32, 4, 128, 1]⟩
abbrev S32x4x128x64 : Shape := ⟨4, ![32, 4, 128, 64]⟩
abbrev S32x128x4 : Shape := ⟨3, ![32, 128, 4]⟩
abbrev S1x4096x4 : Shape := ⟨3, ![1, 4096, 4]⟩
abbrev S3x4096x4 : Shape := ⟨3, ![3, 4096, 4]⟩
abbrev S3x4096x4x1 : Shape := ⟨4, ![3, 4096, 4, 1]⟩
abbrev S1x4096x4x64 : Shape := ⟨4, ![1, 4096, 4, 64]⟩
abbrev S3x4096x4x64 : Shape := ⟨4, ![3, 4096, 4, 64]⟩
abbrev S32x4x64x256 : Shape := ⟨4, ![32, 4, 64, 256]⟩
abbrev S32x4x256x64 : Shape := ⟨4, ![32, 4, 256, 64]⟩
abbrev S4096x128 : Shape := ⟨2, ![4096, 128]⟩

abbrev nBuf : Space → Nat
  | .hbm => 274
  | .vmem => 0
  | .smem => 0
  | _ => 0

abbrev hbmTy0_0 (i : Nat) : BufTy := match i % 128 with
  | 0 => ⟨S4096x256, .bf16⟩
  | 1 => ⟨S4096x256, .bf16⟩
  | 2 => ⟨S4096x256, .bf16⟩
  | 3 => ⟨S4096x4x64, .f32⟩
  | 4 => ⟨S4096x4, .f32⟩
  | 5 => ⟨S4096x4x64, .f32⟩
  | 6 => ⟨S4096x4, .f32⟩
  | 7 => ⟨S4096x256, .f32⟩
  | 8 => ⟨S4096x256, .f32⟩
  | 9 => ⟨S4096x256, .f32⟩
  | 10 => ⟨S4096x256, .f32⟩
  | 11 => ⟨S4096x4x64, .f32⟩
  | 12 => ⟨S4096x4x64, .f32⟩
  | 13 => ⟨S4096x4x64, .f32⟩
  | 14 => ⟨S32x128x4x64, .f32⟩
  | 15 => ⟨S32x128x4x64, .f32⟩
  | 16 => ⟨S1x128x4x64, .f32⟩
  | 17 => ⟨S_, .f32⟩
  | 18 => ⟨S1x128x4x64, .f32⟩
  | 19 => ⟨S31x128x4x64, .f32⟩
  | 20 => ⟨S32x128x4x64, .f32⟩
  | 21 => ⟨S_, .f32⟩
  | 22 => ⟨S1x128x4x64, .f32⟩
  | 23 => ⟨S32x256x4x64, .f32⟩
  | 24 => ⟨S32x128x4x64, .f32⟩
  | 25 => ⟨S1x128x4x64, .f32⟩
  | 26 => ⟨S_, .f32⟩
  | 27 => ⟨S1x128x4x64, .f32⟩
  | 28 => ⟨S31x128x4x64, .f32⟩
  | 29 => ⟨S32x128x4x64, .f32⟩
  | 30 => ⟨S_, .f32⟩
  | 31 => ⟨S1x128x4x64, .f32⟩
  | 32 => ⟨S32x256x4x64, .f32⟩
  | 33 => ⟨S32x4x128x256, .f32⟩
  | 34 => ⟨S_, .f32⟩
  | 35 => ⟨S32x4x128x256, .f32⟩
  | 36 => ⟨S32x4x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S32, .i32⟩
  | 55 => ⟨S_, .i32⟩
  | 56 => ⟨S32, .i32⟩
  | 57 => ⟨S32, .i1⟩
  | 58 => ⟨S32x1x1, .i1⟩
  | 59 => ⟨S1x128x256, .i1⟩
  | 60 => ⟨S_, .i32⟩
  | 61 => ⟨S1x256, .i32⟩
  | 62 => ⟨S1x256, .i1⟩
  | 63 => ⟨S1x1x256, .i1⟩
  | 64 => ⟨S32x1x256, .i1⟩
  | 65 => ⟨S32x1x256, .i1⟩
  | 66 => ⟨S32x1x256, .i1⟩
  | 67 => ⟨S32x128x256, .i1⟩
  | 68 => ⟨S32x128x256, .i1⟩
  | 69 => ⟨S32x128x256, .i1⟩
  | 70 => ⟨S32x1x128x256, .i1⟩
  | 71 => ⟨S_, .f32⟩
  | 72 => ⟨S_, .f32⟩
  | 73 => ⟨S32x4x128x256, .i1⟩
  | 74 => ⟨S32x4x128x256, .f32⟩
  | 75 => ⟨S32x4x128x256, .f32⟩
  | 76 => ⟨S_, .f32⟩
  | 77 => ⟨S32x4x128x256, .f32⟩
  | 78 => ⟨S_, .f32⟩
  | 79 => ⟨S32x4x128, .f32⟩
  | 80 => ⟨S32x4x128x1, .f32⟩
  | 81 => ⟨S32x4x128x256, .f32⟩
  | 82 => ⟨S32x4x128x256, .i1⟩
  | 83 => ⟨S32x4x128x256, .f32⟩
  | 84 => ⟨S_, .f32⟩
  | 85 => ⟨S32x4x128, .f32⟩
  | 86 => ⟨S32x4x128x1, .f32⟩
  | 87 => ⟨S32x4x128x256, .f32⟩
  | 88 => ⟨S32x4x128x256, .f32⟩
  | 89 => ⟨S32x4x128x256, .f32⟩
  | 90 => ⟨S_, .f32⟩
  | 91 => ⟨S32x4x128, .f32⟩
  | 92 => ⟨S32x4x128x1, .f32⟩
  | 93 => ⟨S32x4x128x1, .f32⟩
  | 94 => ⟨S32x4x128x1, .f32⟩
  | 95 => ⟨S32x4x128, .f32⟩
  | 96 => ⟨S32x4x128x64, .f32⟩
  | 97 => ⟨S32x4x128x64, .f32⟩
  | 98 => ⟨S32x4x128x64, .f32⟩
  | 99 => ⟨S32x4x128x1, .f32⟩
  | 100 => ⟨S_, .f32⟩
  | 101 => ⟨S32x4x128x1, .f32⟩
  | 102 => ⟨S32x4x128x1, .f32⟩
  | 103 => ⟨S32x128x4x64, .f32⟩
  | 104 => ⟨S4096x4x64, .f32⟩
  | 105 => ⟨S32x128x4, .f32⟩
  | 106 => ⟨S4096x4, .f32⟩
  | 107 => ⟨S1x4096x4, .f32⟩
  | 108 => ⟨S1x4096x4, .f32⟩
  | 109 => ⟨S1x4096x4, .f32⟩
  | 110 => ⟨S3x4096x4, .f32⟩
  | 111 => ⟨S_, .f32⟩
  | 112 => ⟨S4096x4, .f32⟩
  | 113 => ⟨S_, .f32⟩
  | 114 => ⟨S4096x4, .f32⟩
  | 115 => ⟨S_, .f32⟩
  | 116 => ⟨S4096x4, .f32⟩
  | 117 => ⟨S1x4096x4, .f32⟩
  | 118 => ⟨S3x4096x4, .f32⟩
  | 119 => ⟨S3x4096x4, .i1⟩
  | 120 => ⟨S3x4096x4, .f32⟩
  | 121 => ⟨S_, .f32⟩
  | 122 => ⟨S4096x4, .f32⟩
  | 123 => ⟨S_, .f32⟩
  | 124 => ⟨S4096x4, .f32⟩
  | 125 => ⟨S4096x4, .f32⟩
  | 126 => ⟨S_, .f32⟩
  | 127 => ⟨S4096x4, .f32⟩
  | _ => ⟨S4096x256, .bf16⟩

abbrev hbmTy0_1 (i : Nat) : BufTy := match i % 128 with
  | 0 => ⟨S4096x4, .i1⟩
  | 1 => ⟨S_, .f32⟩
  | 2 => ⟨S4096x4, .f32⟩
  | 3 => ⟨S4096x4, .i1⟩
  | 4 => ⟨S_, .f32⟩
  | 5 => ⟨S4096x4, .f32⟩
  | 6 => ⟨S_, .f32⟩
  | 7 => ⟨S4096x4, .f32⟩
  | 8 => ⟨S_, .f32⟩
  | 9 => ⟨S4096x4, .f32⟩
  | 10 => ⟨S4096x4, .f32⟩
  | 11 => ⟨S4096x4, .f32⟩
  | 12 => ⟨S1x4096x4, .f32⟩
  | 13 => ⟨S3x4096x4, .f32⟩
  | 14 => ⟨S3x4096x4, .f32⟩
  | 15 => ⟨S3x4096x4, .f32⟩
  | 16 => ⟨S_, .f32⟩
  | 17 => ⟨S4096x4, .f32⟩
  | 18 => ⟨S1x4096x4, .f32⟩
  | 19 => ⟨S3x4096x4, .f32⟩
  | 20 => ⟨S3x4096x4, .f32⟩
  | 21 => ⟨S1x4096x4, .f32⟩
  | 22 => ⟨S_, .f32⟩
  | 23 => ⟨S1x4096x4, .f32⟩
  | 24 => ⟨S1x4096x4, .f32⟩
  | 25 => ⟨S3x4096x4x1, .f32⟩
  | 26 => ⟨S1x4096x4x64, .f32⟩
  | 27 => ⟨S1x4096x4x64, .f32⟩
  | 28 => ⟨S1x4096x4x64, .f32⟩
  | 29 => ⟨S3x4096x4x64, .f32⟩
  | 30 => ⟨S_, .f32⟩
  | 31 => ⟨S4096x4x64, .f32⟩
  | 32 => ⟨S_, .f32⟩
  | 33 => ⟨S4096x4x64, .f32⟩
  | 34 => ⟨S3x4096x4x64, .f32⟩
  | 35 => ⟨S3x4096x4x64, .f32⟩
  | 36 => ⟨S_, .f32⟩
  | 37 => ⟨S4096x4x64, .f32⟩
  | 38 => ⟨S4096x256, .f32⟩
  | 39 => ⟨S4096x4x64, .f32⟩
  | 40 => ⟨S3x4096x4x64, .f32⟩
  | 41 => ⟨S3x4096x4x64, .f32⟩
  | 42 => ⟨S3x4096x4x64, .f32⟩
  | 43 => ⟨S3x4096x4x64, .f32⟩
  | 44 => ⟨S_, .f32⟩
  | 45 => ⟨S3x4096x4, .f32⟩
  | 46 => ⟨S3x4096x4x1, .f32⟩
  | 47 => ⟨S1x4096x4x64, .f32⟩
  | 48 => ⟨S4096x4x64, .f32⟩
  | 49 => ⟨S1x4096x4x64, .f32⟩
  | 50 => ⟨S4096x4x64, .f32⟩
  | 51 => ⟨S1x4096x4x64, .f32⟩
  | 52 => ⟨S4096x4x64, .f32⟩
  | 53 => ⟨S_, .f32⟩
  | 54 => ⟨S3x4096x4, .f32⟩
  | 55 => ⟨S3x4096x4, .f32⟩
  | 56 => ⟨S3x4096x4, .f32⟩
  | 57 => ⟨S3x4096x4, .f32⟩
  | 58 => ⟨S_, .f32⟩
  | 59 => ⟨S4096x4, .f32⟩
  | 60 => ⟨S1x4096x4, .f32⟩
  | 61 => ⟨S1x4096x4, .f32⟩
  | 62 => ⟨S3x4096x4, .f32⟩
  | 63 => ⟨S3x4096x4, .f32⟩
  | 64 => ⟨S_, .f32⟩
  | 65 => ⟨S4096x4, .f32⟩
  | 66 => ⟨S3x4096x4, .f32⟩
  | 67 => ⟨S3x4096x4, .f32⟩
  | 68 => ⟨S3x4096x4, .f32⟩
  | 69 => ⟨S1x4096x4, .f32⟩
  | 70 => ⟨S4096x4, .f32⟩
  | 71 => ⟨S1x4096x4, .f32⟩
  | 72 => ⟨S4096x4, .f32⟩
  | 73 => ⟨S1x4096x4, .f32⟩
  | 74 => ⟨S4096x4, .f32⟩
  | 75 => ⟨S32x128x4, .f32⟩
  | 76 => ⟨S32x4x128, .f32⟩
  | 77 => ⟨S32x128x4x64, .f32⟩
  | 78 => ⟨S32x4x128x64, .f32⟩
  | 79 => ⟨S32x4x128x64, .f32⟩
  | 80 => ⟨S32x4x128x64, .f32⟩
  | 81 => ⟨S32x4x128x64, .f32⟩
  | 82 => ⟨S_, .f32⟩
  | 83 => ⟨S32x4x128, .f32⟩
  | 84 => ⟨S32x4x128x1, .f32⟩
  | 85 => ⟨S32x4x128x1, .f32⟩
  | 86 => ⟨S32x4x128x64, .f32⟩
  | 87 => ⟨S32x4x128x64, .f32⟩
  | 88 => ⟨S32x4x64x256, .f32⟩
  | 89 => ⟨S32x256x4x64, .f32⟩
  | 90 => ⟨S32x4x128x256, .f32⟩
  | 91 => ⟨S32x4x128x1, .f32⟩
  | 92 => ⟨S32x4x128x1, .f32⟩
  | 93 => ⟨S32x4x128x1, .f32⟩
  | 94 => ⟨S_, .f32⟩
  | 95 => ⟨S32x4x128, .f32⟩
  | 96 => ⟨S32x4x128x256, .f32⟩
  | 97 => ⟨S32x4x128x256, .f32⟩
  | 98 => ⟨S32x4x128x256, .f32⟩
  | 99 => ⟨S32x4x128x256, .f32⟩
  | 100 => ⟨S_, .f32⟩
  | 101 => ⟨S32x4x128, .f32⟩
  | 102 => ⟨S32x4x128x1, .f32⟩
  | 103 => ⟨S32x4x128x1, .f32⟩
  | 104 => ⟨S_, .f32⟩
  | 105 => ⟨S32x4x128, .f32⟩
  | 106 => ⟨S32x4x128, .f32⟩
  | 107 => ⟨S32x4x128x256, .f32⟩
  | 108 => ⟨S32x4x128x256, .f32⟩
  | 109 => ⟨S32x4x128x256, .f32⟩
  | 110 => ⟨S_, .f32⟩
  | 111 => ⟨S32x4x128x256, .f32⟩
  | 112 => ⟨S32x4x128x256, .f32⟩
  | 113 => ⟨S_, .f32⟩
  | 114 => ⟨S32x4x128x256, .f32⟩
  | 115 => ⟨S32x4x128x256, .f32⟩
  | 116 => ⟨S32x4x256x64, .f32⟩
  | 117 => ⟨S32x256x4x64, .f32⟩
  | 118 => ⟨S32x4x128x64, .f32⟩
  | 119 => ⟨S32x128x4x64, .f32⟩
  | 120 => ⟨S32x128x4x64, .f32⟩
  | 121 => ⟨S32x128x4x64, .f32⟩
  | 122 => ⟨S1x128x4x64, .f32⟩
  | 123 => ⟨S31x128x4x64, .f32⟩
  | 124 => ⟨S_, .f32⟩
  | 125 => ⟨S32x128x4x64, .f32⟩
  | 126 => ⟨S32x128x4x64, .f32⟩
  | 127 => ⟨S4096x4x64, .f32⟩
  | _ => ⟨S4096x256, .bf16⟩

abbrev hbmTy0_2 (i : Nat) : BufTy := match i % 128 with
  | 0 => ⟨S32x128x4x64, .f32⟩
  | 1 => ⟨S32x128x4x64, .f32⟩
  | 2 => ⟨S1x128x4x64, .f32⟩
  | 3 => ⟨S31x128x4x64, .f32⟩
  | 4 => ⟨S_, .f32⟩
  | 5 => ⟨S32x128x4x64, .f32⟩
  | 6 => ⟨S32x128x4x64, .f32⟩
  | 7 => ⟨S4096x4x64, .f32⟩
  | 8 => ⟨S4096x4x64, .f32⟩
  | 9 => ⟨S4096x256, .f32⟩
  | 10 => ⟨S4096x256, .f32⟩
  | 11 => ⟨S4096x256, .f32⟩
  | 12 => ⟨S4096x128, .f32⟩
  | 13 => ⟨S4096x128, .f32⟩
  | 14 => ⟨S4096x128, .f32⟩
  | 15 => ⟨S4096x128, .f32⟩
  | 16 => ⟨S4096x128, .f32⟩
  | 17 => ⟨S4096x128, .f32⟩
  | _ => ⟨S4096x256, .bf16⟩

abbrev hbmTy (i : Nat) : BufTy := match i / 128 with
  | 0 => hbmTy0_0 i
  | 1 => hbmTy0_1 i
  | 2 => hbmTy0_2 i
  | _ => ⟨S4096x256, .bf16⟩

abbrev bufTy : (tb : Table) → Fin (tcTables nBuf tb) → BufTy
  | .hbm, ⟨i, _⟩ => hbmTy i
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_call0_v0 : Ref sig .tc := ⟨.hbm, 72, rfl⟩
abbrev main_v53_1 : Ref sig .tc := ⟨.hbm, 73, rfl⟩
abbrev main_call0_v2 : Ref sig .tc := ⟨.hbm, 74, rfl⟩
abbrev main_v53_0 : Ref sig .tc := ⟨.hbm, 75, rfl⟩
abbrev main_call0_cst : Ref sig .tc := ⟨.hbm, 76, rfl⟩
abbrev main_v53_2 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_13 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_cst_26 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_27 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_28 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_29 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_30 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_31 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_32 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_33 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_34 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_35 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_call1_cst : Ref sig .tc := ⟨.hbm, 238, rfl⟩
abbrev main_call1_v0 : Ref sig .tc := ⟨.hbm, 239, rfl⟩
abbrev main_v187 : Ref sig .tc := ⟨.hbm, 240, rfl⟩
abbrev main_cst_36 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_37 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_38 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩

abbrev nD : Nat := 1
abbrev τ : Topo := Topo.v7x

variable {F : FTy → Type} [FloatOps F]
-- ==== Kernel7.lean ====
abbrev S4096x1024 : Shape := ⟨2, ![4096, 1024]⟩
abbrev S4096x5120 : Shape := ⟨2, ![4096, 5120]⟩
abbrev S8x1024x640 : Shape := ⟨3, ![8, 1024, 640]⟩
abbrev S4096x1280 : Shape := ⟨2, ![4096, 1280]⟩
abbrev S2x1024x640 : Shape := ⟨3, ![2, 1024, 640]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S8x1024x640, .bf16⟩
  | .local _ .vmem, ⟨0, _⟩ => ⟨S4096x1024, .bf16⟩
  | .local _ .vmem, ⟨1, _⟩ => ⟨S4096x1280, .bf16⟩
  | .local _ .vmem, ⟨2, _⟩ => ⟨S4096x1280, .bf16⟩
  | .local _ .vmem, ⟨3, _⟩ => ⟨S2x1024x640, .bf16⟩
  | .local _ .vmem, ⟨4, _⟩ => ⟨S2x1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x5120 : Shape := ⟨2, ![4096, 5120]⟩
abbrev S_ : Shape := ⟨0, ![]⟩
abbrev S8x1024x640 : Shape := ⟨3, ![8, 1024, 640]⟩
abbrev S1024x8x640 : Shape := ⟨3, ![1024, 8, 640]⟩
abbrev S1024x5120 : Shape := ⟨2, ![1024, 5120]⟩
abbrev S5120x1024 : Shape := ⟨2, ![5120, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S_, .f32⟩
  | .hbm, ⟨3, _⟩ => ⟨S8x1024x640, .f32⟩
  | .hbm, ⟨4, _⟩ => ⟨S4096x1024, .f32⟩
  | .hbm, ⟨5, _⟩ => ⟨S1024x8x640, .f32⟩
  | .hbm, ⟨6, _⟩ => ⟨S1024x5120, .f32⟩
  | .hbm, ⟨7, _⟩ => ⟨S4096x5120, .f32⟩
  | .hbm, ⟨8, _⟩ => ⟨S4096x5120, .f32⟩
  | .hbm, ⟨9, _⟩ => ⟨S5120x1024, .f32⟩
  | .hbm, ⟨10, _⟩ => ⟨S1024x5120, .f32⟩
  | .hbm, ⟨11, _⟩ => ⟨S1024x8x640, .f32⟩
  | .hbm, ⟨12, _⟩ => ⟨S8x1024x640, .f32⟩
  | .hbm, ⟨13, _⟩ => ⟨S8x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S4096x5120 : Shape := ⟨2, ![4096, 5120]⟩
abbrev S8x1024x640 : Shape := ⟨3, ![8, 1024, 640]⟩
abbrev S4096x1024 : Shape := ⟨2, ![4096, 1024]⟩
abbrev S2048x1280 : Shape := ⟨2, ![2048, 1280]⟩
abbrev S2x1024x640 : Shape := ⟨3, ![2, 1024, 640]⟩
abbrev S2048x1024 : Shape := ⟨2, ![2048, 1024]⟩
abbrev S1x1024x640 : Shape := ⟨3, ![1, 1024, 640]⟩
abbrev S1024x640 : Shape := ⟨2, ![1024, 640]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S8x1024x640, .bf16⟩
  | .hbm, ⟨2, _⟩ => ⟨S4096x1024, .f32⟩
  | .local _ .vmem, ⟨0, _⟩ => ⟨S2048x1280, .bf16⟩
  | .local _ .vmem, ⟨1, _⟩ => ⟨S2048x1280, .bf16⟩
  | .local _ .vmem, ⟨2, _⟩ => ⟨S2x1024x640, .bf16⟩
  | .local _ .vmem, ⟨3, _⟩ => ⟨S2x1024x640, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x5120 : Shape := ⟨2, ![4096, 5120]⟩
abbrev S8x1024x640 : Shape := ⟨3, ![8, 1024, 640]⟩
abbrev S_ : Shape := ⟨0, ![]⟩
abbrev S4096x1024 : Shape := ⟨2, ![4096, 1024]⟩
abbrev S1024x8x640 : Shape := ⟨3, ![1024, 8, 640]⟩
abbrev S1024x5120 : Shape := ⟨2, ![1024, 5120]⟩

abbrev nBuf : Space → Nat
  | .hbm => 10
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S8x1024x640, .bf16⟩
  | .hbm, ⟨2, _⟩ => ⟨S_, .f32⟩
  | .hbm, ⟨3, _⟩ => ⟨S4096x1024, .f32⟩
  | .hbm, ⟨4, _⟩ => ⟨S8x1024x640, .f32⟩
  | .hbm, ⟨5, _⟩ => ⟨S1024x8x640, .f32⟩
  | .hbm, ⟨6, _⟩ => ⟨S1024x5120, .f32⟩
  | .hbm, ⟨7, _⟩ => ⟨S4096x5120, .f32⟩
  | .hbm, ⟨8, _⟩ => ⟨S4096x5120, .f32⟩
  | .hbm, ⟨9, _⟩ => ⟨S4096x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S8x1024x512 : Shape := ⟨3, ![8, 1024, 512]⟩
abbrev S1x4096 : Shape := ⟨2, ![1, 4096]⟩
abbrev S4096x4096 : Shape := ⟨2, ![4096, 4096]⟩
abbrev S2048x1024 : Shape := ⟨2, ![2048, 1024]⟩
abbrev S1x1024x512 : Shape := ⟨3, ![1, 1024, 512]⟩
abbrev S1x512 : Shape := ⟨2, ![1, 512]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1x4096, .f32⟩
  | .hbm, ⟨3, _⟩ => ⟨S4096x4096, .f32⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S4096x1024 : Shape := ⟨2, ![4096, 1024]⟩
abbrev S8x1024x512 : Shape := ⟨3, ![8, 1024, 512]⟩
abbrev S1x4096 : Shape := ⟨2, ![1, 4096]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1x4096, .f32⟩
  | .hbm, ⟨3, _⟩ => ⟨S4096x1024, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S4096x1024 : Shape := ⟨2, ![4096, 1024]⟩
abbrev S1024x4096 : Shape := ⟨2, ![1024, 4096]⟩
abbrev S1x4096 : Shape := ⟨2, ![1, 4096]⟩
abbrev S1x1024 : Shape := ⟨2, ![1, 1024]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S1024x4096 : Shape := ⟨2, ![1024, 4096]⟩
abbrev S1x4096 : Shape := ⟨2, ![1, 4096]⟩
abbrev S1x1024 : Shape := ⟨2, ![1, 1024]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel11.lean ====
abbrev S4096x768 : Shape := ⟨2, ![4096, 768]⟩
abbrev S4096x2048 : Shape := ⟨2, ![4096, 2048]⟩
abbrev S8x768x256 : Shape := ⟨3, ![8, 768, 256]⟩
abbrev S4096x256 : Shape := ⟨2, ![4096, 256]⟩
abbrev S1x768x256 : Shape := ⟨3, ![1, 768, 256]⟩
abbrev S768x256 : Shape := ⟨2, ![768, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S8x768x256, .bf16⟩
  | .local _ .vmem, ⟨0, _⟩ => ⟨S4096x768, .bf16⟩
  | .local _ .vmem, ⟨1, _⟩ => ⟨S4096x256, .bf16⟩
  | .local _ .vmem, ⟨2, _⟩ => ⟨S4096x256, .bf16⟩
  | .local _ .vmem, ⟨3, _⟩ => ⟨S1x768x256, .bf16⟩
  | .local _ .vmem, ⟨4, _⟩ => ⟨S1x768x256, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x768 : Shape := ⟨2, ![4096, 768]⟩
abbrev S4096x2048 : Shape := ⟨2, ![4096, 2048]⟩
abbrev S_ : Shape := ⟨0, ![]⟩
abbrev S8x768x256 : Shape := ⟨3, ![8, 768, 256]⟩
abbrev S768x8x256 : Shape := ⟨3, ![768, 8, 256]⟩
abbrev S768x2048 : Shape := ⟨2, ![768, 2048]⟩
abbrev S2048x768 : Shape := ⟨2, ![2048, 768]⟩

abbrev nBuf : Space → Nat
  | .hbm => 14
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S_, .f32⟩
  | .hbm, ⟨3, _⟩ => ⟨S8x768x256, .f32⟩
  | .hbm, ⟨4, _⟩ => ⟨S4096x768, .f32⟩
  | .hbm, ⟨5, _⟩ => ⟨S768x8x256, .f32⟩
  | .hbm, ⟨6, _⟩ => ⟨S768x2048, .f32⟩
  | .hbm, ⟨7, _⟩ => ⟨S4096x2048, .f32⟩
  | .hbm, ⟨8, _⟩ => ⟨S4096x2048, .f32⟩
  | .hbm, ⟨9, _⟩ => ⟨S2048x768, .f32⟩
  | .hbm, ⟨10, _⟩ => ⟨S768x2048, .f32⟩
  | .hbm, ⟨11, _⟩ => ⟨S768x8x256, .f32⟩
  | .hbm, ⟨12, _⟩ => ⟨S8x768x256, .f32⟩
  | .hbm, ⟨13, _⟩ => ⟨S8x768x256, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel12.lean ====
abbrev S4096x2048 : Shape := ⟨2, ![4096, 2048]⟩
abbrev S8x768x256 : Shape := ⟨3, ![8, 768, 256]⟩
abbrev S4096x768 : Shape := ⟨2, ![4096, 768]⟩
abbrev S2048x512 : Shape := ⟨2, ![2048, 512]⟩
abbrev S2x768x256 : Shape := ⟨3, ![2, 768, 256]⟩
abbrev S2048x768 : Shape := ⟨2, ![2048, 768]⟩
abbrev S1x768x256 : Shape := ⟨3, ![1, 768, 256]⟩
abbrev S768x256 : Shape := ⟨2, ![768, 256]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x768x256, .bf16⟩
  | .hbm, ⟨2, _⟩ => ⟨S4096x768, .f32⟩
  | .local _ .vmem, ⟨0, _⟩ => ⟨S2048x512, .bf16⟩
  | .local _ .vmem, ⟨1, _⟩ => ⟨S2048x512, .bf16⟩
  | .local _ .vmem, ⟨2, _⟩ => ⟨S2x768x256, .bf16⟩
  | .local _ .vmem, ⟨3, _⟩ => ⟨S2x768x256, .bf16⟩
  | .local _ .vmem, ⟨4, _⟩ => ⟨S2048x768, .f32⟩
  | .local _ .vmem, ⟨5, _⟩ => ⟨S2048x768, .f32⟩
  | .local _ .vmem, ⟨6, _⟩ => ⟨S2048x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S8x768x256 : Shape := ⟨3, ![8, 768, 256]⟩
abbrev S_ : Shape := ⟨0, ![]⟩
abbrev S4096x768 : Shape := ⟨2, ![4096, 768]⟩
abbrev S768x8x256 : Shape := ⟨3, ![768, 8, 256]⟩
abbrev S768x2048 : Shape := ⟨2, ![768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x768x256, .bf16⟩
  | .hbm, ⟨2, _⟩ => ⟨S_, .f32⟩
  | .hbm, ⟨3, _⟩ => ⟨S4096x768, .f32⟩
  | .hbm, ⟨4, _⟩ => ⟨S8x768x256, .f32⟩
  | .hbm, ⟨5, _⟩ => ⟨S768x8x256, .f32⟩
  | .hbm, ⟨6, _⟩ => ⟨S768x2048, .f32⟩
  | .hbm, ⟨7, _⟩ => ⟨S4096x2048, .f32⟩
  | .hbm, ⟨8, _⟩ => ⟨S4096x2048, .f32⟩
  | .hbm, ⟨9, _⟩ => ⟨S4096x768, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x768 : Shape := ⟨2, ![4096, 768]⟩
abbrev S8x768x256 : Shape := ⟨3, ![8, 768, 256]⟩
abbrev S1x2048 : Shape := ⟨2, ![1, 2048]⟩
abbrev S4096x2048 : Shape := ⟨2, ![4096, 2048]⟩
abbrev S2048x768 : Shape := ⟨2, ![2048, 768]⟩
abbrev S1x768x256 : Shape := ⟨3, ![1, 768, 256]⟩
abbrev S1x256 : Shape := ⟨2, ![1, 256]⟩
abbrev S2048x256 : Shape := ⟨2, ![2048, 256]⟩
abbrev S768x256 : Shape := ⟨2, ![768, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x768, .bf16⟩
  | .hbm, ⟨1, _⟩ => ⟨S8x768x256, .bf16⟩
  | .hbm, ⟨2, _⟩ => ⟨S1x2048, .f32⟩
  | .hbm, ⟨3, _⟩ => ⟨S4096x2048, .f32⟩
  | .local _ .vmem, ⟨0, _⟩ => ⟨S2048x768, .bf16⟩
  | .local _ .vmem, ⟨1, _⟩ => ⟨S2048x768, .bf16⟩
  | .local _ .vmem, ⟨2, _⟩ => ⟨S1x768x256, .bf16⟩
  | .local _ .vmem, ⟨3, _⟩ => ⟨S1x768x256, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x768 : Shape := ⟨2, ![4096, 768]⟩
abbrev S8x768x256 : Shape := ⟨3, ![8, 768, 256]⟩
abbrev S1x2048 : Shape := ⟨2, ![1, 2048]⟩
abbrev S768x8x256 : Shape := ⟨3, ![768, 8, 256]⟩
abbrev S768x2048 : Shape := ⟨2, ![768, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S8x768x256, .bf16⟩
  | .hbm, ⟨2, _⟩ => ⟨S1x2048, .f32⟩
  | .hbm, ⟨3, _⟩ => ⟨S4096x768, .f32⟩
  | .hbm, ⟨4, _⟩ => ⟨S8x768x256, .f32⟩
  | .hbm, ⟨5, _⟩ => ⟨S768x8x256, .f32⟩
  | .hbm, ⟨6, _⟩ => ⟨S768x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x256 : Shape := ⟨2, ![4096, 256]⟩
abbrev S4096x1024 : Shape := ⟨2, ![4096, 1024]⟩
abbrev S8x256x128 : Shape := ⟨3, ![8, 256, 128]⟩
abbrev S4096x128 : Shape := ⟨2, ![4096, 128]⟩
abbrev S1x256x128 : Shape := ⟨3, ![1, 256, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S8x256x128, .bf16⟩
  | .local _ .vmem, ⟨0, _⟩ => ⟨S4096x256, .f32⟩
  | .local _ .vmem, ⟨1, _⟩ => ⟨S4096x128, .bf16⟩
  | .local _ .vmem, ⟨2, _⟩ => ⟨S4096x128, .bf16⟩
  | .local _ .vmem, ⟨3, _⟩ => ⟨S1x256x128, .bf16⟩
  | .local _ .vmem, ⟨4, _⟩ => ⟨S1x256x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S4096x1024 : Shape := ⟨2, ![4096, 1024]⟩
abbrev S_ : Shape := ⟨0, ![]⟩
abbrev S8x256x128 : Shape := ⟨3, ![8, 256, 128]⟩
abbrev S256x8x128 : Shape := ⟨3, ![256, 8, 128]⟩
abbrev S256x1024 : Shape := ⟨2, ![256, 1024]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S8x256x128, .f32⟩
  | .hbm, ⟨4, _⟩ => ⟨S256x8x128, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S256x8x128, .f32⟩
  | .hbm, ⟨11, _⟩ => ⟨S8x256x128, .f32⟩
  | .hbm, ⟨12, _⟩ => ⟨S8x256x128, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel19.lean ====
abbrev S4096x1024 : Shape := ⟨2, ![4096, 1024]⟩
abbrev S8x256x128 : Shape := ⟨3, ![8, 256, 128]⟩
abbrev S4096x256 : Shape := ⟨2, ![4096, 256]⟩
abbrev S2048x256 : Shape := ⟨2, ![2048, 256]⟩
abbrev S2x256x128 : Shape := ⟨3, ![2, 256, 128]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x256x128, .bf16⟩
  | .hbm, ⟨2, _⟩ => ⟨S4096x256, .f32⟩
  | .local _ .vmem, ⟨0, _⟩ => ⟨S2048x256, .bf16⟩
  | .local _ .vmem, ⟨1, _⟩ => ⟨S2048x256, .bf16⟩
  | .local _ .vmem, ⟨2, _⟩ => ⟨S2x256x128, .bf16⟩
  | .local _ .vmem, ⟨3, _⟩ => ⟨S2x256x128, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S8x256x128 : Shape := ⟨3, ![8, 256, 128]⟩
abbrev S_ : Shape := ⟨0, ![]⟩
abbrev S4096x256 : Shape := ⟨2, ![4096, 256]⟩
abbrev S256x8x128 : Shape := ⟨3, ![256, 8, 128]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x256x128, .bf16⟩
  | .hbm, ⟨2, _⟩ => ⟨S_, .f32⟩
  | .hbm, ⟨3, _⟩ => ⟨S4096x256, .f32⟩
  | .hbm, ⟨4, _⟩ => ⟨S8x256x128, .f32⟩
  | .hbm, ⟨5, _⟩ => ⟨S256x8x128, .f32⟩
  | .hbm, ⟨6, _⟩ => ⟨S256x1024, .f32⟩
  | .hbm, ⟨7, _⟩ => ⟨S4096x1024, .f32⟩
  | .hbm, ⟨8, _⟩ => ⟨S4096x1024, .f32⟩
  | .hbm, ⟨9, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x256 : Shape := ⟨2, ![4096, 256]⟩
abbrev S8x256x128 : Shape := ⟨3, ![8, 256, 128]⟩
abbrev S4096x1024 : Shape := ⟨2, ![4096, 1024]⟩
abbrev S2048x256 : Shape := ⟨2, ![2048, 256]⟩
abbrev S1x256x128 : Shape := ⟨3, ![1, 256, 128]⟩
abbrev S2048x128 : Shape := ⟨2, ![2048, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S8x256x128, .bf16⟩
  | .hbm, ⟨2, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S1x256x128, .bf16⟩
  | .local _ .vmem, ⟨3, _⟩ => ⟨S1x256x128, .bf16⟩
  | .local _ .vmem, ⟨4, _⟩ => ⟨S2048x128, .f32⟩
  | .local _ .vmem, ⟨5, _⟩ => ⟨S2048x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S8x256x128 : Shape := ⟨3, ![8, 256, 128]⟩
abbrev S256x8x128 : Shape := ⟨3, ![256, 8, 128]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8x256x128, .bf16⟩
  | .hbm, ⟨2, _⟩ => ⟨S8x256x128, .f32⟩
  | .hbm, ⟨3, _⟩ => ⟨S256x8x128, .f32⟩
  | .hbm, ⟨4, _⟩ => ⟨S256x1024, .f32⟩
  | .hbm, ⟨5, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S8x1024x256, .bf16⟩
  | .local _ .vmem, ⟨0, _⟩ => ⟨S256x1024, .f32⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x1024 : Shape := ⟨2, ![256, 1024]⟩
abbrev S256x2048 : Shape := ⟨2, ![256, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S8x1024x256, .bf16⟩
  | .hbm, ⟨2, _⟩ => ⟨S256x2048, .bf16⟩
  | .local _ .vmem, ⟨0, _⟩ => ⟨S256x1024, .f32⟩
  | .local _ .vmem, ⟨1, _⟩ => ⟨S1x1024x256, .bf16⟩
  | .local _ .vmem, ⟨2, _⟩ => ⟨S1x1024x256, .bf16⟩
  | .local _ .vmem, ⟨3, _⟩ => ⟨S256x256, .bf16⟩
  | .local _ .vmem, ⟨4, _⟩ => ⟨S256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S256x2048, .f32⟩
  | .hbm, ⟨6, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Softmax.lean ====
/- The derivative of a softmax row, over the extended reals. -/
module

public import Idealize.ShloMosaic.PureOps.Ideal

@[expose] public section

noncomputable section

namespace Cert.K

open Idealize.ShloMosaic

variable {n : ℕ}

/-- The largest entry of a row. -/
def top (s : Fin n → EReal) : EReal := Finset.univ.fold max ⊥ s
/-- A row's exponentials, relative to its largest entry. -/
def ex (s : Fin n → EReal) (j : Fin n) : EReal := Ideal.exp (s j - top s)
/-- The sum of a row's exponentials. -/
def den (s : Fin n → EReal) : EReal := ∑ j, ex s j
/-- The softmax of a row. -/
def prob (s : Fin n → EReal) (j : Fin n) : EReal := Ideal.div (ex s j) (den s)
/-- The derivative through the softmax, given the row's probabilities `p` and their cotangents `t`. -/
def dsOf (p t : Fin n → EReal) (j : Fin n) : EReal := p j * (t j - ∑ i, t i * p i)
/-- The same derivative, as the chain rule through the quotient and the exponential writes it. -/
def dsChain (s t : Fin n → EReal) (j : Fin n) : EReal :=
  (Ideal.div (t j) (den s) + -(∑ i, t i * Ideal.div 1 (den s * den s) * ex s i)) * ex s j

/-- The largest entry of a nonempty row of reals is a real. -/
theorem top_real [NeZero n] (s : Fin n → ℝ) : ∃ r : ℝ, top (fun j => (s j : EReal)) = r := by
  have hb : top (fun j => (s j : EReal)) ≠ ⊥ := by
    have : (s 0 : EReal) ≤ top (fun j => (s j : EReal)) := by
      unfold top; rw [Finset.le_fold_max]; exact Or.inr ⟨0, Finset.mem_univ _, le_rfl⟩
    intro h; rw [h] at this; exact EReal.coe_ne_bot _ (le_bot_iff.1 this)
  have ht : top (fun j => (s j : EReal)) ≠ ⊤ := by
    have : top (fun j => (s j : EReal)) < ⊤ := by
      unfold top; rw [Finset.fold_max_lt]; exact ⟨bot_lt_top, fun j _ => EReal.coe_lt_top _⟩
    exact this.ne
  exact ⟨_, (EReal.coe_toReal ht hb).symm⟩

/-- The exponentials of a nonempty row of reals are positive reals. -/
theorem ex_real [NeZero n] (s : Fin n → ℝ) :
    ∃ E : Fin n → ℝ, (∀ j, 0 < E j) ∧ ∀ j, ex (fun j => (s j : EReal)) j = E j := by
  obtain ⟨r, hr⟩ := top_real s
  exact ⟨fun j => Real.exp (s j - r), fun j => Real.exp_pos _, fun j => by
    rw [ex, hr, ← EReal.coe_sub]; rfl⟩

theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor goes through a finite sum of extended reals. -/
theorem mul_sum_real {ι : Type*} (S : Finset ι) (a : ℝ) (ha : 0 ≤ a) (f : ι → EReal) :
    (a : EReal) * ∑ j ∈ S, f j = ∑ j ∈ S, (a : EReal) * f j := by
  classical
  induction S using Finset.induction_on with
  | empty => simp
  | insert i S hi ih =>
    rw [Finset.sum_insert hi, Finset.sum_insert hi,
      EReal.left_distrib_of_nonneg_of_ne_top (by exact_mod_cast ha) (EReal.coe_ne_top _), ih]

/-- What a row of reals gives: positive exponentials and a positive sum. -/
theorem row_real [NeZero n] (s : Fin n → ℝ) : ∃ (E : Fin n → ℝ) (d : ℝ), (∀ j, 0 < E j) ∧ 0 < d ∧
    (∀ j, ex (fun j => (s j : EReal)) j = E j) ∧ den (fun j => (s j : EReal)) = d ∧ d = ∑ j, E j := by
  obtain ⟨E, hE, he⟩ := ex_real s
  refine ⟨E, ∑ j, E j, hE, Finset.sum_pos (fun j _ => hE j) ⟨0, Finset.mem_univ _⟩, he, ?_, rfl⟩
  rw [den, coe_sum]; exact Finset.sum_congr rfl fun j _ => he j

/-- The two forms of the softmax's derivative agree on a row of real scores, at any cotangent. -/
theorem dsChain_eq [NeZero n] (s t : Fin n → EReal) (hs : ∀ j, ∃ r : ℝ, s j = r) (j : Fin n) :
    dsChain s t j = dsOf (prob s) t j := by
  choose r hr using hs
  obtain rfl : s = fun j => (r j : EReal) := funext hr
  obtain ⟨E, d, hE, hd, he, hden, -⟩ := row_real r
  have hp : ∀ i, prob (fun j => (r j : EReal)) i = ((E i / d : ℝ) : EReal) := fun i => by
    rw [prob, he, hden, Ideal.div_coe hd.ne', ← EReal.coe_mul, mul_one_div]
  unfold dsChain dsOf
  rw [hden, he, hp, Ideal.div_coe hd.ne', ← EReal.coe_mul, Ideal.div_coe (mul_pos hd hd).ne', one_mul, sub_eq_add_neg,
    EReal.left_distrib_of_nonneg_of_ne_top (by exact_mod_cast (div_pos (hE j) hd).le) (EReal.coe_ne_top _),
    EReal.right_distrib_of_nonneg_of_ne_top (by exact_mod_cast (hE j).le) (EReal.coe_ne_top _)]
  congr 1
  · rw [mul_assoc, ← EReal.coe_mul, mul_comm]; congr 2; field_simp
  · rw [neg_mul, mul_neg, neg_inj, mul_comm, mul_sum_real _ _ (hE j).le, mul_sum_real _ _ (div_pos (hE j) hd).le]
    refine Finset.sum_congr rfl fun i _ => ?_
    rw [he, hp, mul_left_comm ((E j / d : ℝ) : EReal) (t i), ← EReal.coe_mul, mul_assoc (t i), ← EReal.coe_mul,
      mul_left_comm (E j : EReal) (t i), ← EReal.coe_mul]
    congr 2; field_simp

end Cert.K

end
-- ==== Proof.Spec.lean ====
/- The gradient of the cross attention, one entry at a time. -/
module

public import proofs.«01_k».proof.Proof.Softmax
public import Idealize.ShloMosaic.Lib.Pointwise

@[expose] public section

noncomputable section

namespace Cert.K

open Idealize.ShloMosaic Idealize.ShloMosaic.TcCoe

/-- The keys beside the values: 256 slots of memory. -/
abbrev Mem : Type := (⟨2, ![256, 2048]⟩ : Shape).Idx → EReal

/-- The scale of the scores. -/
def sc : EReal := Ideal.ofBits .f32 0x3D800000#32

/-- The word of minus infinity. -/
theorem ninf : Ideal.ofBits .f32 0xFF800000#32 = ⊥ := by simp [Ideal.ofBits, Ideal.ieee]

/-- Head `h`'s scores of a row `x` against the slots' keys. -/
def sRow (x : Fin 1024 → EReal) (kv : Mem) (h : Fin 4) (j : Fin 256) : EReal :=
  (∑ d : Fin 256, x ⟨h.val * 256 + d.val, by omega⟩ * kv (ix2 j ⟨h.val * 256 + d.val, by omega⟩)) * sc

/-- The cotangents of head `h`'s probabilities of a row whose output has cotangent `y`. -/
def tRow (y : Fin 1024 → EReal) (kv : Mem) (h : Fin 4) (j : Fin 256) : EReal :=
  ∑ d : Fin 256, y ⟨h.val * 256 + d.val, by omega⟩ * kv (ix2 j ⟨1024 + (h.val * 256 + d.val), by omega⟩)

/-- The cotangents of head `h`'s unscaled scores of a row. -/
def dsRow (x y : Fin 1024 → EReal) (kv : Mem) (h : Fin 4) (j : Fin 256) : EReal :=
  dsOf (prob (sRow x kv h)) (tRow y kv h) j * sc

/-- The gradient of a row, at column `c`. -/
def dqAt (x y : Fin 1024 → EReal) (kv : Mem) (c : Fin 1024) : EReal :=
  ∑ j : Fin 256, dsRow x y kv ⟨c.val / 256, by omega⟩ j * kv (ix2 j ⟨c.val, by omega⟩)

/-- One row's part of the gradient of the keys and values: the keys' columns first, then the values'. -/
def dkvAt (x y : Fin 1024 → EReal) (kv : Mem) (j : Fin 256) (c : Fin 2048) : EReal :=
  if hc : c.val < 1024 then dsRow x y kv ⟨c.val / 256, by omega⟩ j * x ⟨c.val, hc⟩
  else prob (sRow x kv ⟨(c.val - 1024) / 256, by omega⟩) j * y ⟨c.val - 1024, by omega⟩

end Cert.K

end
-- ==== Proof.Blk.lean ====
/- What one grid point computes of each head: probabilities, the cotangents of the scores, and the three products. -/
module

public import proofs.«01_k».proof.Proof.Gen.KernelIdeal.Value
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Blk

open Idealize.ShloMosaic Idealize.ShloMosaic.TcCoe Idealize.SL.Sem
open Cert.K Cert.KernelIdeal Cert.KernelIdeal.Gen

/-- One head's columns of a block of 512 rows. -/
abbrev RB : Type := FVec Ideal S512x256 .bf16
/-- One head's keys, or values. -/
abbrev MB : Type := FVec Ideal S256x256 .bf16

/-- The scores of a row of the block against the slots. -/
def sB (q : RB) (k : MB) (r : Fin 512) (j : Fin 256) : EReal := (∑ d : Fin 256, q (ix2 r d) * k (ix2 j d)) * sc

/-- The probabilities the point computes, at an entry. -/
theorem p_at (q : RB) (k : MB) (r : Fin 512) (j : Fin 256) : k0_pay7 (F := Ideal) q k (ix2 r j) = prob (sB q k r) j := by
  pointwise [k0_pay7]
  rw [ninf]; rfl

/-- The cotangents of the unscaled scores the point computes, at an entry. -/
theorem ds_at (q : RB) (k : MB) (y : RB) (v : MB) (r : Fin 512) (j : Fin 256) : k0_pay8 (F := Ideal) q k y v (ix2 r j)
    = dsOf (prob (sB q k r)) (fun i => ∑ d : Fin 256, y (ix2 r d) * v (ix2 i d)) j * sc := by
  pointwise [k0_pay8, p_at]
  rfl

/-- The gradient of the rows the point stores for a head. -/
theorem dq_at (q : RB) (k : MB) (y : RB) (v : MB) (r : Fin 512) (d : Fin 256) : k0_pay9 (F := Ideal) q k y v (ix2 r d)
    = ∑ j : Fin 256, k0_pay8 (F := Ideal) q k y v (ix2 r j) * k (ix2 j d) := by
  pointwise [k0_pay9]

/-- What the point adds to the gradient of a head's keys. -/
theorem dk_at (q : RB) (t : FVec Ideal S512x256 .bf16) (a : FVec Ideal S256x256 .f32) (j d : Fin 256) :
    k0_pay12 (F := Ideal) q a t (ix2 j d) = a (ix2 j d) + ∑ r : Fin 512, t (ix2 r j) * q (ix2 r d) := by
  pointwise [k0_pay12]

/-- What the point adds to the gradient of a head's values. -/
theorem dv_at (y : RB) (p : FVec Ideal S512x256 .f32) (a : FVec Ideal S256x256 .f32) (j d : Fin 256) :
    k0_pay13 (F := Ideal) y p a (ix2 j d) = a (ix2 j d) + ∑ r : Fin 512, p (ix2 r j) * y (ix2 r d) := by
  pointwise [k0_pay13]

/-- What the point leaves of the gradient of a head's keys. -/
def dkSt (q : RB) (k : MB) (y : RB) (v : MB) (a : FVec Ideal S256x256 .f32) : FVec Ideal S256x256 .f32 :=
  k0_pay12 q (k0_pay10 a) (k0_pay11 q k y v)

/-- What the point leaves of the gradient of a head's values. -/
def dvSt (q : RB) (k : MB) (y : RB) (a : FVec Ideal S256x256 .f32) : FVec Ideal S256x256 .f32 := k0_pay13 y (k0_pay7 q k) a

/-! The four heads compute the same. -/

section
variable (q : RB) (k : MB) (y : RB) (v : MB) (a : FVec Ideal S256x256 .f32)

theorem dq1 : k0_pay17 (F := Ideal) k (k0_pay16 q k y v) = k0_pay9 (F := Ideal) q k y v := rfl
theorem dq2 : k0_pay22 (F := Ideal) k y (k0_pay20 q k) v (constant S512x256 .f32 0x00000000#32) = k0_pay9 (F := Ideal) q k y v := rfl
theorem dq3 : k0_pay3 (F := Ideal) k y (k0_pay25 q k) (k0_pay26 q k) v = k0_pay9 (F := Ideal) q k y v := rfl
theorem dk1 : k0_pay18 (F := Ideal) q (k0_pay15 q k y v) a = dkSt q k y v a := rfl
theorem dk2 : k0_pay23 (F := Ideal) q y (k0_pay20 q k) v (constant S512x256 .f32 0x00000000#32) a = dkSt q k y v a := rfl
theorem dk3 : k0_pay4 (F := Ideal) q y (k0_pay25 q k) (k0_pay26 q k) v a = dkSt q k y v a := rfl
theorem dv1 : k0_pay19 (F := Ideal) y (k0_pay14 q k) a = dvSt q k y a := rfl
theorem dv2 : k0_pay24 (F := Ideal) y (k0_pay20 q k) a = dvSt q k y a := rfl
theorem dv3 : k0_pay5 (F := Ideal) y (k0_pay25 q k) (k0_pay26 q k) a = dvSt q k y a := rfl

end

/-- A block of 512 rows. -/
abbrev Blk512 : Type := FVec Ideal S512x1024 .bf16
/-- A row of the block. -/
def row (Q : Blk512) (r : Fin 512) : Fin 1024 → EReal := fun c => Q (ix2 r c)

/-- `q`, `k`, `y`, `v` are head `h`'s columns of the block, of the keys, of the cotangents and of the values. -/
structure Head (Q Y : Blk512) (KV : Mem) (h : Fin 4) (q : RB) (k : MB) (y : RB) (v : MB) : Prop where
  hq : ∀ (r : Fin 512) (d : Fin 256), q (ix2 r d) = Q (ix2 r ⟨h.val * 256 + d.val, by omega⟩)
  hk : ∀ (j d : Fin 256), k (ix2 j d) = KV (ix2 j ⟨h.val * 256 + d.val, by omega⟩)
  hy : ∀ (r : Fin 512) (d : Fin 256), y (ix2 r d) = Y (ix2 r ⟨h.val * 256 + d.val, by omega⟩)
  hv : ∀ (j d : Fin 256), v (ix2 j d) = KV (ix2 j ⟨1024 + (h.val * 256 + d.val), by omega⟩)

namespace Head
variable {Q Y : Blk512} {KV : Mem} {h : Fin 4} {q : RB} {k : MB} {y : RB} {v : MB} (H : Head Q Y KV h q k y v)
include H

theorem sB_eq (r : Fin 512) : sB q k r = sRow (row Q r) KV h := by
  funext j; unfold sB sRow row; simp only [H.hq, H.hk]

theorem p_eq (r : Fin 512) (j : Fin 256) : k0_pay7 (F := Ideal) q k (ix2 r j) = prob (sRow (row Q r) KV h) j := by
  rw [p_at, H.sB_eq]

theorem ds_eq (r : Fin 512) (j : Fin 256) : k0_pay8 (F := Ideal) q k y v (ix2 r j) = dsRow (row Q r) (row Y r) KV h j := by
  rw [ds_at, H.sB_eq, dsRow]
  have : (fun i => ∑ d : Fin 256, y (ix2 r d) * v (ix2 i d)) = tRow (row Y r) KV h := by
    funext i; unfold tRow row; simp only [H.hy, H.hv]
  rw [this]

/-- The gradient of the rows stored for the head. -/
theorem dq_eq (r : Fin 512) (d : Fin 256) (c : Fin 1024) (hc : c.val = h.val * 256 + d.val) :
    k0_pay9 (F := Ideal) q k y v (ix2 r d) = dqAt (row Q r) (row Y r) KV c := by
  have e : (⟨c.val / 256, by omega⟩ : Fin 4) = h := Fin.ext (by simp only [hc]; omega)
  rw [dq_at, dqAt, e]
  refine Finset.sum_congr rfl fun j _ => ?_
  rw [H.ds_eq, H.hk]
  simp only [hc]

/-- The same at an index of the head's columns. -/
theorem dq_tile (i : S512x256.Idx) (J : S512x1024.Idx) (h0 : (J 0).val = (i 0).val) (h1 : (J 1).val = h.val * 256 + (i 1).val) :
    k0_pay9 (F := Ideal) q k y v i = dqAt (row Q (J 0)) (row Y (J 0)) KV (J 1) := by
  have e : (J 0 : Fin 512) = (i 0 : Fin 512) := Fin.ext h0
  rw [e, ← H.dq_eq (i 0) (i 1) (J 1) h1]
  exact congrArg _ (by funext b; fin_cases b <;> rfl)

/-- The gradient of the head's keys the point leaves. -/
theorem dk_eq (a : FVec Ideal S256x256 .f32) (j d : Fin 256) (c : Fin 2048) (hc : c.val = h.val * 256 + d.val) :
    dkSt q k y v a (ix2 j d) = a (ix2 j d) + ∑ r : Fin 512, dkvAt (row Q r) (row Y r) KV j c := by
  have hc' : c.val < 1024 := by omega
  have e : (⟨c.val / 256, by omega⟩ : Fin 4) = h := Fin.ext (by simp only [hc]; omega)
  have ha : k0_pay10 a = a := by funext i; pointwise [k0_pay10]
  rw [dkSt, dk_at, ha]
  refine congrArg (_ + ·) (Finset.sum_congr rfl fun r _ => ?_)
  rw [dkvAt, dif_pos hc', e, ← H.ds_eq, H.hq]
  simp only [row, hc]
  rfl

/-- The gradient of the head's values the point leaves. -/
theorem dv_eq (a : FVec Ideal S256x256 .f32) (j d : Fin 256) (c : Fin 2048) (hc : c.val = 1024 + (h.val * 256 + d.val)) :
    dvSt q k y a (ix2 j d) = a (ix2 j d) + ∑ r : Fin 512, dkvAt (row Q r) (row Y r) KV j c := by
  have hc' : ¬ c.val < 1024 := by omega
  have e : (⟨(c.val - 1024) / 256, by omega⟩ : Fin 4) = h := Fin.ext (by simp only [hc]; omega)
  rw [dvSt, dv_at]
  refine congrArg (_ + ·) (Finset.sum_congr rfl fun r _ => ?_)
  rw [dkvAt, dif_neg hc', e, H.p_eq, H.hy]
  simp only [row, hc, Nat.add_sub_cancel_left]

/-- The same at an index of the head's columns. -/
theorem dk_tile (a : FVec Ideal S256x256 .f32) (i : S256x256.Idx) (J : S256x2048.Idx) (h0 : (J 0).val = (i 0).val)
    (h1 : (J 1).val = h.val * 256 + (i 1).val) (b : EReal) (hb : a i = b) :
    dkSt q k y v a i = b + ∑ r : Fin 512, dkvAt (row Q r) (row Y r) KV (J 0) (J 1) := by
  have e : (J 0 : Fin 256) = (i 0 : Fin 256) := Fin.ext h0
  have ei : i = ix2 (i 0) (i 1) := by funext b; fin_cases b <;> rfl
  rw [e, ← hb, ei]
  exact H.dk_eq a (i 0) (i 1) (J 1) h1

/-- The same at an index of the head's columns. -/
theorem dv_tile (a : FVec Ideal S256x256 .f32) (i : S256x256.Idx) (J : S256x2048.Idx) (h0 : (J 0).val = (i 0).val)
    (h1 : (J 1).val = 1024 + (h.val * 256 + (i 1).val)) (b : EReal) (hb : a i = b) :
    dvSt q k y a i = b + ∑ r : Fin 512, dkvAt (row Q r) (row Y r) KV (J 0) (J 1) := by
  have e : (J 0 : Fin 256) = (i 0 : Fin 256) := Fin.ext h0
  have ei : i = ix2 (i 0) (i 1) := by funext b; fin_cases b <;> rfl
  rw [e, ← hb, ei]
  exact H.dv_eq a (i 0) (i 1) (J 1) h1

end Head

/-- The values' part of a head needs only its rows, keys and cotangents. -/
theorem dv_tile_of {Q Y : Blk512} {KV : Mem} {h : Fin 4} {q : RB} {k : MB} {y : RB}
    (H : Head Q Y KV h q k y fun i => KV (ix2 (i 0) ⟨1024 + (h.val * 256 + (i 1).val), by have : (i 1).val < 256 := (i 1).isLt; omega⟩))
    (a : FVec Ideal S256x256 .f32) (i : S256x256.Idx) (J : S256x2048.Idx) (h0 : (J 0).val = (i 0).val)
    (h1 : (J 1).val = 1024 + (h.val * 256 + (i 1).val)) (b : EReal) (hb : a i = b) :
    dvSt q k y a i = b + ∑ r : Fin 512, dkvAt (row Q r) (row Y r) KV (J 0) (J 1) :=
  H.dv_tile a i J h0 h1 b hb

end Cert.KernelIdeal.Blk

end
-- ==== Proof.ArrDq.lean ====
/- The gradient of the rows the launch leaves. -/
module

public import proofs.«01_k».proof.Proof.Blk

@[expose] public section

set_option maxRecDepth 16384

noncomputable section

namespace Cert.KernelIdeal.Blk

open Idealize.ShloMosaic Idealize.ShloMosaic.TcCoe Idealize.SL.Sem
open Cert.K Cert.KernelIdeal Cert.KernelIdeal.Gen

variable (m : (ℓ : Loc nD τ sig) → Buf (Elt Ideal) ℓ)

/-- The rows, the keys beside the values, and the cotangents. -/
abbrev qA (c : Dev nD) : FVec Ideal S4096x1024 .bf16 := m ((c.tc : Thread nD τ).loc main_arg0)
abbrev kvA (c : Dev nD) : FVec Ideal S256x2048 .bf16 := m ((c.tc : Thread nD τ).loc main_arg1)
abbrev yA (c : Dev nD) : FVec Ideal S4096x1024 .bf16 := m ((c.tc : Thread nD τ).loc main_arg2)
/-- A row of an array of rows. -/
def rowA (q : FVec Ideal S4096x1024 .bf16) (r : Fin 4096) : Fin 1024 → EReal := fun c => q (ix2 r c)

/-- The blocks a grid point names. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem lt8 (t : Fin cfg0.N) : t.val < 8 := t.isLt

theorem q_blk (c : Dev nD) (t : Fin cfg0.N) (r : Fin 512) (x : Fin 1024) :
    iblk m c 0 t (ix2 r x) = qA m c (ix2 ⟨512 * t.val + r.val, by have := lt8 t; omega⟩ x) := by
  blk_point [iblk, V, idx t]

theorem y_blk (c : Dev nD) (t : Fin cfg0.N) (r : Fin 512) (x : Fin 1024) :
    iblk m c 2 t (ix2 r x) = yA m c (ix2 ⟨512 * t.val + r.val, by have := lt8 t; omega⟩ x) := by
  blk_point [iblk, V, idx t]

theorem kv_blk (c : Dev nD) (t : Fin cfg0.N) : (iblk m c 1 t : Mem) = kvA m c := by
  funext i
  idx_vars i
  blk_point [iblk, V, idx t]

/-- The block of the rows' gradient that point `t` leaves, at the first point. -/
theorem dqA (c : Dev nD) (t : Fin cfg0.N) (h : t.val % 8 = 0) (i : S512x1024.Idx) :
    (outsAt0 m c t.val t.isLt).1 i = dqAt (row (iblk m c 0 t) (i 0)) (row (iblk m c 2 t) (i 0)) (iblk m c 1 t) (i 1) := by
  rw [outsAt0_A m c t h]
  frame_out
  canon_tiles i h
  case piece0 =>
    refine (congrFun (dq3 _ _ _ _) _).trans (Head.dq_tile (Q := iblk m c 0 t) (Y := iblk m c 2 t) (KV := iblk m c 1 t) (h := 3) ⟨?_, ?_, ?_, ?_⟩ _ _ h0 h1)
    all_goals intro r d; pointwise
    simp only [← Nat.add_assoc, Nat.reduceAdd]
  case piece1 =>
    refine (congrFun (dq2 _ _ _ _) _).trans (Head.dq_tile (Q := iblk m c 0 t) (Y := iblk m c 2 t) (KV := iblk m c 1 t) (h := 2) ⟨?_, ?_, ?_, ?_⟩ _ _ h0 h1)
    all_goals intro r d; pointwise
    simp only [← Nat.add_assoc, Nat.reduceAdd]
  case piece2 =>
    refine (congrFun (dq1 _ _ _ _) _).trans (Head.dq_tile (Q := iblk m c 0 t) (Y := iblk m c 2 t) (KV := iblk m c 1 t) (h := 1) ⟨?_, ?_, ?_, ?_⟩ _ _ h0 h1)
    all_goals intro r d; pointwise
    simp only [← Nat.add_assoc, Nat.reduceAdd]
  case piece3 =>
    refine (Head.dq_tile (Q := iblk m c 0 t) (Y := iblk m c 2 t) (KV := iblk m c 1 t) (h := 0) ⟨?_, ?_, ?_, ?_⟩ _ _ h0 (h1.trans (by simp)))
    all_goals intro r d; pointwise

/-- The block of the rows' gradient that point `t` leaves, at the later points. -/
theorem dqB (c : Dev nD) (t : Fin cfg0.N) (h : ¬t.val % 8 = 0) (i : S512x1024.Idx) :
    (outsAt0 m c t.val t.isLt).1 i = dqAt (row (iblk m c 0 t) (i 0)) (row (iblk m c 2 t) (i 0)) (iblk m c 1 t) (i 1) := by
  rw [outsAt0_B m c t h]
  frame_out
  canon_tiles i h
  case piece0 =>
    refine (congrFun (dq3 _ _ _ _) _).trans (Head.dq_tile (Q := iblk m c 0 t) (Y := iblk m c 2 t) (KV := iblk m c 1 t) (h := 3) ⟨?_, ?_, ?_, ?_⟩ _ _ h0 h1)
    all_goals intro r d; pointwise
    simp only [← Nat.add_assoc, Nat.reduceAdd]
  case piece1 =>
    refine (congrFun (dq2 _ _ _ _) _).trans (Head.dq_tile (Q := iblk m c 0 t) (Y := iblk m c 2 t) (KV := iblk m c 1 t) (h := 2) ⟨?_, ?_, ?_, ?_⟩ _ _ h0 h1)
    all_goals intro r d; pointwise
    simp only [← Nat.add_assoc, Nat.reduceAdd]
  case piece2 =>
    refine (congrFun (dq1 _ _ _ _) _).trans (Head.dq_tile (Q := iblk m c 0 t) (Y := iblk m c 2 t) (KV := iblk m c 1 t) (h := 1) ⟨?_, ?_, ?_, ?_⟩ _ _ h0 h1)
    all_goals intro r d; pointwise
    simp only [← Nat.add_assoc, Nat.reduceAdd]
  case piece3 =>
    refine (Head.dq_tile (Q := iblk m c 0 t) (Y := iblk m c 2 t) (KV := iblk m c 1 t) (h := 0) ⟨?_, ?_, ?_, ?_⟩ _ _ h0 (h1.trans (by simp)))
    all_goals intro r d; pointwise

/-- The gradient of the rows after the launch. -/
theorem arr_dq (c : Dev nD) : (dats m 0 c).arrAt 3 cfg0.N
    = fun i : S4096x1024.Idx => dqAt (rowA (qA m c) (i 0)) (rowA (yA m c) (i 0)) (kvA m c) (i 1) := by
  refine (dats m 0 c).arrAt_eq_of_covers 3 _ (by decide +kernel) fun t hf y => ?_
  blk_simp
  rw [after0_3]
  have e : (outsAt0 m c t.val t.isLt).1 y
      = dqAt (row (iblk m c 0 t) (y 0)) (row (iblk m c 2 t) (y 0)) (iblk m c 1 t) (y 1) := by
    by_cases h : t.val % 8 = 0
    · exact dqA m c t h y
    · exact dqB m c t h y
  refine e.trans ?_
  have y0 : (y 0).val < 512 := (y 0).isLt
  have h0 : (⟨512 * t.val + (y 0).val, by have := lt8 t; omega⟩ : Fin 4096) = (win0_3.blk t).view.emb y 0 := by
    apply Fin.ext
    blk_simp [idx t]
    show 512 * t.val + (y 0).val = t.val * 512 + (y 0).val
    omega
  have h1 : (y 1 : Fin 1024) = (win0_3.blk t).view.emb y 1 := by
    apply Fin.ext
    blk_simp [idx t]
  have hq : row (iblk m c 0 t) (y 0) = rowA (qA m c) ((win0_3.blk t).view.emb y 0) := by
    rw [← h0]
    exact funext fun x => q_blk m c t (y 0) x
  have hy : row (iblk m c 2 t) (y 0) = rowA (yA m c) ((win0_3.blk t).view.emb y 0) := by
    rw [← h0]
    exact funext fun x => y_blk m c t (y 0) x
  rw [hq, hy, ← h1, kv_blk]

end Cert.KernelIdeal.Blk

end
-- ==== Proof.ArrDkv.lean ====
/- The gradient of the keys and values the launch leaves. -/
module

public import proofs.«01_k».proof.Proof.ArrDq

@[expose] public section

set_option maxRecDepth 16384

noncomputable section

namespace Cert.KernelIdeal.Blk

open Idealize.ShloMosaic Idealize.ShloMosaic.TcCoe Idealize.SL.Sem
open Cert.K Cert.KernelIdeal Cert.KernelIdeal.Gen

variable (m : (ℓ : Loc nD τ sig) → Buf (Elt Ideal) ℓ)

/-- What the first point leaves of the gradient of the keys and values. -/
theorem dkvA (c : Dev nD) (t : Fin cfg0.N) (h : t.val % 8 = 0) (i : S256x2048.Idx) :
    (outsAt0 m c t.val t.isLt).2 i = 0 + ∑ r : Fin 512, dkvAt (row (iblk m c 0 t) r) (row (iblk m c 2 t) r) (iblk m c 1 t) (i 0) (i 1) := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (s := S256x2048) (fun i : S256x2048.Idx => 0 + ∑ r : Fin 512, dkvAt (row (iblk m c 0 t) r) (row (iblk m c 2 t) r) (iblk m c 1 t) (i 0) (i 1)) [_]
    [_, _, _, _, _, _, _, _] ⟨fun x => ?_, fun x => ?_, fun x => ?_, fun x => ?_, fun x => ?_, fun x => ?_, fun x => ?_, fun x => ?_, trivial⟩ i
    (View.cover_of_tiledL (s := S256x2048) _ ![256, 256] (by sl_kernel_rfl) i)
  · refine (congrFun (dv3 _ _ _ _) _).trans (dv_tile_of (Q := iblk m c 0 t) (Y := iblk m c 2 t) (KV := iblk m c 1 t) (h := 3) ⟨?_, ?_, ?_, ?_⟩ _ _ _
      (by show 0 + 1 * (x 0).val = (x 0).val; omega) (by show 1792 + 1 * (x 1).val = 1024 + (3 * 256 + (x 1).val); omega) _ ?_)
    on_goal 5 => pointwise [k0_pay6]
    all_goals (intro r d; pointwise)
    all_goals simp only [← Nat.add_assoc, Nat.reduceAdd]
  · refine (congrFun (dk3 _ _ _ _ _) _).trans (Head.dk_tile (Q := iblk m c 0 t) (Y := iblk m c 2 t) (KV := iblk m c 1 t) (h := 3) ⟨?_, ?_, ?_, ?_⟩ _ _ _
      (by show 0 + 1 * (x 0).val = (x 0).val; omega) (by show 768 + 1 * (x 1).val = 3 * 256 + (x 1).val; omega) _ ?_)
    on_goal 5 => pointwise [k0_pay6]
    all_goals (intro r d; pointwise)
    all_goals simp only [← Nat.add_assoc, Nat.reduceAdd]
  · refine (congrFun (dv2 _ _ _ _) _).trans (dv_tile_of (Q := iblk m c 0 t) (Y := iblk m c 2 t) (KV := iblk m c 1 t) (h := 2) ⟨?_, ?_, ?_, ?_⟩ _ _ _
      (by show 0 + 1 * (x 0).val = (x 0).val; omega) (by show 1536 + 1 * (x 1).val = 1024 + (2 * 256 + (x 1).val); omega) _ ?_)
    on_goal 5 => pointwise [k0_pay6]
    all_goals (intro r d; pointwise)
    all_goals simp only [← Nat.add_assoc, Nat.reduceAdd]
  · refine (congrFun (dk2 _ _ _ _ _) _).trans (Head.dk_tile (Q := iblk m c 0 t) (Y := iblk m c 2 t) (KV := iblk m c 1 t) (h := 2) ⟨?_, ?_, ?_, ?_⟩ _ _ _
      (by show 0 + 1 * (x 0).val = (x 0).val; omega) (by show 512 + 1 * (x 1).val = 2 * 256 + (x 1).val; omega) _ ?_)
    on_goal 5 => pointwise [k0_pay6]
    all_goals (intro r d; pointwise)
    all_goals simp only [← Nat.add_assoc, Nat.reduceAdd]
  · refine (congrFun (dv1 _ _ _ _) _).trans (dv_tile_of (Q := iblk m c 0 t) (Y := iblk m c 2 t) (KV := iblk m c 1 t) (h := 1) ⟨?_, ?_, ?_, ?_⟩ _ _ _
      (by show 0 + 1 * (x 0).val = (x 0).val; omega) (by show 1280 + 1 * (x 1).val = 1024 + (1 * 256 + (x 1).val); omega) _ ?_)
    on_goal 5 => pointwise [k0_pay6]
    all_goals (intro r d; pointwise)
    all_goals simp only [← Nat.add_assoc, Nat.reduceAdd]
  · refine (congrFun (dk1 _ _ _ _ _) _).trans (Head.dk_tile (Q := iblk m c 0 t) (Y := iblk m c 2 t) (KV := iblk m c 1 t) (h := 1) ⟨?_, ?_, ?_, ?_⟩ _ _ _
      (by show 0 + 1 * (x 0).val = (x 0).val; omega) (by show 256 + 1 * (x 1).val = 1 * 256 + (x 1).val; omega) _ ?_)
    on_goal 5 => pointwise [k0_pay6]
    all_goals (intro r d; pointwise)
    all_goals simp only [← Nat.add_assoc, Nat.reduceAdd]
  · refine (dv_tile_of (Q := iblk m c 0 t) (Y := iblk m c 2 t) (KV := iblk m c 1 t) (h := 0) ⟨?_, ?_, ?_, ?_⟩ _ _ _
      (by show 0 + 1 * (x 0).val = (x 0).val; omega) (by show 1024 + 1 * (x 1).val = 1024 + (0 * 256 + (x 1).val); omega) _ ?_)
    on_goal 5 => pointwise [k0_pay6]
    all_goals (intro r d; pointwise)
    all_goals simp only [← Nat.add_assoc, Nat.reduceAdd]
  · refine (Head.dk_tile (Q := iblk m c 0 t) (Y := iblk m c 2 t) (KV := iblk m c 1 t) (h := 0) ⟨?_, ?_, ?_, ?_⟩ _ _ _
      (by show 0 + 1 * (x 0).val = (x 0).val; omega) (by show 0 + 1 * (x 1).val = 0 * 256 + (x 1).val; omega) _ ?_)
    on_goal 5 => pointwise [k0_pay6]
    all_goals (intro r d; pointwise)
    all_goals simp only [← Nat.add_assoc, Nat.reduceAdd]

/-- What a later point leaves of the gradient of the keys and values. -/
theorem dkvB (c : Dev nD) (t : Fin cfg0.N) (h : ¬t.val % 8 = 0) (i : S256x2048.Idx) :
    (outsAt0 m c t.val t.isLt).2 i = (outsAt0 m c (t.val - 1) (Nat.lt_of_le_of_lt (Nat.sub_le _ _) t.isLt)).2 i
      + ∑ r : Fin 512, dkvAt (row (iblk m c 0 t) r) (row (iblk m c 2 t) r) (iblk m c 1 t) (i 0) (i 1) := by
  rw [outsAt0_B m c t h]
  frame_out
  canon_tiles i h
  case piece0 =>
    refine (congrFun (dv3 _ _ _ _) _).trans (dv_tile_of (Q := iblk m c 0 t) (Y := iblk m c 2 t) (KV := iblk m c 1 t) (h := 3) ⟨?_, ?_, ?_, ?_⟩ _ _ _ h0 (h1.trans (by show _ = 1024 + (3 * 256 + _); omega)) _ ?_)
    on_goal 5 =>
      refine congrArg (outsAt0 m c (t.val - 1) _).2 (funext fun a => Fin.ext ?_)
      fin_cases a
      · exact (show 0 + 1 * (i 0).val = (i 0).val by omega).trans h0.symm
      · exact (show 1792 + 1 * (i 1).val = 1792 + (i 1).val by omega).trans h1.symm
    all_goals (intro r d; pointwise)
    all_goals simp only [← Nat.add_assoc, Nat.reduceAdd]
  case piece1 =>
    refine (congrFun (dk3 _ _ _ _ _) _).trans (Head.dk_tile (Q := iblk m c 0 t) (Y := iblk m c 2 t) (KV := iblk m c 1 t) (h := 3) ⟨?_, ?_, ?_, ?_⟩ _ _ _ h0 h1 _ ?_)
    on_goal 5 =>
      refine congrArg (outsAt0 m c (t.val - 1) _).2 (funext fun a => Fin.ext ?_)
      fin_cases a
      · exact (show 0 + 1 * (i 0).val = (i 0).val by omega).trans h0.symm
      · exact (show 768 + 1 * (i 1).val = 768 + (i 1).val by omega).trans h1.symm
    all_goals (intro r d; pointwise)
    all_goals simp only [← Nat.add_assoc, Nat.reduceAdd]
  case piece2 =>
    refine (congrFun (dv2 _ _ _ _) _).trans (dv_tile_of (Q := iblk m c 0 t) (Y := iblk m c 2 t) (KV := iblk m c 1 t) (h := 2) ⟨?_, ?_, ?_, ?_⟩ _ _ _ h0 (h1.trans (by show _ = 1024 + (2 * 256 + _); omega)) _ ?_)
    on_goal 5 =>
      refine congrArg (outsAt0 m c (t.val - 1) _).2 (funext fun a => Fin.ext ?_)
      fin_cases a
      · exact (show 0 + 1 * (i 0).val = (i 0).val by omega).trans h0.symm
      · exact (show 1536 + 1 * (i 1).val = 1536 + (i 1).val by omega).trans h1.symm
    all_goals (intro r d; pointwise)
    all_goals simp only [← Nat.add_assoc, Nat.reduceAdd]
  case piece3 =>
    refine (congrFun (dk2 _ _ _ _ _) _).trans (Head.dk_tile (Q := iblk m c 0 t) (Y := iblk m c 2 t) (KV := iblk m c 1 t) (h := 2) ⟨?_, ?_, ?_, ?_⟩ _ _ _ h0 h1 _ ?_)
    on_goal 5 =>
      refine congrArg (outsAt0 m c (t.val - 1) _).2 (funext fun a => Fin.ext ?_)
      fin_cases a
      · exact (show 0 + 1 * (i 0).val = (i 0).val by omega).trans h0.symm
      · exact (show 512 + 1 * (i 1).val = 512 + (i 1).val by omega).trans h1.symm
    all_goals (intro r d; pointwise)
    all_goals simp only [← Nat.add_assoc, Nat.reduceAdd]
  case piece4 =>
    refine (congrFun (dv1 _ _ _ _) _).trans (dv_tile_of (Q := iblk m c 0 t) (Y := iblk m c 2 t) (KV := iblk m c 1 t) (h := 1) ⟨?_, ?_, ?_, ?_⟩ _ _ _ h0 (h1.trans (by show _ = 1024 + (1 * 256 + _); omega)) _ ?_)
    on_goal 5 =>
      refine congrArg (outsAt0 m c (t.val - 1) _).2 (funext fun a => Fin.ext ?_)
      fin_cases a
      · exact (show 0 + 1 * (i 0).val = (i 0).val by omega).trans h0.symm
      · exact (show 1280 + 1 * (i 1).val = 1280 + (i 1).val by omega).trans h1.symm
    all_goals (intro r d; pointwise)
    all_goals simp only [← Nat.add_assoc, Nat.reduceAdd]
  case piece5 =>
    refine (congrFun (dk1 _ _ _ _ _) _).trans (Head.dk_tile (Q := iblk m c 0 t) (Y := iblk m c 2 t) (KV := iblk m c 1 t) (h := 1) ⟨?_, ?_, ?_, ?_⟩ _ _ _ h0 h1 _ ?_)
    on_goal 5 =>
      refine congrArg (outsAt0 m c (t.val - 1) _).2 (funext fun a => Fin.ext ?_)
      fin_cases a
      · exact (show 0 + 1 * (i 0).val = (i 0).val by omega).trans h0.symm
      · exact (show 256 + 1 * (i 1).val = 256 + (i 1).val by omega).trans h1.symm
    all_goals (intro r d; pointwise)
    all_goals simp only [← Nat.add_assoc, Nat.reduceAdd]
  case piece6 =>
    refine (dv_tile_of (Q := iblk m c 0 t) (Y := iblk m c 2 t) (KV := iblk m c 1 t) (h := 0) ⟨?_, ?_, ?_, ?_⟩ _ _ _ h0 (h1.trans (by show _ = 1024 + (0 * 256 + _); omega)) _ ?_)
    on_goal 5 =>
      refine congrArg (outsAt0 m c (t.val - 1) _).2 (funext fun a => Fin.ext ?_)
      fin_cases a
      · exact (show 0 + 1 * (i 0).val = (i 0).val by omega).trans h0.symm
      · exact (show 1024 + 1 * (i 1).val = 1024 + (i 1).val by omega).trans h1.symm
    all_goals (intro r d; pointwise)
    all_goals simp only [← Nat.add_assoc, Nat.reduceAdd]
  case piece7 =>
    refine (Head.dk_tile (Q := iblk m c 0 t) (Y := iblk m c 2 t) (KV := iblk m c 1 t) (h := 0) ⟨?_, ?_, ?_, ?_⟩ _ _ _ h0 (h1.trans (by simp)) _ ?_)
    on_goal 5 =>
      refine congrArg (outsAt0 m c (t.val - 1) _).2 (funext fun a => Fin.ext ?_)
      fin_cases a
      · exact (show 0 + 1 * (i 0).val = (i 0).val by omega).trans h0.symm
      · exact (show 0 + 1 * (i 1).val = (i 1).val by omega).trans (by simpa using h1.symm)
    all_goals (intro r d; pointwise)
    all_goals simp only [← Nat.add_assoc, Nat.reduceAdd]

/-- The block's share of the gradient of the keys and values, over the arrays' rows. -/
theorem part (c : Dev nD) (t : Fin cfg0.N) (a : Fin 256) (b : Fin 2048) :
    ∑ r : Fin 512, dkvAt (row (iblk m c 0 t) r) (row (iblk m c 2 t) r) (iblk m c 1 t) a b
      = ∑ r : Fin 512, dkvAt (rowA (qA m c) ⟨512 * t.val + r.val, by have := lt8 t; omega⟩)
          (rowA (yA m c) ⟨512 * t.val + r.val, by have := lt8 t; omega⟩) (kvA m c) a b := by
  refine Finset.sum_congr rfl fun r _ => ?_
  have hq : row (iblk m c 0 t) r = rowA (qA m c) ⟨512 * t.val + r.val, by have := lt8 t; omega⟩ :=
    funext fun x => q_blk m c t r x
  have hy : row (iblk m c 2 t) r = rowA (yA m c) ⟨512 * t.val + r.val, by have := lt8 t; omega⟩ :=
    funext fun x => y_blk m c t r x
  rw [hq, hy, kv_blk]

/-- The gradient of the keys and values after the launch. -/
theorem arr_dkv (c : Dev nD) : (dats m 0 c).arrAt 4 cfg0.N
    = fun i : S256x2048.Idx => ∑ r : Fin 4096, dkvAt (rowA (qA m c) r) (rowA (yA m c) r) (kvA m c) (i 0) (i 1) := by
  refine (dats m 0 c).arrAt_eq_of_after_last 4 t0_7 (by decide +kernel) _ fun j => ?_
  blk_simp
  rw [after0_4]
  refine (Pipeline.eq_sum_fin_of_reset_step_apply_last (fun n h => (outsAt0 m c n h).2) 8 (fun _ => 0) (fun (t : Fin 8) (j : S256x2048.Idx) =>
    ∑ r : Fin 512, dkvAt (rowA (qA m c) ⟨512 * t.val + r.val, by omega⟩)
          (rowA (yA m c) ⟨512 * t.val + r.val, by omega⟩) (kvA m c) (j 0) (j 1)) (fun t h j => (dkvA m c t h j).trans (congrArg _ (part m c t _ _)))
      (fun t h j => (dkvB m c t h j).trans (congrArg _ (part m c t _ _))) (le_of_eq N_0) t0_7 rfl j).trans ?_
  rw [zero_add]
  exact Fin.sum_mul_add_congr fun s k hl => by
    simp only [Nat.mul_comm s.val 512]

end Cert.KernelIdeal.Blk

end
-- ==== Proof.RefRead.lean ====
/- The reference, read at an entry: scores, softmax row, the derivative of the scores, and the three products. -/
module

public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Read

open Idealize.ShloMosaic Idealize.ShloMosaic.TcCoe Idealize.SL.Sem
open Cert.K Cert.ReferenceIdeal Cert.ReferenceIdeal.Gen

/-- An array [4, 4096, 256]: a head, a row, a slot of the memory. -/
abbrev HRM : Type := FVec Ideal S4x4096x256 .f32
/-- The rows. -/
abbrev Rows : Type := FVec Ideal S4096x1024 .bf16
/-- The keys beside the values. -/
abbrev KV : Type := FVec Ideal S256x2048 .bf16

/-- A row of an array of rows. -/
def rowOf (q : Rows) (r : Fin 4096) : Fin 1024 → EReal := fun c => q (ix2 r c)

/-- The keys, by slot and head. -/
def keys (kv : KV) : FVec Ideal S256x4x256 .f32 :=
  shapeCast _ (extractStridedSlice S256x1024 ![0, 0] (extf .f32 kv bitsLt_bf16_f32) slices_S256x2048_S256x1024_0_0) shapeCasts_S256x1024_S256x4x256

/-- The values, by slot and head. -/
def vals (kv : KV) : FVec Ideal S256x4x256 .f32 :=
  shapeCast _ (extractStridedSlice S256x1024 ![0, 1024] (extf .f32 kv bitsLt_bf16_f32) slices_S256x2048_S256x1024_0_1024) shapeCasts_S256x1024_S256x4x256

/-- The rows, by head. -/
def heads (q : Rows) : FVec Ideal S4096x4x256 .f32 :=
  shapeCast _ (extf .f32 q bitsLt_bf16_f32) shapeCasts_S4096x1024_S4096x4x256

theorem keys_at (kv : KV) (j : Fin 256) (h : Fin 4) (d : Fin 256) :
    keys kv (ix3 j h d) = kv (ix2 j ⟨h.val * 256 + d.val, by omega⟩) := by
  pointwise [keys]

theorem vals_at (kv : KV) (j : Fin 256) (h : Fin 4) (d : Fin 256) :
    vals kv (ix3 j h d) = kv (ix2 j ⟨1024 + (h.val * 256 + d.val), by omega⟩) := by
  pointwise [vals]

theorem heads_at (q : Rows) (r : Fin 4096) (h : Fin 4) (d : Fin 256) :
    heads q (ix3 r h d) = q (ix2 r ⟨h.val * 256 + d.val, by omega⟩) := by
  pointwise [heads]

/-- The scaled scores. -/
def score (q : Rows) (kv : KV) : HRM :=
  mulf (Host.dotGeneral dot_S4096x4x256_S256x4x256_S4x4096x256_2_2_0_0_1_1 none (heads q) (keys kv))
    (broadcastInDim S4x4096x256 ![] bcast_S_S4x4096x256 (constant S_ .f32 0x3D800000#32))

theorem score_at (q : Rows) (kv : KV) (h : Fin 4) (r : Fin 4096) (j : Fin 256) :
    score q kv (ix3 h r j) = sRow (rowOf q r) kv h j := by
  pointwise [score, heads_at, keys_at]
  rfl

/-- A maximum over the last axis of three, at an entry of the result. -/
theorem hostMax_last {n0 n1 n2 : ℕ} {t u : Shape} (x : (⟨3, ![n0, n1, n2]⟩ : Shape).Idx → EReal) (init : u.Idx → EReal)
    (h : (⟨3, ![n0, n1, n2]⟩ : Shape).ReducesTo [2] t) (hu : 0 < u.numel) (j : t.Idx) :
    Host.reduce (FloatOps.maximumf (F := Ideal) (φ := .f32)) x init h hu j = (Finset.univ : Finset (Fin n2)).fold max
      (init (Shape.Idx.first hu)) (fun k => x (ix3 ⟨(j ⟨0, h.lt_r3_a2_0⟩).val, Shape.coordLt (j ⟨0, h.lt_r3_a2_0⟩) h.size_r3_a2_0⟩
        ⟨(j ⟨1, h.lt_r3_a2_1⟩).val, Shape.coordLt (j ⟨1, h.lt_r3_a2_1⟩) h.size_r3_a2_1⟩ k)) := by
  rw [Host.reduce_eq_fold, Shape.ReducesTo.fold_fiber_r3_a2]; rfl

/-- The largest entry of each row. -/
def rowMax (s : HRM) : FVec Ideal S4x4096 .f32 :=
  Host.reduce FloatOps.maximumf s (constant S_ .f32 0xFF800000#32) reducesTo_S4x4096x256_S4x4096_d2 h_S_

theorem rowMax_at (s : HRM) (h : Fin 4) (r : Fin 4096) :
    rowMax s (ix2 h r) = top (fun j => s (ix3 h r j)) := by
  rw [rowMax, hostMax_last]
  exact congrArg (fun b => (Finset.univ : Finset (Fin 256)).fold max b fun j => s (ix3 h r j)) ninf

/-- A score's exponential, relative to its row's largest. -/
def expo (s : HRM) (mx : FVec Ideal S4x4096 .f32) : HRM :=
  Host.exp (subf s (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) mx))))

theorem expo_at (s : HRM) (mx : FVec Ideal S4x4096 .f32) (h : Fin 4) (r : Fin 4096) (j : Fin 256) :
    expo s mx (ix3 h r j) = Ideal.exp (s (ix3 h r j) - mx (ix2 h r)) := by
  pointwise [expo]
  rw [ninf, max_eq_right bot_le]

/-- The sum of each row. -/
def rowSum (e : HRM) : FVec Ideal S4x4096 .f32 :=
  Host.reduceAdd e (constant S_ .f32 0x00000000#32) reducesTo_S4x4096x256_S4x4096_d2 h_S_

theorem rowSum_at (e : HRM) (h : Fin 4) (r : Fin 4096) : rowSum e (ix2 h r) = ∑ j : Fin 256, e (ix3 h r j) := by
  pointwise [rowSum]

/-- The probabilities. -/
def probs (e : HRM) : HRM :=
  Host.divf e (broadcastInDim S4x4096x256 ![0, 1, 2] bcast_S4x4096x1_S4x4096x256_0_1_2 (broadcastInDim S4x4096x1 ![0, 1] bcast_S4x4096_S4x4096x1_0_1 (rowSum e)))

theorem probs_at (e : HRM) (h : Fin 4) (r : Fin 4096) (j : Fin 256) :
    probs e (ix3 h r j) = Ideal.div (e (ix3 h r j)) (∑ i : Fin 256, e (ix3 h r i)) := by
  pointwise [probs, rowSum_at]

/-- The cotangents of the output, by head. -/
def cot (y : Rows) : FVec Ideal S4x256x4096 .f32 :=
  transpose S4x256x4096 [1, 2, 0] (heads y) transposes_S4096x4x256_S4x256x4096_1_2_0

theorem cot_at (y : Rows) (h : Fin 4) (d : Fin 256) (r : Fin 4096) :
    cot y (ix3 h d r) = y (ix2 r ⟨h.val * 256 + d.val, by omega⟩) := by
  pointwise [cot, heads_at]

/-- The cotangents of the probabilities. -/
def dprobs (y : Rows) (kv : KV) : HRM :=
  Host.dotGeneral dot_S4x256x4096_S256x4x256_S4x4096x256_1_2_2_0_0_1 none (cot y) (vals kv)

theorem dprobs_at (y : Rows) (kv : KV) (h : Fin 4) (r : Fin 4096) (j : Fin 256) :
    dprobs y kv (ix3 h r j) = tRow (rowOf y r) kv h j := by
  pointwise [dprobs, cot_at, vals_at]
  rfl

/-- The part of the cotangents of the exponentials that comes through the sum they are divided by, the same all along a row. -/
def through (e t : HRM) : FVec Ideal S4x4096 .f32 :=
  Host.reduceAdd (Host.negf (shapeCast S4x4096x1 (rowSum (mulf (mulf t (broadcastInDim S4x4096x256 ![0, 1, 2] bcast_S4x4096x1_S4x4096x256_0_1_2
    (Host.divf (broadcastInDim S4x4096x1 ![] bcast_S_S4x4096x1 (constant S_ .f32 0x3F800000#32))
      (mulf (broadcastInDim S4x4096x1 ![0, 1] bcast_S4x4096_S4x4096x1_0_1 (rowSum e)) (broadcastInDim S4x4096x1 ![0, 1] bcast_S4x4096_S4x4096x1_0_1 (rowSum e)))))) e)) shapeCasts_S4x4096_S4x4096x1))
    (constant S_ .f32 0x00000000#32) reducesTo_S4x4096x1_S4x4096_d2 h_S_

theorem through_at (e t : HRM) (h : Fin 4) (r : Fin 4096) : through e t (ix2 h r)
    = -(∑ i : Fin 256, t (ix3 h r i) * Ideal.div 1 ((∑ i : Fin 256, e (ix3 h r i)) * (∑ i : Fin 256, e (ix3 h r i))) * e (ix3 h r i)) := by
  pointwise [through, rowSum_at]
  exact Fin.sum_univ_one _

/-- The cotangents of the unscaled scores. -/
def dscore (e t : HRM) : HRM :=
  mulf (mulf (addf (Host.divf t (broadcastInDim S4x4096x256 ![0, 1, 2] bcast_S4x4096x1_S4x4096x256_0_1_2 (broadcastInDim S4x4096x1 ![0, 1] bcast_S4x4096_S4x4096x1_0_1 (rowSum e))))
      (broadcastInDim S4x4096x256 ![0, 1] bcast_S4x4096_S4x4096x256_0_1 (through e t))) e)
    (broadcastInDim S4x4096x256 ![] bcast_S_S4x4096x256 (constant S_ .f32 0x3D800000#32))

theorem dscore_at (e t : HRM) (h : Fin 4) (r : Fin 4096) (j : Fin 256) : dscore e t (ix3 h r j)
    = (Ideal.div (t (ix3 h r j)) (∑ i : Fin 256, e (ix3 h r i))
      + -(∑ i : Fin 256, t (ix3 h r i) * Ideal.div 1 ((∑ i : Fin 256, e (ix3 h r i)) * (∑ i : Fin 256, e (ix3 h r i))) * e (ix3 h r i))) * e (ix3 h r j) * sc := by
  pointwise [dscore, rowSum_at, through_at]
  rfl

/-- The exponentials of the scores. -/
def expoOf (q : Rows) (kv : KV) : HRM := expo (score q kv) (rowMax (score q kv))
/-- The cotangents of the unscaled scores, from the arguments. -/
def ds (q : Rows) (kv : KV) (y : Rows) : HRM := dscore (expoOf q kv) (dprobs y kv)

theorem expoOf_at (q : Rows) (kv : KV) (h : Fin 4) (r : Fin 4096) (j : Fin 256) :
    expoOf q kv (ix3 h r j) = ex (sRow (rowOf q r) kv h) j := by
  rw [expoOf, expo_at, rowMax_at]
  exact congrArg (fun s => ex s j) (funext fun i => score_at q kv h r i)

theorem sum_expoOf (q : Rows) (kv : KV) (h : Fin 4) (r : Fin 4096) :
    (∑ i : Fin 256, expoOf q kv (ix3 h r i)) = den (sRow (rowOf q r) kv h) :=
  Finset.sum_congr rfl fun i _ => expoOf_at q kv h r i

/-- The probabilities are the softmax of a row's scores. -/
theorem probs_eq (q : Rows) (kv : KV) (h : Fin 4) (r : Fin 4096) (j : Fin 256) :
    probs (expoOf q kv) (ix3 h r j) = prob (sRow (rowOf q r) kv h) j := by
  rw [probs_at, sum_expoOf, expoOf_at]; rfl

/-- With real scores, the cotangents of the scores are those of the softmax. -/
theorem ds_eq (q : Rows) (kv : KV) (y : Rows) (h : Fin 4) (r : Fin 4096) (j : Fin 256)
    (hs : ∀ i, ∃ x : ℝ, sRow (rowOf q r) kv h i = x) :
    ds q kv y (ix3 h r j) = dsRow (rowOf q r) (rowOf y r) kv h j := by
  rw [ds, dscore_at, sum_expoOf, dsRow, ← dsChain_eq _ _ hs j, dsChain]
  simp only [expoOf_at, dprobs_at]

/-- The gradient of the rows, from the cotangents of the scores. -/
def dqOf (t : HRM) (kv : KV) : Rows :=
  truncf .bf16 (shapeCast S4096x1024 (transpose S4096x4x256 [1, 0, 2] (Host.dotGeneral dot_S4x4096x256_S256x4x256_S4x4096x256_2_0_1_2_0_1 none t (keys kv))
    transposes_S4x4096x256_S4096x4x256_1_0_2) shapeCasts_S4096x4x256_S4096x1024) bitsLt_bf16_f32

theorem split_col (c : Fin 1024) : (⟨c.val / 256 * 256 + c.val % 256, by omega⟩ : Fin 1024) = c := Fin.ext (Nat.div_add_mod' c.val 256)

theorem dqOf_at (t : HRM) (kv : KV) (r : Fin 4096) (c : Fin 1024) : dqOf t kv (ix2 r c)
    = ∑ j : Fin 256, t (ix3 ⟨c.val / 256, by omega⟩ r j) * kv (ix2 j ⟨c.val, by omega⟩) := by
  pointwise [dqOf, keys_at]
  simp only [Nat.div_add_mod']

/-- The gradient of the keys, from the cotangents of the scores. -/
def dkOf (t : HRM) (q : Rows) : FVec Ideal S256x1024 .f32 :=
  shapeCast S256x1024 (transpose S256x4x256 [1, 0, 2] (Host.dotGeneral dot_S4x4096x256_S4096x4x256_S4x256x256_1_0_2_2_0_1 none t (heads q))
    transposes_S4x256x256_S256x4x256_1_0_2) shapeCasts_S256x4x256_S256x1024

/-- The gradient of the values, from the probabilities. -/
def dvOf (p : HRM) (y : Rows) : FVec Ideal S256x1024 .f32 :=
  shapeCast S256x1024 (transpose S256x4x256 [2, 0, 1] (Host.dotGeneral dot_S4x256x4096_S4x4096x256_S4x256x256_2_1_1_2_0_0 none (cot y) p)
    transposes_S4x256x256_S256x4x256_2_0_1) shapeCasts_S256x4x256_S256x1024

theorem dkOf_at (t : HRM) (q : Rows) (j : Fin 256) (c : Fin 1024) : dkOf t q (ix2 j c)
    = ∑ r : Fin 4096, t (ix3 ⟨c.val / 256, by omega⟩ r j) * q (ix2 r c) := by
  pointwise [dkOf, heads_at]
  simp only [Nat.div_add_mod']

theorem dvOf_at (p : HRM) (y : Rows) (j : Fin 256) (c : Fin 1024) : dvOf p y (ix2 j c)
    = ∑ r : Fin 4096, p (ix3 ⟨c.val / 256, by omega⟩ r j) * y (ix2 r c) := by
  pointwise [dvOf, cot_at]
  simp only [Nat.div_add_mod']
  exact Finset.sum_congr rfl fun _ _ => mul_comm _ _

/-- The gradient of keys and values: each in its columns. -/
def dkvOf (dk dv : FVec Ideal S256x1024 .f32) : FVec Ideal S256x2048 .f32 :=
  addf (pad S256x2048 ![0, 1024] ![0, 0] ![0, 0] dv (constant S_ .f32 0x00000000#32) pads_S256x1024_S256x2048_000_102400 h_S_)
    (pad S256x2048 ![0, 0] ![0, 1024] ![0, 0] dk (constant S_ .f32 0x00000000#32) pads_S256x1024_S256x2048_000_010240 h_S_)

theorem dkvOf_at (dk dv : FVec Ideal S256x1024 .f32) (j : Fin 256) (c : Fin 2048) : dkvOf dk dv (ix2 j c)
    = if hc : c.val < 1024 then dk (ix2 j ⟨c.val, hc⟩) else dv (ix2 j ⟨c.val - 1024, by omega⟩) := by
  pointwise [dkvOf]
  by_cases hc : c.val < 1024
  · rw [dif_neg (by omega), dif_pos hc, dif_pos hc, zero_add]
  · rw [dif_pos (by omega), dif_neg hc, dif_neg hc, add_zero]

theorem res0_eq (m : (ℓ : Loc nD τ sig) → Buf (Elt Ideal) ℓ) (c : Dev nD) : Value.res_out0 m c
    = dqOf (ds (m ((c.tc : Thread nD τ).loc main_arg0)) (m ((c.tc : Thread nD τ).loc main_arg1)) (m ((c.tc : Thread nD τ).loc main_arg2)))
        (m ((c.tc : Thread nD τ).loc main_arg1)) := by
  unfold Value.res_out0 Value.res_main_v71
  rfl

theorem res1_eq (m : (ℓ : Loc nD τ sig) → Buf (Elt Ideal) ℓ) (c : Dev nD) : Value.res_out1 m c
    = dkvOf (dkOf (ds (m ((c.tc : Thread nD τ).loc main_arg0)) (m ((c.tc : Thread nD τ).loc main_arg1)) (m ((c.tc : Thread nD τ).loc main_arg2)))
        (m ((c.tc : Thread nD τ).loc main_arg0)))
      (dvOf (probs (expoOf (m ((c.tc : Thread nD τ).loc main_arg0)) (m ((c.tc : Thread nD τ).loc main_arg1)))) (m ((c.tc : Thread nD τ).loc main_arg2))) := by
  unfold Value.res_out1 Value.res_main_v69
  rfl

/-- The reference's gradient of the rows at an entry, where the scores are real. -/
theorem dq_eq (q : Rows) (kv : KV) (y : Rows) (hs : ∀ r h i, ∃ x : ℝ, sRow (rowOf q r) kv h i = x) (r : Fin 4096) (c : Fin 1024) :
    dqOf (ds q kv y) kv (ix2 r c) = dqAt (rowOf q r) (rowOf y r) kv c := by
  rw [dqOf_at, dqAt]
  exact Finset.sum_congr rfl fun j _ => congrArg (· * _) (ds_eq q kv y _ r j (hs r _))

/-- The reference's gradient of the keys and values at an entry, where the scores are real. -/
theorem dkv_eq (q : Rows) (kv : KV) (y : Rows) (hs : ∀ r h i, ∃ x : ℝ, sRow (rowOf q r) kv h i = x) (j : Fin 256) (c : Fin 2048) :
    dkvOf (dkOf (ds q kv y) q) (dvOf (probs (expoOf q kv)) y) (ix2 j c) = ∑ r : Fin 4096, dkvAt (rowOf q r) (rowOf y r) kv j c := by
  rw [dkvOf_at]
  by_cases hc : c.val < 1024
  · rw [dif_pos hc, dkOf_at]
    refine Finset.sum_congr rfl fun r _ => ?_
    rw [dkvAt, dif_pos hc, ds_eq q kv y _ r j (hs r _)]; rfl
  · rw [dif_neg hc, dvOf_at]
    refine Finset.sum_congr rfl fun r _ => ?_
    rw [dkvAt, dif_neg hc, probs_eq]; rfl

end Cert.ReferenceIdeal.Read

end
-- ==== Proof.Pre.lean ====
/- What the precondition says: every score of a row against the memory's keys is a real number. -/
module

public import proofs.«01_k».proof.Proof.Spec
public import proofs.«01_k».proof.Proof.Gen.Pre_real_scores
public import Idealize.ShloMosaic.Lib.ReduceAll

@[expose] public section

noncomputable section

namespace Cert.K

open Idealize.ShloMosaic Idealize.ShloMosaic.TcCoe Cert.Pre_real_scores

/-- The one index of a scalar. -/
instance : Subsingleton S_.Idx := ⟨fun a b => funext fun i => i.elim0⟩

/-- The word of infinity. -/
theorem pinf : Ideal.ofBits .f32 0x7F800000#32 = ⊤ := by simp [Ideal.ofBits, Ideal.ieee]

/-- An extended real of absolute value below infinity is a real number. -/
theorem real_of_abs (x : EReal) (h : max x (-x) < ⊤) : ∃ r : ℝ, x = r := by
  induction x with
  | bot => simp at h
  | top => simp at h
  | coe r => exact ⟨r, rfl⟩

/-- Two bits whose conjunction is one are one. -/
theorem andi_one (a b : BitVec 1) (h : IntOp.andi a b = 1#1) : a = 1#1 ∧ b = 1#1 := by
  revert a b
  decide

/-- An element whose absolute value was compared below infinity is a real number. -/
theorem real_of_lt (x : EReal) (h : Ideal.cmp .olt (max x (-x)) (Ideal.ofBits .f32 0x7F800000#32) = 1#1) : ∃ r : ℝ, x = r := by
  rw [pinf] at h
  refine real_of_abs x ?_
  by_contra hn
  simp [Ideal.cmp, hn] at h

/-- The entries of the rows and of the keys are real numbers. -/
theorem real_entries (q : FVec Ideal S4096x1024 .bf16) (kv : FVec Ideal S256x2048 .bf16) (y : FVec Ideal S4096x1024 .bf16)
    (h : Cert.Pre_real_scores.fn (F := Ideal) q kv y = fun _ => 1#1) :
    (∀ i, ∃ r : ℝ, q i = r) ∧ ∀ (j : Fin 256) (c : Fin 1024), ∃ r : ℝ, kv (ix2 j ⟨c.val, by omega⟩) = r := by
  have e := congrFun h (fun i => i.elim0)
  dsimp only [Cert.Pre_real_scores.fn, andi] at e
  obtain ⟨e0, e1⟩ := andi_one _ _ e
  refine ⟨fun i => ?_, fun j c => ?_⟩
  · have := Host.reduce_andi_all _ _ _ _ _ e0 i
    exact real_of_lt _ this
  · have := Host.reduce_andi_all _ _ _ _ _ e1 (ix2 j c)
    obtain ⟨r, hr⟩ := real_of_lt _ this
    refine ⟨r, Eq.trans ?_ hr⟩
    pointwise

/-- The scale is a real number. -/
theorem sc_real : ∃ r : ℝ, sc = r := by
  refine ⟨1 / 16, ?_⟩
  unfold sc
  simp [Ideal.ofBits, Ideal.ieee]
  rw [← EReal.coe_mul]
  norm_num

/-- Every score is a real number when the row and the keys are. -/
theorem real_sRow (x : Fin 1024 → EReal) (kv : Mem) (hx : ∀ c, ∃ r : ℝ, x c = r)
    (hk : ∀ (j : Fin 256) (c : Fin 1024), ∃ r : ℝ, kv (ix2 j ⟨c.val, by omega⟩) = r) (h : Fin 4) (j : Fin 256) :
    ∃ r : ℝ, sRow x kv h j = r := by
  choose X hX using hx
  choose K hK using hk
  obtain ⟨s, hs⟩ := sc_real
  refine ⟨(∑ d : Fin 256, X ⟨h.val * 256 + d.val, by omega⟩ * K j ⟨h.val * 256 + d.val, by omega⟩) * s, ?_⟩
  unfold sRow
  rw [hs, EReal.coe_mul, coe_sum]
  refine congrArg (· * (s : EReal)) (Finset.sum_congr rfl fun d _ => ?_)
  rw [hX, EReal.coe_mul]
  exact congrArg _ (hK j ⟨h.val * 256 + d.val, by omega⟩)

end Cert.K

end
-- ==== Proof.DilRow.lean ====
/- One row of the dilated attention: the derivative of its merged output by its scores and its values. -/
module

public import proofs.«01_k».proof.Proof.Softmax

@[expose] public section

noncomputable section

namespace Cert.K

open Idealize.ShloMosaic

variable {n : ℕ}

/-- A row of scores, minus infinity outside the band. -/
def masked (ok : Fin n → Prop) [DecidablePred ok] (s : Fin n → EReal) (j : Fin n) : EReal := if ok j then s j else ⊥

/-- A row's output, from its exponentials and one column of the values. -/
def outOf (s v : Fin n → EReal) : EReal := Ideal.div (∑ j, ex s j * v j) (den s)

/-- A row's log-sum. -/
def lseOf (s : Fin n → EReal) : EReal := top s + Ideal.log (den s)

/-- The largest entry of a masked row of reals that has an entry inside the band is a real. -/
theorem top_masked (ok : Fin n → Prop) [DecidablePred ok] (s : Fin n → ℝ) (h : ∃ j, ok j) :
    ∃ r : ℝ, top (masked ok fun j => (s j : EReal)) = r := by
  obtain ⟨j, hj⟩ := h
  have hb : top (masked ok fun j => (s j : EReal)) ≠ ⊥ := by
    have : (s j : EReal) ≤ top (masked ok fun j => (s j : EReal)) := by
      unfold top; rw [Finset.le_fold_max]; exact Or.inr ⟨j, Finset.mem_univ _, by rw [masked, if_pos hj]⟩
    intro e; rw [e] at this; exact EReal.coe_ne_bot _ (le_bot_iff.1 this)
  have ht : top (masked ok fun j => (s j : EReal)) ≠ ⊤ := by
    have : top (masked ok fun j => (s j : EReal)) < ⊤ := by
      unfold top; rw [Finset.fold_max_lt]
      refine ⟨bot_lt_top, fun j _ => ?_⟩
      unfold masked; split_ifs
      · exact EReal.coe_lt_top _
      · exact bot_lt_top
    exact this.ne
  exact ⟨_, (EReal.coe_toReal ht hb).symm⟩

/-- The exponentials of a masked row of reals: zero outside the band, and a positive sum. -/
theorem masked_real (ok : Fin n → Prop) [DecidablePred ok] (s : Fin n → ℝ) (h : ∃ j, ok j) :
    ∃ (M : ℝ) (E : Fin n → ℝ), top (masked ok fun j => (s j : EReal)) = M ∧ 0 < ∑ j, E j
      ∧ (∀ j, E j = if ok j then Real.exp (s j - M) else 0) ∧ (∀ j, ex (masked ok fun j => (s j : EReal)) j = E j)
      ∧ den (masked ok fun j => (s j : EReal)) = ((∑ j, E j : ℝ) : EReal) := by
  obtain ⟨M, hM⟩ := top_masked ok s h
  have he : ∀ j, ex (masked ok fun j => (s j : EReal)) j = ((if ok j then Real.exp (s j - M) else 0 : ℝ) : EReal) := fun j => by
    rw [ex, hM, masked]
    split_ifs
    · rw [← EReal.coe_sub, Ideal.exp_coe]
    · rw [EReal.bot_sub, Ideal.exp_bot]; rfl
  refine ⟨M, fun j => if ok j then Real.exp (s j - M) else 0, hM, ?_, fun _ => rfl, he, ?_⟩
  · obtain ⟨j, hj⟩ := h
    refine Finset.sum_pos' (fun i _ => ?_) ⟨j, Finset.mem_univ _, ?_⟩
    · split_ifs
      · exact (Real.exp_pos _).le
      · exact le_rfl
    · rw [if_pos hj]; exact Real.exp_pos _
  · rw [den, coe_sum]; exact Finset.sum_congr rfl fun j _ => he j

/-- The three head groups' entries as one row. -/
def three (a b c : EReal) : Fin 3 → EReal := ![a, b, c]

/-- What the merge over the head groups gives: each group's weight and the merged log-sum. -/
theorem merge_real (l : Fin 3 → ℝ) : ∃ (T z : ℝ), 0 < z ∧ top (fun g => (l g : EReal)) = T
    ∧ (∀ g, ex (fun g => (l g : EReal)) g = (Real.exp (l g - T) : ℝ)) ∧ den (fun g => (l g : EReal)) = z
    ∧ z = ∑ g, Real.exp (l g - T)
    ∧ (∀ g, prob (fun g => (l g : EReal)) g = (Real.exp (l g - T) / z : ℝ)) ∧ lseOf (fun g => (l g : EReal)) = (T + Real.log z : ℝ) := by
  obtain ⟨T, hT⟩ := top_real l
  have he : ∀ g, ex (fun g => (l g : EReal)) g = (Real.exp (l g - T) : ℝ) := fun g => by
    rw [ex, hT, ← EReal.coe_sub, Ideal.exp_coe]
  have hz : 0 < ∑ g, Real.exp (l g - T) := Finset.sum_pos (fun g _ => Real.exp_pos _) ⟨0, Finset.mem_univ _⟩
  have hd : den (fun g => (l g : EReal)) = ((∑ g, Real.exp (l g - T) : ℝ) : EReal) := by
    rw [den, coe_sum]; exact Finset.sum_congr rfl fun j _ => he j
  refine ⟨T, _, hz, hT, he, hd, rfl, fun g => ?_, ?_⟩
  · rw [prob, he, hd, Ideal.div_coe hz.ne', ← EReal.coe_mul, mul_one_div]
  · rw [lseOf, hT, hd, Ideal.log_coe, if_neg (not_le.mpr hz), ← EReal.coe_add]

/-! The stages of the derivative of one row, as the chain rule writes them. `s` is the row of masked scores, `v` the
    values of its window, `a1`, `a2`, `l1`, `l2` the other two groups' outputs and log-sums, `y` the row's cotangents. -/

variable {m : ℕ}

/-- The log-sums of the three groups, and one column of their outputs. -/
def grpL (s : Fin n → EReal) (l1 l2 : EReal) : Fin 3 → EReal := three (lseOf s) l1 l2
def grpO (s : Fin n → EReal) (v : Fin n → Fin m → EReal) (a1 a2 : Fin m → EReal) (d : Fin m) : Fin 3 → EReal :=
  three (outOf s fun j => v j d) (a1 d) (a2 d)
/-- The cotangents of the groups' weights, and of the first group's log-sum. -/
def grpA (s : Fin n → EReal) (v : Fin n → Fin m → EReal) (a1 a2 y : Fin m → EReal) (g : Fin 3) : EReal :=
  ∑ d, y d * grpO s v a1 a2 d g
def dLse (s : Fin n → EReal) (v : Fin n → Fin m → EReal) (a1 a2 : Fin m → EReal) (l1 l2 : EReal) (y : Fin m → EReal) : EReal :=
  dsChain (grpL s l1 l2) (grpA s v a1 a2 y) 0
/-- The cotangents of the first group's output. -/
def dOut (s : Fin n → EReal) (l1 l2 : EReal) (y : Fin m → EReal) (d : Fin m) : EReal := prob (grpL s l1 l2) 0 * y d
/-- The cotangents of the scores, but for what the largest score adds. -/
def dScore (s : Fin n → EReal) (v : Fin n → Fin m → EReal) (a1 a2 : Fin m → EReal) (l1 l2 : EReal) (y : Fin m → EReal) (j : Fin n) : EReal :=
  (∑ d, Ideal.div (dOut s l1 l2 y d) (den s) * v j d
    + (-(∑ d, dOut s l1 l2 y d * Ideal.div 1 (den s * den s) * ∑ i, ex s i * v i d) + Ideal.div (dLse s v a1 a2 l1 l2 y) (den s))) * ex s j
/-- Whether a score is the row's largest. -/
def tie (s : Fin n → EReal) (j : Fin n) : EReal := if s j = top s then 1 else 0
/-- The cotangents of the scaled products, inside the band. -/
def dBand (ok : Fin n → Prop) [DecidablePred ok] (s : Fin n → EReal) (v : Fin n → Fin m → EReal) (a1 a2 : Fin m → EReal) (l1 l2 : EReal) (y : Fin m → EReal) (j : Fin n) : EReal :=
  if ok j then dScore s v a1 a2 l1 l2 y j
    + Ideal.div (dLse s v a1 a2 l1 l2 y + ∑ i, -dScore s v a1 a2 l1 l2 y i) (∑ i, tie s i) * tie s j else 0

/-- The merged output and its product with the cotangents. -/
def merged (s : Fin n → EReal) (v : Fin n → Fin m → EReal) (a1 a2 : Fin m → EReal) (l1 l2 : EReal) (d : Fin m) : EReal :=
  ∑ g, prob (grpL s l1 l2) g * grpO s v a1 a2 d g
def delta (s : Fin n → EReal) (v : Fin n → Fin m → EReal) (a1 a2 : Fin m → EReal) (l1 l2 : EReal) (y : Fin m → EReal) : EReal :=
  ∑ d, y d * merged s v a1 a2 l1 l2 d
/-- The probabilities of the merged softmax, and the cotangents of the scores, from the merged log-sum. -/
def pBand (ok : Fin n → Prop) [DecidablePred ok] (s : Fin n → EReal) (L : EReal) (j : Fin n) : EReal :=
  if ok j then Ideal.exp (s j - L) else 0
def dPlain (ok : Fin n → Prop) [DecidablePred ok] (s : Fin n → EReal) (v : Fin n → Fin m → EReal) (L D : EReal) (y : Fin m → EReal) (j : Fin n) : EReal :=
  pBand ok s L j * (∑ d, y d * v j d - D)

/-- The two forms of a row's derivative agree on reals. -/
theorem row_eq (ok : Fin n → Prop) [DecidablePred ok] (h : ∃ j, ok j) (s : Fin n → ℝ) (v : Fin n → Fin m → ℝ) (a1 a2 : Fin m → ℝ)
    (l1 l2 : ℝ) (y : Fin m → ℝ) (S : Fin n → EReal) (hS : S = masked ok fun j => (s j : EReal)) (V : Fin n → Fin m → EReal)
    (hV : V = fun j d => (v j d : EReal)) (A1 A2 Y : Fin m → EReal) (h1 : A1 = fun d => (a1 d : EReal)) (h2 : A2 = fun d => (a2 d : EReal))
    (hY : Y = fun d => (y d : EReal)) (j : Fin n) :
    (∀ d, Ideal.div (dOut S l1 l2 Y d) (den S) * ex S j
      = pBand ok (fun j => (s j : EReal)) (lseOf (grpL S l1 l2)) j * Y d)
    ∧ dBand ok S V A1 A2 l1 l2 Y j
      = dPlain ok (fun j => (s j : EReal)) V (lseOf (grpL S l1 l2)) (delta S V A1 A2 l1 l2 Y) Y j := by
  obtain ⟨M, E, hM, hD, hE, he, hd⟩ := masked_real ok s h
  rw [← hS] at hM he hd
  generalize hDD : (∑ j, E j) = D at hD hd
  have hl0 : lseOf S = ((M + Real.log D : ℝ) : EReal) := by
    rw [lseOf, hM, hd, Ideal.log_coe, if_neg (not_le.mpr hD), ← EReal.coe_add]
  have hO : ∀ d, outOf S (fun j => V j d) = (((∑ j, E j * v j d) / D : ℝ) : EReal) := fun d => by
    rw [outOf, hd, Ideal.div_coe hD.ne', div_eq_mul_one_div (∑ j, E j * v j d) D, EReal.coe_mul, coe_sum]
    refine congrArg (· * _) (Finset.sum_congr rfl fun j _ => ?_)
    rw [he, hV, EReal.coe_mul]
  have hL : grpL S l1 l2 = fun g => ((![M + Real.log D, l1, l2] g : ℝ) : EReal) := by
    funext g; rw [grpL, hl0]; fin_cases g <;> rfl
  obtain ⟨T, z, hz, -, -, -, -, hp, hlse⟩ := merge_real ![M + Real.log D, l1, l2]
  rw [← hL] at hp hlse
  set w : Fin 3 → ℝ := fun g => Real.exp (![M + Real.log D, l1, l2] g - T) / z with hw
  have hp' : ∀ g, prob (grpL S l1 l2) g = (w g : EReal) := hp
  set o : Fin m → Fin 3 → ℝ := fun d => ![(∑ j, E j * v j d) / D, a1 d, a2 d] with ho
  have hGO : ∀ d, grpO S V A1 A2 d = fun g => (o d g : EReal) := fun d => by
    funext g; rw [grpO, hO, h1, h2]; fin_cases g <;> rfl
  set a : Fin 3 → ℝ := fun g => ∑ d, y d * o d g with ha
  have hA : grpA S V A1 A2 Y = fun g => (a g : EReal) := by
    funext g; rw [grpA, ha, coe_sum]
    refine Finset.sum_congr rfl fun d _ => ?_
    rw [hGO, hY, EReal.coe_mul]
  set δ : ℝ := ∑ g, a g * w g with hδ
  have hdl : dLse S V A1 A2 l1 l2 Y = ((w 0 * (a 0 - δ) : ℝ) : EReal) := by
    have e : ∑ g, grpA S V A1 A2 Y g * prob (grpL S l1 l2) g = (δ : EReal) := by
      rw [hδ, coe_sum]
      exact Finset.sum_congr rfl fun g _ => by rw [hp', hA, EReal.coe_mul]
    rw [dLse, dsChain_eq _ _ (fun g => ⟨_, congrFun hL g⟩), dsOf, e, hA, hp', EReal.coe_mul, EReal.coe_sub]
  have hdo : ∀ d, dOut S l1 l2 Y d = ((w 0 * y d : ℝ) : EReal) := fun d => by rw [dOut, hp', hY, EReal.coe_mul]
  have hdel : delta S V A1 A2 l1 l2 Y = (δ : EReal) := by
    have e1 : ∀ d, merged S V A1 A2 l1 l2 d = ((∑ g, w g * o d g : ℝ) : EReal) := fun d => by
      rw [merged, coe_sum]
      refine Finset.sum_congr rfl fun g _ => ?_
      rw [hp', hGO, EReal.coe_mul]
    have e2 : δ = ∑ d, y d * ∑ g, w g * o d g := by
      rw [hδ, ha]
      simp only [Finset.sum_mul, Finset.mul_sum]
      rw [Finset.sum_comm]
      exact Finset.sum_congr rfl fun d _ => Finset.sum_congr rfl fun g _ => by ring
    rw [delta, e2, coe_sum]
    refine Finset.sum_congr rfl fun d _ => ?_
    rw [e1, hY, EReal.coe_mul]
  have hEv : ∀ d, ∑ i, ex S i * V i d = ((o d 0 * D : ℝ) : EReal) := fun d => by
    have : o d 0 * D = ∑ i, E i * v i d := div_mul_cancel₀ _ hD.ne'
    rw [this, coe_sum]
    exact Finset.sum_congr rfl fun i _ => by rw [he, hV, EReal.coe_mul]
  set r : Fin n → ℝ := fun j => E j * w 0 / D * (∑ d, y d * v j d - δ) with hr
  have hds : ∀ j, dScore S V A1 A2 l1 l2 Y j = (r j : EReal) := fun j => by
    have q1 : ∑ d, Ideal.div (dOut S l1 l2 Y d) (den S) * V j d = ((∑ d, w 0 * y d * (1 / D) * v j d : ℝ) : EReal) := by
      rw [coe_sum]
      refine Finset.sum_congr rfl fun d _ => ?_
      rw [hdo, hd, Ideal.div_coe hD.ne', hV, ← EReal.coe_mul, ← EReal.coe_mul]
    have q2 : ∑ d, dOut S l1 l2 Y d * Ideal.div 1 (den S * den S) * ∑ i, ex S i * V i d
        = ((∑ d, w 0 * y d * (1 / (D * D)) * (o d 0 * D) : ℝ) : EReal) := by
      rw [coe_sum]
      refine Finset.sum_congr rfl fun d _ => ?_
      rw [hdo, hd, ← EReal.coe_mul, Ideal.div_coe (mul_pos hD hD).ne', one_mul, hEv, ← EReal.coe_mul, ← EReal.coe_mul]
    rw [dScore, q1, q2, hdl, hd, Ideal.div_coe hD.ne', he, ← EReal.coe_mul, ← EReal.coe_neg, ← EReal.coe_add, ← EReal.coe_add, ← EReal.coe_mul]
    refine congrArg _ ?_
    have e1 : ∑ d, w 0 * y d * (1 / D) * v j d = w 0 / D * ∑ d, y d * v j d := by
      rw [Finset.mul_sum]; exact Finset.sum_congr rfl fun d _ => by ring
    have e2 : ∑ d, w 0 * y d * (1 / (D * D)) * (o d 0 * D) = w 0 / D * a 0 := by
      rw [ha, Finset.mul_sum]; exact Finset.sum_congr rfl fun d _ => by field_simp
    rw [e1, e2, hr]
    ring
  have hsum : dLse S V A1 A2 l1 l2 Y + ∑ i, -dScore S V A1 A2 l1 l2 Y i = 0 := by
    have e1 : ∑ i, -dScore S V A1 A2 l1 l2 Y i = ((∑ i, -r i : ℝ) : EReal) := by
      rw [coe_sum]; exact Finset.sum_congr rfl fun i _ => by rw [hds, EReal.coe_neg]
    have e2 : ∑ i, E i * ∑ d, y d * v i d = a 0 * D := by
      rw [ha, Finset.sum_mul]
      simp only [Finset.mul_sum]
      rw [Finset.sum_comm]
      refine Finset.sum_congr rfl fun d _ => ?_
      have : o d 0 * D = ∑ i, E i * v i d := div_mul_cancel₀ _ hD.ne'
      rw [mul_assoc, this, Finset.mul_sum]
      exact Finset.sum_congr rfl fun i _ => by ring
    have e3 : ∑ i, r i = w 0 * (a 0 - δ) := by
      have : ∀ i, r i = w 0 / D * (E i * ∑ d, y d * v i d) - w 0 / D * δ * E i := fun i => by rw [hr]; ring
      rw [Finset.sum_congr rfl fun i _ => this i, Finset.sum_sub_distrib, ← Finset.mul_sum, ← Finset.mul_sum, e2, hDD]
      field_simp
    rw [e1, hdl, Finset.sum_neg_distrib, e3, ← EReal.coe_add, add_neg_cancel, EReal.coe_zero]
  have htie : Ideal.div (0 : EReal) (∑ i, tie S i) * tie S j = 0 := by
    by_cases ht : S j = top S
    · have hc : ∑ i, tie S i = ((∑ i, if S i = top S then 1 else 0 : ℝ) : EReal) := by
        rw [coe_sum]
        refine Finset.sum_congr rfl fun i _ => ?_
        rw [tie]; split_ifs <;> rfl
      have hpos : (0 : ℝ) < ∑ i, if S i = top S then 1 else 0 := by
        refine Finset.sum_pos' (fun i _ => ?_) ⟨j, Finset.mem_univ _, ?_⟩
        · split_ifs <;> norm_num
        · rw [if_pos ht]; norm_num
      rw [hc, Ideal.div_coe hpos.ne', zero_mul, zero_mul]
    · rw [tie, if_neg ht, mul_zero]
  have hP : pBand ok (fun j => (s j : EReal)) (lseOf (grpL S l1 l2)) j = ((E j * w 0 / D : ℝ) : EReal) := by
    rw [pBand, hlse, hE]
    split_ifs with hj
    · rw [← EReal.coe_sub, Ideal.exp_coe]
      refine congrArg _ ?_
      have : w 0 = Real.exp (M - T) * D / z := by
        show Real.exp (M + Real.log D - T) / z = _
        rw [show M + Real.log D - T = M - T + Real.log D by ring, Real.exp_add, Real.exp_log hD]
      rw [this, show s j - (T + Real.log z) = (s j - M) + (M - T) - Real.log z by ring, Real.exp_sub, Real.exp_add, Real.exp_log hz]
      field_simp
    · rw [zero_mul, zero_div, EReal.coe_zero]
  refine ⟨fun d => ?_, ?_⟩
  · rw [hP, hdo, hd, Ideal.div_coe hD.ne', he, hY, ← EReal.coe_mul, ← EReal.coe_mul, ← EReal.coe_mul]
    exact congrArg _ (by ring)
  · have hdp : ∑ d, Y d * V j d = ((∑ d, y d * v j d : ℝ) : EReal) := by
      rw [coe_sum]; exact Finset.sum_congr rfl fun d _ => by rw [hY, hV, EReal.coe_mul]
    rw [dPlain, hP, dBand, hsum, htie, add_zero, hds, hdel, hdp, ← EReal.coe_sub, ← EReal.coe_mul]
    split_ifs with hj
    · rfl
    · rw [hE, if_neg hj, zero_mul, zero_div, zero_mul, EReal.coe_zero]

end Cert.K

end
-- ==== Proof.DilSpec.lean ====
/- The dilated attention's first head group: the entries of its windows, band and scores, and the gradients by them. -/
module

public import proofs.«01_k».proof.Proof.DilRow
public import Idealize.ShloMosaic.Lib.Pipeline.ValueKit
public import Idealize.ShloMosaic.Lib.Pointwise
public import Idealize.ShloMosaic.Lib.WordCmp

@[expose] public section

noncomputable section

namespace Cert.K

open Idealize.ShloMosaic Idealize.ShloMosaic.WordCmp

/-- The factor of the scores, an eighth. -/
def sc8 : EReal := Ideal.ofBits .f32 0x3E000000#32

/-- An array of rows by heads times columns. -/
abbrev Arr : Type := (⟨2, ![4096, 256]⟩ : Shape).Idx → EReal

/-- Row `i` of block `n`, and column `d` of head `h`. -/
def rowIx (n : Fin 32) (i : Fin 128) : Fin 4096 := ⟨n.val * 128 + i.val, by omega⟩
def colIx (h : Fin 4) (d : Fin 64) : Fin 256 := ⟨h.val * 64 + d.val, by omega⟩

/-- Row `j` of the window of block `n`: the block before, zero before the first, and the block. -/
def win (k : Arr) (n : Fin 32) (j : Fin 256) (c : Fin 256) : EReal :=
  if hj : j.val < 128 then (if n.val < 1 then 0 else k (ix2 (rowIx ⟨n.val - 1, by omega⟩ ⟨j.val, hj⟩) c))
  else k (ix2 (rowIx n ⟨j.val - 128, by omega⟩) c)

/-- Whether row `i` of block `n` sees row `j` of its window. -/
def ok (n : Fin 32) (i : Fin 128) (j : Fin 256) : Prop := i.val ≤ j.val ∧ j.val ≤ i.val + 128 ∧ (0 < n.val ∨ 128 ≤ j.val)

instance (n : Fin 32) (i : Fin 128) : DecidablePred (ok n i) := fun _ => inferInstanceAs (Decidable (_ ∧ _ ∧ _))

/-- The difference of two small words. -/
theorem toInt_diff (a b : ℕ) (ha : a < 1000) (hb : b < 1000) :
    (IntOp.subi (BitVec.ofNat 32 a) (BitVec.ofNat 32 b)).toInt = (a : ℤ) - b := by
  show (BitVec.ofNat 32 a - BitVec.ofNat 32 b).toInt = _
  rw [BitVec.toInt_sub, toInt_ofNat_of_lt (by omega), toInt_ofNat_of_lt (by omega)]
  exact Int.bmod_eq_of_le (by omega) (by omega)

theorem andi_ofBool (p q : Bool) : IntOp.andi (BitVec.ofBool p) (BitVec.ofBool q) = BitVec.ofBool (p && q) := by
  cases p <;> cases q <;> rfl
theorem ori_ofBool (p q : Bool) : IntOp.ori (BitVec.ofBool p) (BitVec.ofBool q) = BitVec.ofBool (p || q) := by
  cases p <;> cases q <;> rfl
theorem ite_word (p : Prop) [Decidable p] : (if p then 1#1 else 0#1) = BitVec.ofBool (decide p) := by
  by_cases hp : p <;> simp [hp]

/-- The band as a word, by its comparisons. -/
theorem ok_word (n : Fin 32) (i : Fin 128) (j : Fin 256) :
    IntOp.andi (IntOp.andi
        (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32))
      (IntOp.ori (IntOp.cmpi .sgt (BitVec.ofNat 32 n.val) 0#32) (IntOp.cmpi .sge (BitVec.ofNat 32 j.val) 128#32))
    = if ok n i j then 1#1 else 0#1 := by
  have e : IntOp.addi (BitVec.ofNat 32 i.val) 128#32 = BitVec.ofNat 32 (i.val + 128) := (BitVec.ofNat_add _ _).symm
  rw [e, cmpi_sge_eq, cmpi_sle_eq, cmpi_sgt_eq, cmpi_sge_eq, toInt_diff _ _ (by omega) (by omega),
    toInt_ofNat_of_lt (w := 32) (a := n.val) (by omega), toInt_ofNat_of_lt (w := 32) (a := j.val) (by omega), andi_ofBool, ori_ofBool, andi_ofBool, ite_word]
  refine congrArg BitVec.ofBool ?_
  rw [Bool.eq_iff_iff]
  simp only [Bool.and_eq_true, Bool.or_eq_true, decide_eq_true_eq]
  rw [show (0#32 : BitVec 32).toInt = 0 from rfl, show (128#32 : BitVec 32).toInt = 128 from rfl]
  unfold ok
  omega

/-- The scaled scores of a row, before the band. -/
def scoreOf (q k : Arr) (n : Fin 32) (h : Fin 4) (i : Fin 128) (j : Fin 256) : EReal :=
  (∑ d : Fin 64, q (ix2 (rowIx n i) (colIx h d)) * win k n j (colIx h d)) * sc8

/-- The window of the values of a head. -/
def valOf (v : Arr) (n : Fin 32) (h : Fin 4) (j : Fin 256) (d : Fin 64) : EReal := win v n j (colIx h d)
/-- A row of the cotangents of a head. -/
def cotOf (y : Arr) (n : Fin 32) (h : Fin 4) (i : Fin 128) (d : Fin 64) : EReal := y (ix2 (rowIx n i) (colIx h d))
/-- A row of the other groups' outputs and log-sums. -/
def othO (o : (⟨3, ![4096, 4, 64]⟩ : Shape).Idx → EReal) (n : Fin 32) (h : Fin 4) (i : Fin 128) (d : Fin 64) : EReal := o (ix3 (rowIx n i) h d)
def othL (l : (⟨2, ![4096, 4]⟩ : Shape).Idx → EReal) (n : Fin 32) (h : Fin 4) (i : Fin 128) : EReal := l (ix2 (rowIx n i) h)

/-- The launch's arguments. -/
structure Args where
  q : Arr
  k : Arr
  v : Arr
  o1 : (⟨3, ![4096, 4, 64]⟩ : Shape).Idx → EReal
  l1 : (⟨2, ![4096, 4]⟩ : Shape).Idx → EReal
  o2 : (⟨3, ![4096, 4, 64]⟩ : Shape).Idx → EReal
  l2 : (⟨2, ![4096, 4]⟩ : Shape).Idx → EReal
  y : Arr

variable (x : Args) (n : Fin 32) (h : Fin 4) (i : Fin 128)

/-- A row's scores inside the band. -/
def band : Fin 256 → EReal := masked (ok n i) (scoreOf x.q x.k n h i)
/-- The merged log-sum of a row, and its product of output and cotangents. -/
def lseAt : EReal := lseOf (grpL (band x n h i) (othL x.l1 n h i) (othL x.l2 n h i))
def deltaAt : EReal := delta (band x n h i) (valOf x.v n h) (othO x.o1 n h i) (othO x.o2 n h i) (othL x.l1 n h i) (othL x.l2 n h i) (cotOf x.y n h i)
/-- The probabilities and the cotangents of the scores. -/
def pAt (j : Fin 256) : EReal := pBand (ok n i) (scoreOf x.q x.k n h i) (lseAt x n h i) j
def dsAt (j : Fin 256) : EReal :=
  dPlain (ok n i) (scoreOf x.q x.k n h i) (valOf x.v n h) (lseAt x n h i) (deltaAt x n h i) (cotOf x.y n h i) j * sc8

/-- The gradients. Row `t` is row `t % 128` of block `t / 128`; column `c` is of head `c / 64`. -/
def dqGrad (t : Fin 4096) (c : Fin 256) : EReal :=
  ∑ j : Fin 256, dsAt x ⟨t.val / 128, by omega⟩ ⟨c.val / 64, by omega⟩ ⟨t.val % 128, by omega⟩ j * win x.k ⟨t.val / 128, by omega⟩ j c
/-- What the rows of a block and of the next one give a key or value: `p` by block, head, row and row of the window. -/
def ofRows (p : Fin 32 → Fin 4 → Fin 128 → Fin 256 → EReal) (w : Arr) (t : Fin 4096) (c : Fin 256) : EReal :=
  ∑ i : Fin 128, p ⟨t.val / 128, by omega⟩ ⟨c.val / 64, by omega⟩ i ⟨128 + t.val % 128, by omega⟩ * w (ix2 (rowIx ⟨t.val / 128, by omega⟩ i) c)
    + if hn : t.val / 128 < 31 then ∑ i : Fin 128, p ⟨t.val / 128 + 1, by omega⟩ ⟨c.val / 64, by omega⟩ i ⟨t.val % 128, by omega⟩
        * w (ix2 (rowIx ⟨t.val / 128 + 1, by omega⟩ i) c) else 0
def dkGrad : Fin 4096 → Fin 256 → EReal := ofRows (dsAt x) x.q
def dvGrad : Fin 4096 → Fin 256 → EReal := ofRows (pAt x) x.y

end Cert.K

end
-- ==== Proof.Sums.lean ====
/- Sums over runs of four grid points, and the columns of a matrix kept in shards. -/
module

public import Idealize.ShloMosaic.Lib.Pipeline.ValueKit
public import Idealize.ShloMosaic.Lib.Pointwise

@[expose] public section

noncomputable section

namespace Cert.K

open Idealize.ShloMosaic

/-- A scratch that the first of four points sets, the next two add to, and the last adds to while storing the sum. -/
theorem run_four {N : ℕ} {ι : Type} (o s : (n : ℕ) → n < N → ι → EReal) (term : Fin N → ι → EReal)
    (hA : ∀ t : Fin N, t.val % 4 = 0 → ∀ i, s t.val t.isLt i = term t i)
    (hB : ∀ t : Fin N, 1 ≤ t.val % 4 ∧ t.val % 4 ≤ 2 →
      ∀ i, s t.val t.isLt i = s (t.val - 1) (Nat.lt_of_le_of_lt (Nat.sub_le _ _) t.isLt) i + term t i)
    (hC : ∀ t : Fin N, t.val % 4 = 3 →
      ∀ i, o t.val t.isLt i = s (t.val - 1) (Nat.lt_of_le_of_lt (Nat.sub_le _ _) t.isLt) i + term t i)
    (t : Fin N) (ht : t.val % 4 = 3) (i : ι) :
    o t.val t.isLt i = ∑ k : Fin 4, term ⟨4 * (t.val / 4) + k.val, by omega⟩ i := by
  obtain ⟨n, hn⟩ := t
  obtain ⟨q, rfl⟩ : ∃ q, n = 4 * q + 3 := ⟨n / 4, by simp only at ht; omega⟩
  have h0 := hA ⟨4 * q, by omega⟩ (by show 4 * q % 4 = 0; omega) i
  have h1 := hB ⟨4 * q + 1, by omega⟩ (by show 1 ≤ (4 * q + 1) % 4 ∧ (4 * q + 1) % 4 ≤ 2; omega) i
  have h2 := hB ⟨4 * q + 2, by omega⟩ (by show 1 ≤ (4 * q + 2) % 4 ∧ (4 * q + 2) % 4 ≤ 2; omega) i
  have h3 := hC ⟨4 * q + 3, hn⟩ ht i
  have e : ∀ k : Fin 4, term ⟨4 * ((4 * q + 3) / 4) + k.val, by omega⟩ i = term ⟨4 * q + k.val, by omega⟩ i :=
    fun k => congrArg (term · i) (Fin.ext (by show 4 * ((4 * q + 3) / 4) + k.val = 4 * q + k.val; omega))
  refine Eq.trans ?_ (Finset.sum_congr rfl fun k _ => (e k).symm)
  rw [Fin.sum_univ_four]
  exact h3.trans (congrArg (· + _) (h2.trans (congrArg (· + _) (h1.trans (congrArg (· + _) h0)))))

/-- A sum that the first of two points starts from zero and the second adds to. -/
theorem run_two {N : ℕ} {ι : Type} (o : (n : ℕ) → n < N → ι → EReal) (term : Fin N → ι → EReal)
    (hA : ∀ t : Fin N, t.val % 2 = 0 → ∀ i, o t.val t.isLt i = 0 + term t i)
    (hB : ∀ t : Fin N, ¬t.val % 2 = 0 →
      ∀ i, o t.val t.isLt i = o (t.val - 1) (Nat.lt_of_le_of_lt (Nat.sub_le _ _) t.isLt) i + term t i)
    (t : Fin N) (ht : t.val % 2 = 1) (i : ι) :
    o t.val t.isLt i = ∑ k : Fin 2, term ⟨2 * (t.val / 2) + k.val, by omega⟩ i := by
  obtain ⟨n, hn⟩ := t
  obtain ⟨q, rfl⟩ : ∃ q, n = 2 * q + 1 := ⟨n / 2, by simp only at ht; omega⟩
  have h0 := hA ⟨2 * q, by omega⟩ (by show 2 * q % 2 = 0; omega) i
  have h1 := hB ⟨2 * q + 1, hn⟩ (by show ¬(2 * q + 1) % 2 = 0; omega) i
  have e : ∀ k : Fin 2, term ⟨2 * ((2 * q + 1) / 2) + k.val, by omega⟩ i = term ⟨2 * q + k.val, by omega⟩ i :=
    fun k => congrArg (term · i) (Fin.ext (by show 2 * ((2 * q + 1) / 2) + k.val = 2 * q + k.val; omega))
  refine Eq.trans ?_ (Finset.sum_congr rfl fun k _ => (e k).symm)
  rw [Fin.sum_univ_two]
  exact h1.trans (congrArg (· + _) (h0.trans (zero_add _)))

/-- A sum over two halves of 2048 is a sum over 4096. -/
theorem sum_rows (f : Fin 4096 → EReal) :
    ∑ k : Fin 2, ∑ x : Fin 2048, f ⟨k.val * 2048 + x.val, by omega⟩ = ∑ x : Fin 4096, f x :=
  Fin.sum_mul_add_congr fun _ _ _ => rfl

/-- A sum over four slices of 1024 is a sum over 4096. -/
theorem sum_slices (f : Fin 4096 → EReal) :
    ∑ k : Fin 4, ∑ x : Fin 1024, f ⟨k.val * 1024 + x.val, by omega⟩ = ∑ x : Fin 4096, f x :=
  Fin.sum_mul_add_congr fun _ _ _ => rfl

/-- A sum over 1024 is the sum of its halves. -/
theorem sum_halves (f : Fin 1024 → EReal) :
    ∑ x : Fin 512, f ⟨x.val, by omega⟩ + ∑ x : Fin 512, f ⟨512 + x.val, by omega⟩ = ∑ x : Fin 1024, f x := by
  have e : ∑ k : Fin 2, ∑ x : Fin 512, f ⟨k.val * 512 + x.val, by omega⟩ = ∑ x : Fin 1024, f x :=
    Fin.sum_mul_add_congr fun _ _ _ => rfl
  rw [← e, Fin.sum_univ_two]
  refine congrArg₂ (· + ·) ?_ ?_ <;> exact Finset.sum_congr rfl fun x _ => congrArg f (Fin.ext (by simp))

/-- A sum over four slices of 1280 is a sum over 5120. -/
theorem sum_slices_5120 (f : Fin 5120 → EReal) :
    ∑ k : Fin 4, ∑ x : Fin 1280, f ⟨k.val * 1280 + x.val, by omega⟩ = ∑ x : Fin 5120, f x :=
  Fin.sum_mul_add_congr fun _ _ _ => rfl

/-- A sum over 1280 is the sum of its halves. -/
theorem sum_halves_1280 (f : Fin 1280 → EReal) :
    ∑ x : Fin 640, f ⟨x.val, by omega⟩ + ∑ x : Fin 640, f ⟨640 + x.val, by omega⟩ = ∑ x : Fin 1280, f x := by
  have e : ∑ k : Fin 2, ∑ x : Fin 640, f ⟨k.val * 640 + x.val, by omega⟩ = ∑ x : Fin 1280, f x :=
    Fin.sum_mul_add_congr fun _ _ _ => rfl
  rw [← e, Fin.sum_univ_two]
  refine congrArg₂ (· + ·) ?_ ?_ <;> exact Finset.sum_congr rfl fun x _ => congrArg f (Fin.ext (by simp))

/-- A sum over the entries of one block among `a` blocks of `b`. -/
theorem sum_block {a b n : ℕ} (hn : n = a * b) (h : Fin a) (f : Fin n → EReal)
    (hlt : ∀ i : Fin b, h.val * b + i.val < n) :
    ∑ r : Fin n, (if r.val / b = h.val then f r else 0) = ∑ i : Fin b, f ⟨h.val * b + i.val, hlt i⟩ := by
  have hd : ∀ (k : Fin a) (i : Fin b), (k.val * b + i.val) / b = k.val := fun k i => by
    rw [Nat.mul_comm, Nat.mul_add_div (Nat.zero_lt_of_lt i.isLt), Nat.div_eq_of_lt i.isLt, Nat.add_zero]
  have e : ∑ k : Fin a, ∑ i : Fin b, (if k = h then f ⟨h.val * b + i.val, hlt i⟩ else 0) = ∑ r : Fin n, (if r.val / b = h.val then f r else 0) := by
    refine Fin.sum_mul_add_congr (fun k i hl => ?_) hn
    show _ = if (k.val * b + i.val) / b = h.val then f ⟨k.val * b + i.val, hl⟩ else 0
    rw [hd]
    by_cases hk : k = h
    · subst hk; rw [if_pos rfl, if_pos rfl]
    · rw [if_neg hk, if_neg fun q => hk (Fin.ext q)]
  rw [← e, Finset.sum_eq_single h]
  · exact Finset.sum_congr rfl fun i _ => if_pos rfl
  · exact fun k _ hk => Finset.sum_eq_zero fun i _ => if_neg hk
  · exact fun q => absurd (Finset.mem_univ h) q

end Cert.K

end
-- ==== Proof.DilBlk.lean ====
/- What one grid point of the dilated attention's gradients computes, entry by entry: the heads stacked as rows, the band,
   probabilities and cotangents of the scores, and the products that leave the point. -/
module

public import proofs.«01_k».proof.Proof.Gen.Kernel6Ideal.Value
public import proofs.«01_k».proof.Proof.DilSpec
public import proofs.«01_k».proof.Proof.Sums
public import Idealize.ShloMosaic.Lib.Pipeline.ReadBack

@[expose] public section

set_option maxRecDepth 16384

noncomputable section

namespace Cert.Kernel6Ideal.Dil

open Idealize.ShloMosaic Idealize.ShloMosaic.TcCoe Idealize.SL.Sem Idealize.ShloMosaic.WordCmp
open Cert.K Cert.Kernel6Ideal Cert.Kernel6Ideal.Gen

/-- A block of rows, in one piece and in its halves of columns; two blocks; the heads' rows stacked. -/
abbrev Rows : Type := FVec Ideal S128x256 .bf16
abbrev Half : Type := FVec Ideal S128x128 .f32
abbrev Two : Type := FVec Ideal S256x256 .bf16
abbrev Stk : Type := FVec Ideal S512x256 .bf16

/-- Row `i` of head `h` in the stack, and the halves' columns side by side. -/
def stkIx (h : Fin 4) (i : Fin 128) : Fin 512 := ⟨h.val * 128 + i.val, by omega⟩
def side (a b : Half) (i : Fin 128) (c : Fin 256) : EReal :=
  if hc : c.val < 128 then a (ix2 i ⟨c.val, hc⟩) else b (ix2 i ⟨c.val - 128, by omega⟩)
/-- The block before above the block. -/
def over (p x : Rows) (j : Fin 256) (c : Fin 256) : EReal :=
  if hj : j.val < 128 then p (ix2 ⟨j.val, hj⟩ c) else x (ix2 ⟨j.val - 128, by omega⟩ c)

/-- A column's head, as the word comparison of the masks. -/
theorem headWord (c : Fin 256) (k : Fin 4) :
    IntOp.cmpi .eq (IntOp.shrsi .vector (BitVec.ofNat 32 c.val) 6#32) (BitVec.ofNat 32 k.val) = if c.val / 64 = k.val then 1#1 else 0#1 := by
  revert c k; decide +kernel

/-- The masks. -/
theorem mask0 (i : Fin 128) (c : Fin 256) : k0_pay6 (ix2 i c) = if c.val / 64 = 0 then 1#1 else 0#1 := by
  pointwise [k0_pay6, k0_pay5]
  exact headWord c 0
theorem mask1 (i : Fin 128) (c : Fin 256) : k0_pay7 (ix2 i c) = if c.val / 64 = 1 then 1#1 else 0#1 := by
  pointwise [k0_pay7, k0_pay5]
  exact headWord c 1
theorem mask2 (i : Fin 128) (c : Fin 256) : k0_pay8 (ix2 i c) = if c.val / 64 = 2 then 1#1 else 0#1 := by
  pointwise [k0_pay8, k0_pay5]
  exact headWord c 2
theorem mask3 (i : Fin 128) (c : Fin 256) : k0_pay9 (ix2 i c) = if c.val / 64 = 3 then 1#1 else 0#1 := by
  pointwise [k0_pay9, k0_pay5]
  exact headWord c 3

/-- A choice by a mask. -/
theorem select_ite {α : Type} (p : Prop) [Decidable p] (a b : α) : Scalar.select (if p then 1#1 else 0#1) a b = if p then a else b := by
  by_cases hp : p
  · rw [if_pos hp, if_pos hp]; rfl
  · rw [if_neg hp, if_neg hp]; exact if_neg (by decide)

/-- The stacked heads: the rows of a head are zero outside its columns. -/
def stack (x : Fin 128 → Fin 256 → EReal) (r : Fin 512) (c : Fin 256) : EReal :=
  if c.val / 64 = r.val / 128 then x ⟨r.val % 128, by omega⟩ c else 0

/-- The four pieces of a stack, by the row. -/
theorem pick4 {α : Type} (r : Fin 512) (f : Fin 128 → Fin 4 → α) :
    (if h : r.val < 128 then f ⟨r.val, h⟩ 0 else if h : r.val - 128 < 128 then f ⟨r.val - 128, h⟩ 1
      else if h : r.val - 128 - 128 < 128 then f ⟨r.val - 128 - 128, h⟩ 2 else f ⟨r.val - 128 - 128 - 128, by omega⟩ 3)
    = f ⟨r.val % 128, by omega⟩ ⟨r.val / 128, by omega⟩ := by
  split_ifs with h1 h2 h3
  · exact congrArg₂ f (Fin.ext (show r.val = r.val % 128 by omega)) (Fin.ext (show 0 = r.val / 128 by omega))
  · exact congrArg₂ f (Fin.ext (show r.val - 128 = r.val % 128 by omega)) (Fin.ext (show 1 = r.val / 128 by omega))
  · exact congrArg₂ f (Fin.ext (show r.val - 128 - 128 = r.val % 128 by omega)) (Fin.ext (show 2 = r.val / 128 by omega))
  · exact congrArg₂ f (Fin.ext (show r.val - 128 - 128 - 128 = r.val % 128 by omega)) (Fin.ext (show 3 = r.val / 128 by omega))

/-- The stack's row number within its head, and the first rows seen, as words. -/
theorem rowWord (r : Fin 512) : IntOp.andi (BitVec.ofNat 32 r.val) 127#32 = BitVec.ofNat 32 (r.val % 128) := by
  revert r; decide +kernel
theorem firstWord (n : Fin 32) : Scalar.select (Scalar.cmpi .sgt (BitVec.ofNat 32 n.val) 0#32) 0#32 128#32
    = BitVec.ofNat 32 (if 0 < n.val then 0 else 128) := by
  revert n; decide +kernel
theorem nextWord (n : Fin 32) : Scalar.select (Scalar.cmpi .slt (BitVec.ofNat 32 n.val) 31#32) 0#32 128#32
    = BitVec.ofNat 32 (if n.val < 31 then 0 else 128) := by
  revert n; decide +kernel

theorem q_at (x : Rows) (r : Fin 512) (c : Fin 256) :
    k0_pay14 (F := Ideal) k0_pay6 k0_pay7 k0_pay8 k0_pay9 x (ix2 r c) = stack (fun i c => x (ix2 i c)) r c := by
  pointwise [k0_pay14, mask0, mask1, mask2, mask3]
  refine (pick4 r fun i k => Scalar.select (if c.val / 64 = k.val then 1#1 else 0#1) (x (ix2 i c)) 0).trans ?_
  exact select_ite _ _ _

theorem y_at (a b : Half) (r : Fin 512) (c : Fin 256) :
    k0_pay15 (F := Ideal) k0_pay6 k0_pay7 k0_pay8 k0_pay9 a b (ix2 r c) = stack (side a b) r c := by
  pointwise [k0_pay15, mask0, mask1, mask2, mask3]
  refine (pick4 r fun i k => Scalar.select (if c.val / 64 = k.val then 1#1 else 0#1) (side a b i c) 0).trans ?_
  exact select_ite _ _ _

theorem keys_at (x p : Rows) (j c : Fin 256) : k0_pay12 (F := Ideal) x p (ix2 j c) = over p x j c := by
  pointwise [k0_pay12]
  rfl

theorem band_at (i : grid0.Coords) (n : Fin 32) (hn : (i 0).val = n.val) (r : Fin 512) (j : Fin 256) :
    k0_pay10 i (ix2 r j) = if ok n ⟨r.val % 128, by omega⟩ j then 1#1 else 0#1 := by
  pointwise [k0_pay10]
  rw [rowWord, hn, firstWord]
  have e : IntOp.addi (BitVec.ofNat 32 (r.val % 128)) 128#32 = BitVec.ofNat 32 (r.val % 128 + 128) := (BitVec.ofNat_add _ _).symm
  rw [e, cmpi_sge_eq, cmpi_sle_eq, cmpi_sge_eq, toInt_diff _ _ (by omega) (by omega),
    toInt_ofNat_of_lt (w := 32) (a := j.val) (by omega), toInt_ofNat_of_lt (w := 32) (a := if 0 < n.val then 0 else 128) (by split_ifs <;> omega),
    K.andi_ofBool, K.andi_ofBool, ite_word]
  refine congrArg BitVec.ofBool ?_
  rw [Bool.eq_iff_iff]
  simp only [Bool.and_eq_true, decide_eq_true_eq]
  rw [show (0#32 : BitVec 32).toInt = 0 from rfl, show (128#32 : BitVec 32).toInt = 128 from rfl]
  unfold ok
  split_ifs <;> simp only [] <;> omega

theorem next_at (i : grid0.Coords) (n : Fin 32) (hn : (i 0).val = n.val) (r : Fin 512) (j : Fin 128) :
    k0_pay11 i (ix2 r j) = if n.val < 31 ∧ r.val % 128 ≤ j.val then 1#1 else 0#1 := by
  pointwise [k0_pay11]
  rw [rowWord, hn, nextWord, cmpi_sge_eq, toInt_diff _ _ (by omega) (by omega),
    toInt_ofNat_of_lt (w := 32) (a := if n.val < 31 then 0 else 128) (by split_ifs <;> omega), ite_word]
  refine congrArg BitVec.ofBool ?_
  rw [Bool.eq_iff_iff]
  simp only [decide_eq_true_eq]
  split_ifs <;> omega

/-- The stacked column of the row statistics that starts at column `o`. -/
theorem lse_at (s : Half) (r : Fin 512) : k0_pay18 (F := Ideal) s (ix2 r 0) = s (ix2 ⟨r.val % 128, by omega⟩ ⟨r.val / 128, by omega⟩) := by
  pointwise [k0_pay18, k0_pay16]
  exact pick4 r fun i k => s (ix2 i ⟨k.val, by omega⟩)

theorem score_at (x p q : Rows) (r : Fin 512) (j : Fin 256) :
    k0_pay17 (F := Ideal) k0_pay6 k0_pay7 k0_pay8 k0_pay9 x p q (ix2 r j) = (∑ c : Fin 256, stack (fun i c => q (ix2 i c)) r c * over p x j c) * sc8 := by
  pointwise [k0_pay17, q_at, keys_at]
  rfl

theorem p_at (m : IVec S512x256 1) (s : FVec Ideal S512x256 .f32) (l : FVec Ideal S512x1 .f32) (r : Fin 512) (j : Fin 256) :
    k0_pay19 (F := Ideal) m s l (ix2 r j) = Scalar.select (m (ix2 r j)) (Ideal.exp (s (ix2 r j) - l (ix2 r 0))) 0 := by
  pointwise [k0_pay19]

theorem ds_at (m : IVec S512x256 1) (v : Two) (y : Stk) (st : Half) (s : FVec Ideal S512x256 .f32) (l : FVec Ideal S512x1 .f32) (r : Fin 512) (j : Fin 256) :
    k0_pay20 (F := Ideal) m v y st s l (ix2 r j) = k0_pay19 (F := Ideal) m s l (ix2 r j)
      * (∑ c : Fin 256, y (ix2 r c) * v (ix2 j c) - st (ix2 ⟨r.val % 128, by omega⟩ ⟨4 + r.val / 128, by omega⟩)) * sc8 := by
  pointwise [k0_pay20]
  exact congrArg (fun z => k0_pay19 (F := Ideal) m s l (ix2 r j) * (∑ c : Fin 256, y (ix2 r c) * v (ix2 j c) - z) * sc8)
    (pick4 r fun i k => st (ix2 i ⟨4 + k.val, by omega⟩))

/-- The product that leaves the point as the gradient of the queries. -/
theorem dq_at (m : IVec S512x256 1) (k v : Two) (y : Stk) (st : Half) (s : FVec Ideal S512x256 .f32) (l : FVec Ideal S512x1 .f32) (i : Fin 128) (c : Fin 256) :
    k0_pay21 (F := Ideal) k0_pay6 k0_pay7 k0_pay8 m k v y st s l (ix2 i c)
      = ∑ j : Fin 256, k0_pay20 (F := Ideal) m v y st s l (ix2 (stkIx ⟨c.val / 64, by omega⟩ i) j) * k (ix2 j c) := by
  pointwise [k0_pay21, mask0, mask1, mask2]
  rw [select_ite, select_ite, select_ite]
  split_ifs with h1 h2 h3
  · exact Finset.sum_congr rfl fun j _ => congrArg (fun r => k0_pay20 (F := Ideal) m v y st s l (ix2 r j) * k (ix2 j c)) (Fin.ext (show i.val = c.val / 64 * 128 + i.val by omega))
  · exact Finset.sum_congr rfl fun j _ => congrArg (fun r => k0_pay20 (F := Ideal) m v y st s l (ix2 r j) * k (ix2 j c)) (Fin.ext (show 128 + i.val = c.val / 64 * 128 + i.val by omega))
  · exact Finset.sum_congr rfl fun j _ => congrArg (fun r => k0_pay20 (F := Ideal) m v y st s l (ix2 r j) * k (ix2 j c)) (Fin.ext (show 256 + i.val = c.val / 64 * 128 + i.val by omega))
  · exact Finset.sum_congr rfl fun j _ => congrArg (fun r => k0_pay20 (F := Ideal) m v y st s l (ix2 r j) * k (ix2 j c)) (Fin.ext (show 384 + i.val = c.val / 64 * 128 + i.val by omega))

theorem pn_at (m : IVec S512x128 1) (k : Rows) (q : Stk) (st : Half) (r : Fin 512) (j : Fin 128) :
    k0_pay27 (F := Ideal) m k q st (ix2 r j) = Scalar.select (m (ix2 r j)) (Ideal.exp ((∑ c : Fin 256, q (ix2 r c) * k (ix2 j c)) * sc8
      - st (ix2 ⟨r.val % 128, by omega⟩ ⟨r.val / 128, by omega⟩))) 0 := by
  pointwise [k0_pay27, k0_pay26]
  exact congrArg (fun z => Scalar.select (m (ix2 r j)) (Ideal.exp ((∑ c : Fin 256, q (ix2 r c) * k (ix2 j c)) * sc8 - z)) 0)
    (pick4 r fun i k => st (ix2 i ⟨k.val, by omega⟩))

theorem dsn_at (m : IVec S512x128 1) (k v : Rows) (q : Stk) (a b st : Half) (r : Fin 512) (j : Fin 128) :
    k0_pay28 (F := Ideal) k0_pay6 k0_pay7 k0_pay8 k0_pay9 m k v q a b st (ix2 r j) = k0_pay27 (F := Ideal) m k q st (ix2 r j)
      * (∑ c : Fin 256, k0_pay25 (F := Ideal) k0_pay6 k0_pay7 k0_pay8 k0_pay9 a b (ix2 r c) * v (ix2 j c)
          - st (ix2 ⟨r.val % 128, by omega⟩ ⟨4 + r.val / 128, by omega⟩)) * sc8 := by
  pointwise [k0_pay28, k0_pay26]
  exact congrArg (fun z => k0_pay27 (F := Ideal) m k q st (ix2 r j)
      * (∑ c : Fin 256, k0_pay25 (F := Ideal) k0_pay6 k0_pay7 k0_pay8 k0_pay9 a b (ix2 r c) * v (ix2 j c) - z) * sc8)
    (pick4 r fun i k => st (ix2 i ⟨4 + k.val, by omega⟩))

/-- The products that leave the point as the gradients of the values and of the keys. -/
theorem dv_at (m : IVec S512x128 1) (k : Rows) (y : Stk) (p : FVec Ideal S512x256 .f32) (q : Stk) (a b st : Half) (j : Fin 128) (c : Fin 256) :
    k0_pay29 (F := Ideal) k0_pay6 k0_pay7 k0_pay8 k0_pay9 m k y p q a b st (ix2 j c)
      = ∑ r : Fin 512, p (ix2 r ⟨128 + j.val, by omega⟩) * y (ix2 r c)
        + ∑ r : Fin 512, k0_pay27 (F := Ideal) m k q st (ix2 r j) * k0_pay25 (F := Ideal) k0_pay6 k0_pay7 k0_pay8 k0_pay9 a b (ix2 r c) := by
  pointwise [k0_pay29]

theorem dk_at (q : Stk) (s : FVec Ideal S512x256 .f32) (qn : Stk) (sn : FVec Ideal S512x128 .f32) (j : Fin 128) (c : Fin 256) :
    k0_pay2 (F := Ideal) q s qn sn (ix2 j c)
      = ∑ r : Fin 512, s (ix2 r ⟨128 + j.val, by omega⟩) * q (ix2 r c) + ∑ r : Fin 512, sn (ix2 r j) * qn (ix2 r c) := by
  pointwise [k0_pay2]

end Cert.Kernel6Ideal.Dil

end
-- ==== Proof.DilPt.lean ====
/- One grid point of the dilated attention's gradients, given that its operands hold the rows of a block and of its
   neighbours: the three products it stores are the gradients at the block's rows. -/
module

public import proofs.«01_k».proof.Proof.DilBlk

@[expose] public section

set_option maxRecDepth 16384

noncomputable section

namespace Cert.Kernel6Ideal.Dil

open Idealize.ShloMosaic Idealize.ShloMosaic.TcCoe Idealize.SL.Sem
open Cert.K Cert.Kernel6Ideal Cert.Kernel6Ideal.Gen

/-- The operands of the point of block `n`. The blocks before the first and after the last are whatever they are. -/
structure Pt (x : Args) (n : Fin 32) (i : grid0.Coords) (x0 x1 x2 x3 x4 x5 : Rows) (x6 x7 x8 x9 x10 x11 : Half) : Prop where
  hi : (i 0).val = n.val
  h0 : ∀ a c, x0 (ix2 a c) = x.q (ix2 (rowIx n a) c)
  h1 : ∀ (hn : n.val < 31) a c, x1 (ix2 a c) = x.q (ix2 (rowIx ⟨n.val + 1, by omega⟩ a) c)
  h2 : ∀ (_ : 0 < n.val) a c, x2 (ix2 a c) = x.k (ix2 (rowIx ⟨n.val - 1, by omega⟩ a) c)
  h3 : ∀ a c, x3 (ix2 a c) = x.k (ix2 (rowIx n a) c)
  h4 : ∀ (_ : 0 < n.val) a c, x4 (ix2 a c) = x.v (ix2 (rowIx ⟨n.val - 1, by omega⟩ a) c)
  h5 : ∀ a c, x5 (ix2 a c) = x.v (ix2 (rowIx n a) c)
  h6 : ∀ a c, side x6 x7 a c = x.y (ix2 (rowIx n a) c)
  h8 : ∀ (hn : n.val < 31) a c, side x8 x9 a c = x.y (ix2 (rowIx ⟨n.val + 1, by omega⟩ a) c)
  hl : ∀ a (h : Fin 4), x10 (ix2 a ⟨h.val, by omega⟩) = lseAt x n h a
  hd : ∀ a (h : Fin 4), x10 (ix2 a ⟨4 + h.val, by omega⟩) = deltaAt x n h a
  hl' : ∀ (hn : n.val < 31) a (h : Fin 4), x11 (ix2 a ⟨h.val, by omega⟩) = lseAt x ⟨n.val + 1, by omega⟩ h a
  hd' : ∀ (hn : n.val < 31) a (h : Fin 4), x11 (ix2 a ⟨4 + h.val, by omega⟩) = deltaAt x ⟨n.val + 1, by omega⟩ h a

theorem stk_mod (h : Fin 4) (i : Fin 128) (p : (stkIx h i).val % 128 < 128) : (⟨(stkIx h i).val % 128, p⟩ : Fin 128) = i :=
  Fin.ext (show (h.val * 128 + i.val) % 128 = i.val by omega)
theorem stk_mod' (h : Fin 4) (i : Fin 128) : (stkIx h i).val % 128 = i.val := show (h.val * 128 + i.val) % 128 = i.val by omega
theorem stk_div (h : Fin 4) (i : Fin 128) : (stkIx h i).val / 128 = h.val := show (h.val * 128 + i.val) / 128 = h.val by omega

theorem stk_col4 (h : Fin 4) (i : Fin 128) :
    (⟨4 + (stkIx h i).val / 128, by omega⟩ : Fin 128) = ⟨4 + h.val, by omega⟩ := Fin.ext (congrArg (4 + ·) (stk_div h i))

/-- A sum along a stacked row is the sum over its head's columns. -/
theorem stack_sum (f : Fin 128 → Fin 256 → EReal) (h : Fin 4) (i : Fin 128) (w : Fin 256 → EReal) :
    ∑ c : Fin 256, stack f (stkIx h i) c * w c = ∑ d : Fin 64, f i (colIx h d) * w (colIx h d) := by
  refine (Finset.sum_congr rfl fun c _ => ?_).trans (sum_block (a := 4) (b := 64) (n := 256) rfl h (fun c => f i c * w c) fun d => by omega)
  unfold stack
  rw [stk_mod, stk_div]
  by_cases hc : c.val / 64 = h.val
  · rw [if_pos hc, if_pos hc]
  · rw [if_neg hc, if_neg hc, zero_mul]

/-- A sum down a stacked column is the sum over its head's rows. -/
theorem stack_col (g : Fin 512 → EReal) (f : Fin 128 → Fin 256 → EReal) (c : Fin 256) :
    ∑ r : Fin 512, g r * stack f r c = ∑ i : Fin 128, g (stkIx ⟨c.val / 64, by omega⟩ i) * f i c := by
  refine (Finset.sum_congr rfl fun r _ => ?_).trans ((sum_block (a := 4) (b := 128) (n := 512) rfl ⟨c.val / 64, by omega⟩
    (fun r => g r * f ⟨r.val % 128, by omega⟩ c) fun d => by show c.val / 64 * 128 + d.val < 512; omega).trans
      (Finset.sum_congr rfl fun i _ => congrArg (fun a => g (stkIx ⟨c.val / 64, by omega⟩ i) * f a c) (stk_mod _ i _)))
  unfold stack
  by_cases hc : c.val / 64 = r.val / 128
  · rw [if_pos hc, if_pos hc.symm]
  · rw [if_neg hc, if_neg (fun e => hc e.symm), mul_zero]

/-- The gradients at row `i` of block `n`. -/
theorem row_div (n : Fin 32) (i : Fin 128) : (rowIx n i).val / 128 = n.val := show (n.val * 128 + i.val) / 128 = n.val by omega
theorem row_mod (n : Fin 32) (i : Fin 128) : (rowIx n i).val % 128 = i.val := show (n.val * 128 + i.val) % 128 = i.val by omega

theorem dqGrad_row (x : Args) (n : Fin 32) (i : Fin 128) (c : Fin 256) :
    dqGrad x (rowIx n i) c = ∑ j : Fin 256, dsAt x n ⟨c.val / 64, by omega⟩ i j * win x.k n j c := by
  simp only [dqGrad, row_div, row_mod]
theorem ofRows_row (p : Fin 32 → Fin 4 → Fin 128 → Fin 256 → EReal) (w : Arr) (n : Fin 32) (j : Fin 128) (c : Fin 256) :
    ofRows p w (rowIx n j) c = ∑ i : Fin 128, p n ⟨c.val / 64, by omega⟩ i ⟨128 + j.val, by omega⟩ * w (ix2 (rowIx n i) c)
      + if hn : n.val < 31 then ∑ i : Fin 128, p ⟨n.val + 1, by omega⟩ ⟨c.val / 64, by omega⟩ i ⟨j.val, by omega⟩
          * w (ix2 (rowIx ⟨n.val + 1, by omega⟩ i) c) else 0 := by
  simp only [ofRows, row_div, row_mod]

variable {x : Args} {n : Fin 32} {i : grid0.Coords} {x0 x1 x2 x3 x4 x5 : Rows} {x6 x7 x8 x9 x10 x11 : Half}

/-- Inside the band the two blocks are the window. -/
theorem over_win (k : Arr) (p z : Rows) (hp : ∀ (_ : 0 < n.val) a c, p (ix2 a c) = k (ix2 (rowIx ⟨n.val - 1, by omega⟩ a) c))
    (hz : ∀ a c, z (ix2 a c) = k (ix2 (rowIx n a) c)) (a : Fin 128) (j c : Fin 256) (hj : ok n a j) : over p z j c = win k n j c := by
  unfold over win
  by_cases h : j.val < 128
  · have h0 : 0 < n.val := hj.2.2.resolve_right (by omega)
    rw [dif_pos h, dif_pos h, if_neg (by omega)]
    exact hp h0 _ c
  · rw [dif_neg h, dif_neg h]
    exact hz _ c

/-- The first half of the next block's window is the block. -/
theorem win_next (k : Arr) (n : Fin 32) (hn : n.val < 31) (j : Fin 128) (c : Fin 256) :
    win k ⟨n.val + 1, by omega⟩ ⟨j.val, by omega⟩ c = k (ix2 (rowIx n j) c) := by
  unfold win
  rw [dif_pos (show j.val < 128 from j.isLt), if_neg (show ¬ n.val + 1 < 1 by omega)]
  rfl

theorem stats_at (s : Half) (a b : Fin 128) : k0_pay16 (F := Ideal) s (ix2 a b) = s (ix2 a b) := by
  pointwise [k0_pay16]

/-- The probabilities and the cotangents of the scores of a block. -/
theorem p_pt (H : Pt x n i x0 x1 x2 x3 x4 x5 x6 x7 x8 x9 x10 x11) (h : Fin 4) (a : Fin 128) (j : Fin 256) :
    k0_pay19 (F := Ideal) (k0_pay10 i) (k0_pay17 (F := Ideal) k0_pay6 k0_pay7 k0_pay8 k0_pay9 x3 x2 x0) (k0_pay18 (F := Ideal) x10) (ix2 (stkIx h a) j)
      = pAt x n h a j := by
  rw [p_at, band_at i n H.hi, select_ite, score_at, lse_at, stack_sum, stk_mod]
  unfold pAt pBand
  by_cases hj : ok n a j
  · rw [if_pos hj, if_pos hj]
    refine congrArg Ideal.exp (congrArg₂ (· - ·) (congrArg (· * sc8) (Finset.sum_congr rfl fun d _ =>
      congrArg₂ (· * ·) (H.h0 _ _) (over_win x.k x2 x3 H.h2 H.h3 a j _ hj))) ?_)
    exact (congrArg (fun o => x10 (ix2 a o)) (Fin.ext (stk_div h a))).trans (H.hl a h)
  · rw [if_neg hj, if_neg hj]

theorem ds_pt (H : Pt x n i x0 x1 x2 x3 x4 x5 x6 x7 x8 x9 x10 x11) (h : Fin 4) (a : Fin 128) (j : Fin 256) :
    k0_pay20 (F := Ideal) (k0_pay10 i) (k0_pay13 (F := Ideal) x5 x4) (k0_pay15 (F := Ideal) k0_pay6 k0_pay7 k0_pay8 k0_pay9 x6 x7) (k0_pay16 (F := Ideal) x10)
        (k0_pay17 (F := Ideal) k0_pay6 k0_pay7 k0_pay8 k0_pay9 x3 x2 x0) (k0_pay18 (F := Ideal) x10) (ix2 (stkIx h a) j)
      = dsAt x n h a j := by
  rw [ds_at, p_pt H]
  unfold dsAt dPlain
  by_cases hj : ok n a j
  · refine congrArg (· * sc8) (congrArg (pAt x n h a j * ·) (congrArg₂ (· - ·) ?_ ?_))
    · refine (Finset.sum_congr rfl fun c _ => congrArg₂ (· * ·) (y_at x6 x7 (stkIx h a) c) (keys_at x5 x4 j c)).trans ((stack_sum _ h a _).trans
        (Finset.sum_congr rfl fun d _ => congrArg₂ (· * ·) (H.h6 _ _) (over_win x.v x4 x5 H.h4 H.h5 a j _ hj)))
    · rw [stk_mod]
      refine (stats_at x10 a _).trans ?_
      exact (congrArg (fun o => x10 (ix2 a o)) (stk_col4 h a)).trans (H.hd a h)
  · have e : pAt x n h a j = 0 := if_neg hj
    have e' : pBand (ok n a) (scoreOf x.q x.k n h a) (lseAt x n h a) j = 0 := e
    rw [e, e', zero_mul, zero_mul, zero_mul, zero_mul]

/-- Of the next block's rows. -/
theorem pn_pt (H : Pt x n i x0 x1 x2 x3 x4 x5 x6 x7 x8 x9 x10 x11) (h : Fin 4) (a j : Fin 128) :
    k0_pay27 (F := Ideal) (k0_pay11 i) x3 (k0_pay24 (F := Ideal) k0_pay6 k0_pay7 k0_pay8 k0_pay9 x1) x11 (ix2 (stkIx h a) j)
      = if hn : n.val < 31 then pAt x ⟨n.val + 1, by omega⟩ h a ⟨j.val, by omega⟩ else 0 := by
  rw [pn_at, next_at i n H.hi, select_ite, stk_mod]
  by_cases hn : n.val < 31
  · rw [dif_pos hn]
    unfold pAt pBand
    by_cases hj : a.val ≤ j.val
    · have hok : ok ⟨n.val + 1, by omega⟩ a ⟨j.val, by omega⟩ := ⟨hj, by show j.val ≤ a.val + 128; omega, Or.inl (by show 0 < n.val + 1; omega)⟩
      rw [if_pos hok, if_pos ⟨hn, by rw [stk_mod']; exact hj⟩]
      refine congrArg Ideal.exp (congrArg₂ (· - ·) (congrArg (· * sc8) ?_) ?_)
      · refine (Finset.sum_congr rfl fun c _ => congrArg (· * x3 (ix2 j c)) (q_at x1 (stkIx h a) c)).trans ((stack_sum _ h a _).trans
          (Finset.sum_congr rfl fun d _ => congrArg₂ (· * ·) (H.h1 hn _ _) ?_))
        exact (H.h3 j _).trans (win_next x.k n hn j _).symm
      · exact (congrArg (fun o => x11 (ix2 a o)) (Fin.ext (stk_div h a))).trans (H.hl' hn a h)
    · have hok : ¬ ok ⟨n.val + 1, by omega⟩ a ⟨j.val, by omega⟩ := fun e => hj e.1
      rw [if_neg hok, if_neg (fun e => hj (by have := e.2; rw [stk_mod'] at this; exact this))]
  · rw [dif_neg hn, if_neg (fun e => hn e.1)]

theorem dsn_pt (H : Pt x n i x0 x1 x2 x3 x4 x5 x6 x7 x8 x9 x10 x11) (h : Fin 4) (a j : Fin 128) :
    k0_pay28 (F := Ideal) k0_pay6 k0_pay7 k0_pay8 k0_pay9 (k0_pay11 i) x3 x5 (k0_pay24 (F := Ideal) k0_pay6 k0_pay7 k0_pay8 k0_pay9 x1) x8 x9 x11
        (ix2 (stkIx h a) j)
      = if hn : n.val < 31 then dsAt x ⟨n.val + 1, by omega⟩ h a ⟨j.val, by omega⟩ else 0 := by
  rw [dsn_at, pn_pt H]
  by_cases hn : n.val < 31
  · rw [dif_pos hn, dif_pos hn]
    unfold dsAt dPlain
    refine congrArg (· * sc8) (congrArg (pAt x ⟨n.val + 1, by omega⟩ h a ⟨j.val, by omega⟩ * ·) (congrArg₂ (· - ·) ?_ ?_))
    · refine (Finset.sum_congr rfl fun c _ => congrArg (· * x5 (ix2 j c)) (y_at x8 x9 (stkIx h a) c)).trans ((stack_sum _ h a _).trans
        (Finset.sum_congr rfl fun d _ => congrArg₂ (· * ·) (H.h8 hn _ _) ?_))
      exact (H.h5 j _).trans (win_next x.v n hn j _).symm
    · rw [stk_mod]
      exact (congrArg (fun o => x11 (ix2 a o)) (stk_col4 h a)).trans (H.hd' hn a h)
  · rw [dif_neg hn, dif_neg hn, zero_mul, zero_mul]

/-- What the point stores. -/
theorem dq_pt (H : Pt x n i x0 x1 x2 x3 x4 x5 x6 x7 x8 x9 x10 x11) (a : Fin 128) (c : Fin 256) :
    k0_pay21 (F := Ideal) k0_pay6 k0_pay7 k0_pay8 (k0_pay10 i) (k0_pay12 (F := Ideal) x3 x2) (k0_pay13 (F := Ideal) x5 x4)
        (k0_pay15 (F := Ideal) k0_pay6 k0_pay7 k0_pay8 k0_pay9 x6 x7) (k0_pay16 (F := Ideal) x10)
        (k0_pay17 (F := Ideal) k0_pay6 k0_pay7 k0_pay8 k0_pay9 x3 x2 x0) (k0_pay18 (F := Ideal) x10) (ix2 a c)
      = dqGrad x (rowIx n a) c := by
  rw [dq_at, dqGrad_row]
  refine Finset.sum_congr rfl fun j _ => ?_
  rw [ds_pt H, keys_at]
  by_cases hj : ok n a j
  · rw [over_win x.k x2 x3 H.h2 H.h3 a j c hj]
  · have e : dsAt x n ⟨c.val / 64, by omega⟩ a j = 0 := by
      unfold dsAt dPlain pBand
      rw [if_neg hj, zero_mul, zero_mul]
    rw [e, zero_mul, zero_mul]

theorem dv_pt (H : Pt x n i x0 x1 x2 x3 x4 x5 x6 x7 x8 x9 x10 x11) (j : Fin 128) (c : Fin 256) :
    k0_pay29 (F := Ideal) k0_pay6 k0_pay7 k0_pay8 k0_pay9 (k0_pay11 i) x3 (k0_pay15 (F := Ideal) k0_pay6 k0_pay7 k0_pay8 k0_pay9 x6 x7)
        (k0_pay19 (F := Ideal) (k0_pay10 i) (k0_pay17 (F := Ideal) k0_pay6 k0_pay7 k0_pay8 k0_pay9 x3 x2 x0) (k0_pay18 (F := Ideal) x10))
        (k0_pay24 (F := Ideal) k0_pay6 k0_pay7 k0_pay8 k0_pay9 x1) x8 x9 x11 (ix2 j c)
      = dvGrad x (rowIx n j) c := by
  rw [dv_at]
  unfold dvGrad
  rw [ofRows_row]
  refine congrArg₂ (· + ·) ?_ ?_
  · refine (Finset.sum_congr rfl fun r _ => congrArg (_ * ·) (y_at x6 x7 r c)).trans ((stack_col _ _ c).trans
      (Finset.sum_congr rfl fun a _ => congrArg₂ (· * ·) (p_pt H _ a _) (H.h6 a c)))
  · refine (Finset.sum_congr rfl fun r _ => congrArg (_ * ·) (y_at x8 x9 r c)).trans ((stack_col _ _ c).trans ?_)
    by_cases hn : n.val < 31
    · rw [dif_pos hn]
      exact Finset.sum_congr rfl fun a _ => congrArg₂ (· * ·) ((pn_pt H _ a j).trans (dif_pos hn)) (H.h8 hn a c)
    · rw [dif_neg hn]
      exact Finset.sum_eq_zero fun a _ => by rw [pn_pt H, dif_neg hn, zero_mul]

theorem dk_pt (H : Pt x n i x0 x1 x2 x3 x4 x5 x6 x7 x8 x9 x10 x11) (j : Fin 128) (c : Fin 256) :
    k0_pay2 (F := Ideal) (k0_pay14 (F := Ideal) k0_pay6 k0_pay7 k0_pay8 k0_pay9 x0)
        (k0_pay20 (F := Ideal) (k0_pay10 i) (k0_pay13 (F := Ideal) x5 x4) (k0_pay15 (F := Ideal) k0_pay6 k0_pay7 k0_pay8 k0_pay9 x6 x7) (k0_pay16 (F := Ideal) x10)
          (k0_pay17 (F := Ideal) k0_pay6 k0_pay7 k0_pay8 k0_pay9 x3 x2 x0) (k0_pay18 (F := Ideal) x10))
        (k0_pay24 (F := Ideal) k0_pay6 k0_pay7 k0_pay8 k0_pay9 x1)
        (k0_pay28 (F := Ideal) k0_pay6 k0_pay7 k0_pay8 k0_pay9 (k0_pay11 i) x3 x5 (k0_pay24 (F := Ideal) k0_pay6 k0_pay7 k0_pay8 k0_pay9 x1) x8 x9 x11) (ix2 j c)
      = dkGrad x (rowIx n j) c := by
  rw [dk_at]
  unfold dkGrad
  rw [ofRows_row]
  refine congrArg₂ (· + ·) ?_ ?_
  · refine (Finset.sum_congr rfl fun r _ => congrArg (_ * ·) (q_at x0 r c)).trans ((stack_col _ _ c).trans
      (Finset.sum_congr rfl fun a _ => congrArg₂ (· * ·) (ds_pt H _ a _) (H.h0 a c)))
  · refine (Finset.sum_congr rfl fun r _ => congrArg (_ * ·) (q_at x1 r c)).trans ((stack_col _ _ c).trans ?_)
    by_cases hn : n.val < 31
    · rw [dif_pos hn]
      exact Finset.sum_congr rfl fun a _ => congrArg₂ (· * ·) ((dsn_pt H _ a j).trans (dif_pos hn)) (H.h1 hn a c)
    · rw [dif_neg hn]
      exact Finset.sum_eq_zero fun a _ => by rw [dsn_pt H, dif_neg hn, zero_mul]

end Cert.Kernel6Ideal.Dil

end
-- ==== Proof.DilFwd.lean ====
/- The reference of the dilated attention's gradients, read at an entry: windows, band, scores and their exponentials. -/
module

public import proofs.«01_k».proof.Proof.Gen.Reference6Ideal.Run
public import proofs.«01_k».proof.Proof.DilSpec
public import proofs.«01_k».proof.Proof.Spec
public import Idealize.ShloMosaic.Lib.Claim

@[expose] public section

set_option maxRecDepth 16384

noncomputable section

namespace Cert.Reference6Ideal.Dil

open Idealize.ShloMosaic Idealize.ShloMosaic.TcCoe Idealize.SL.Sem
open Cert.K Cert.Reference6Ideal Cert.Reference6Ideal.Gen

/-- Arrays by block, row, head and column; their windows; by block, head, row and row of the window. -/
abbrev By : Type := FVec Ideal S32x128x4x64 .f32
abbrev Win : Type := FVec Ideal S32x256x4x64 .f32
abbrev Sco : Type := FVec Ideal S32x4x128x256 .f32
/-- One number for each block, head and row. -/
abbrev Row3 : Type := FVec Ideal S32x4x128 .f32
abbrev Col : Type := FVec Ideal S32x4x128x1 .f32
/-- By block, head, row and column. -/
abbrev Out : Type := FVec Ideal S32x4x128x64 .f32

/-- The rows cut into blocks and heads. -/
def blocks (x : FVec Ideal S4096x256 .bf16) : By :=
  shapeCast _ (shapeCast _ (extf .f32 x bitsLt_bf16_f32) shapeCasts_S4096x256_S4096x4x64) shapeCasts_S4096x4x64_S32x128x4x64

theorem blocks_at (x : FVec Ideal S4096x256 .bf16) (n : Fin 32) (i : Fin 128) (h : Fin 4) (d : Fin 64) :
    blocks x (ix4 n i h d) = x (ix2 (rowIx n i) (colIx h d)) := by
  pointwise [blocks]
  rfl

/-- The window of each block. -/
def window (b : By) : Win :=
  concatenate S32x256x4x64 1 [⟨S32x128x4x64, (concatenate S32x128x4x64 0 [⟨S1x128x4x64, (broadcastInDim S1x128x4x64 ![] bcast_S_S1x128x4x64 (constant S_ .f32 0x00000000#32))⟩, ⟨S31x128x4x64, (extractStridedSlice S31x128x4x64 ![0, 0, 0, 0] b slices_S32x128x4x64_S31x128x4x64_0_0_0_0)⟩] concatenates_S1x128x4x64_S31x128x4x64_S32x128x4x64_d0)⟩, ⟨S32x128x4x64, b⟩] concatenates_S32x128x4x64_S32x128x4x64_S32x256x4x64_d1

theorem window_at (x : FVec Ideal S4096x256 .bf16) (n : Fin 32) (j : Fin 256) (h : Fin 4) (d : Fin 64) :
    window (blocks x) (ix4 n j h d) = win x n j (colIx h d) := by
  pointwise [window, blocks_at]
  rfl

/-- The band. -/
def mask : IVec S32x4x128x256 1 :=
  broadcastInDim S32x4x128x256 ![0, 1, 2, 3] bcast_S32x1x128x256_S32x4x128x256_0_1_2_3 (broadcastInDim S32x1x128x256 ![0, 2, 3] bcast_S32x128x256_S32x1x128x256_0_2_3 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (broadcastInDim S32x1x1 ![0] bcast_S32_S32x1x1_0 (cmpi .sgt (iotaInDim S32 32 0) (broadcastInDim S32 ![] bcast_S_S32 (constantI S_ 32 0#32))))) (broadcastInDim S32x1x256 ![0, 1, 2] bcast_S1x1x256_S32x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

theorem mask_at (n : Fin 32) (h : Fin 4) (i : Fin 128) (j : Fin 256) : mask (ix4 n h i j) = if ok n i j then 1#1 else 0#1 := by
  pointwise [mask]
  exact ok_word n i j

/-- The scores, minus infinity outside the band. -/
def scores (q : By) (k : Win) : Sco :=
  select mask (mulf (Host.dotGeneral dot_S32x128x4x64_S32x256x4x64_S32x4x128x256_3_3_1_1_02_02 none q k) (broadcastInDim S32x4x128x256 ![] bcast_S_S32x4x128x256 (constant S_ .f32 0x3E000000#32))) (broadcastInDim S32x4x128x256 ![] bcast_S_S32x4x128x256 (id (constant S_ .f32 0xFF800000#32)))

theorem scores_at (q k : FVec Ideal S4096x256 .bf16) (n : Fin 32) (h : Fin 4) (i : Fin 128) (j : Fin 256) :
    scores (blocks q) (window (blocks k)) (ix4 n h i j) = masked (ok n i) (scoreOf q k n h i) j := by
  pointwise [scores, mask_at, blocks_at, window_at]
  rw [masked]
  by_cases hj : ok n i j
  · rw [if_pos hj, if_pos hj]; rfl
  · rw [if_neg hj, if_neg hj]; exact ninf

/-- A maximum over the last axis of four, at an entry of the result. -/
theorem hostMax_last {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce (FloatOps.maximumf (F := Ideal) (φ := .f32)) x init h hu j = (Finset.univ : Finset (Fin n3)).fold max
      (init (Shape.Idx.first hu)) (fun k => x (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) := by
  rw [Host.reduce_eq_fold, Shape.ReducesTo.fold_fiber_r4_a3]; rfl

/-- The largest score of each row. -/
def rowMax (s : Sco) : Row3 :=
  Host.reduce FloatOps.maximumf s (constant S_ .f32 0xFF800000#32) reducesTo_S32x4x128x256_S32x4x128_d3 h_S_

theorem rowMax_at (s : Sco) (n : Fin 32) (h : Fin 4) (i : Fin 128) : rowMax s (ix3 n h i) = top (fun j => s (ix4 n h i j)) := by
  rw [rowMax, hostMax_last]
  exact congrArg (fun b => (Finset.univ : Finset (Fin 256)).fold max b fun j => s (ix4 n h i j)) ninf

/-- The largest scores as columns. -/
def colMax (mx : Row3) : Col := broadcastInDim S32x4x128x1 ![0, 1, 2] bcast_S32x4x128_S32x4x128x1_0_1_2 mx

/-- The scores equal to their row's largest. -/
def ties (s : Sco) (mx : Row3) : Sco :=
  uitofp .f32 (cmpf .oeq s (broadcastInDim S32x4x128x256 ![0, 1, 2, 3] bcast_S32x4x128x1_S32x4x128x256_0_1_2_3 (shapeCast _ mx shapeCasts_S32x4x128_S32x4x128x1)))

theorem ties_at (s : Sco) (mx : Row3) (n : Fin 32) (h : Fin 4) (i : Fin 128) (j : Fin 256) :
    ties s mx (ix4 n h i j) = if s (ix4 n h i j) = mx (ix3 n h i) then 1 else 0 := by
  pointwise [ties]
  by_cases e : s (ix4 n h i j) = mx (ix3 n h i)
  · rw [if_pos e, decide_eq_true e]
    show (((1 : ℕ) : ℝ) : EReal) = 1
    simp
  · rw [if_neg e, decide_eq_false e]
    show (((0 : ℕ) : ℝ) : EReal) = 0
    simp

/-- The exponentials, relative to the row's largest score. -/
def expo (s : Sco) (mx : Row3) : Sco :=
  Host.exp (subf s (broadcastInDim S32x4x128x256 ![0, 1, 2, 3] bcast_S32x4x128x1_S32x4x128x256_0_1_2_3 (colMax mx)))

theorem expo_at (s : Sco) (mx : Row3) (n : Fin 32) (h : Fin 4) (i : Fin 128) (j : Fin 256) :
    expo s mx (ix4 n h i j) = Ideal.exp (s (ix4 n h i j) - mx (ix3 n h i)) := by
  pointwise [expo, colMax]

/-- A row's sum. -/
def rowSum (e : Sco) : Row3 := Host.reduceAdd e (constant S_ .f32 0x00000000#32) reducesTo_S32x4x128x256_S32x4x128_d3 h_S_

theorem rowSum_at (e : Sco) (n : Fin 32) (h : Fin 4) (i : Fin 128) : rowSum e (ix3 n h i) = ∑ j : Fin 256, e (ix4 n h i j) := by
  pointwise [rowSum]

/-- The row sums as columns. -/
def colSum (e : Sco) : Col := broadcastInDim S32x4x128x1 ![0, 1, 2] bcast_S32x4x128_S32x4x128x1_0_1_2 (rowSum e)

theorem colSum_at (e : Sco) (n : Fin 32) (h : Fin 4) (i : Fin 128) : colSum e (ix4 n h i 0) = ∑ j : Fin 256, e (ix4 n h i j) := by
  pointwise [colSum, rowSum_at]

/-- The exponentials' product with the values. -/
def mix (e : Sco) (v : Win) : Out := Host.dotGeneral dot_S32x4x128x256_S32x256x4x64_S32x4x128x64_3_1_2_3_01_02 none e v

theorem mix_at (e : Sco) (v : Win) (n : Fin 32) (h : Fin 4) (i : Fin 128) (d : Fin 64) :
    mix e v (ix4 n h i d) = ∑ j : Fin 256, e (ix4 n h i j) * v (ix4 n j h d) := by
  pointwise [mix]

/-- The first group's log-sums, and its outputs, by row and head. -/
def lses (mx : Row3) (e : Sco) : FVec Ideal S4096x4 .f32 :=
  shapeCast _ (transpose S32x128x4 [0, 2, 1] (shapeCast _ (addf (colMax mx) (Host.log (colSum e))) shapeCasts_S32x4x128x1_S32x4x128) transposes_S32x4x128_S32x128x4_0_2_1) shapeCasts_S32x128x4_S4096x4

theorem lses_at (mx : Row3) (e : Sco) (n : Fin 32) (h : Fin 4) (i : Fin 128) :
    lses mx e (ix2 (rowIx n i) h) = mx (ix3 n h i) + Ideal.log (∑ j : Fin 256, e (ix4 n h i j)) := by
  pointwise [lses, colMax, colSum_at, rowIx]

def outs (a : Out) (e : Sco) : FVec Ideal S4096x4x64 .f32 :=
  shapeCast _ (transpose S32x128x4x64 [0, 2, 1, 3] (Host.divf a (broadcastInDim S32x4x128x64 ![0, 1, 2, 3] bcast_S32x4x128x1_S32x4x128x64_0_1_2_3 (colSum e))) transposes_S32x4x128x64_S32x128x4x64_0_2_1_3) shapeCasts_S32x128x4x64_S4096x4x64

theorem outs_at (a : Out) (e : Sco) (n : Fin 32) (h : Fin 4) (i : Fin 128) (d : Fin 64) :
    outs a e (ix3 (rowIx n i) h d) = Ideal.div (a (ix4 n h i d)) (∑ j : Fin 256, e (ix4 n h i j)) := by
  pointwise [outs, colSum_at, rowIx]

end Cert.Reference6Ideal.Dil

end
-- ==== Proof.DilBwd.lean ====
/- The reference of the dilated attention's gradients, read at an entry: the merge over the groups and what comes back through it. -/
module

public import proofs.«01_k».proof.Proof.DilFwd

@[expose] public section

set_option maxRecDepth 16384

noncomputable section

namespace Cert.Reference6Ideal.Dil

open Idealize.ShloMosaic Idealize.ShloMosaic.TcCoe Idealize.SL.Sem
open Cert.K Cert.Reference6Ideal Cert.Reference6Ideal.Gen

/-- By group, row and head; and by column. -/
abbrev Grp : Type := FVec Ideal S3x4096x4 .f32
abbrev Grp1 : Type := FVec Ideal S1x4096x4 .f32
abbrev GrpO : Type := FVec Ideal S3x4096x4x64 .f32
/-- One number for each row and head. -/
abbrev Rh : Type := FVec Ideal S4096x4 .f32
abbrev Rho : Type := FVec Ideal S4096x4x64 .f32

/-- The groups' log-sums, and their outputs. -/
def stackL (l0 l1 l2 : Rh) : Grp :=
  concatenate S3x4096x4 0 [⟨S1x4096x4, (broadcastInDim S1x4096x4 ![1, 2] bcast_S4096x4_S1x4096x4_1_2 l0)⟩, ⟨S1x4096x4, (broadcastInDim S1x4096x4 ![1, 2] bcast_S4096x4_S1x4096x4_1_2 l1)⟩, ⟨S1x4096x4, (broadcastInDim S1x4096x4 ![1, 2] bcast_S4096x4_S1x4096x4_1_2 l2)⟩] concatenates_S1x4096x4_S1x4096x4_S1x4096x4_S3x4096x4_d0

theorem stackL_at (l0 l1 l2 : Rh) (g : Fin 3) (t : Fin 4096) (h : Fin 4) :
    stackL l0 l1 l2 (ix3 g t h) = three (l0 (ix2 t h)) (l1 (ix2 t h)) (l2 (ix2 t h)) g := by
  pointwise [stackL]
  fin_cases g <;> rfl

def stackO (o0 o1 o2 : Rho) : GrpO :=
  concatenate S3x4096x4x64 0 [⟨S1x4096x4x64, (broadcastInDim S1x4096x4x64 ![1, 2, 3] bcast_S4096x4x64_S1x4096x4x64_1_2_3 o0)⟩, ⟨S1x4096x4x64, (broadcastInDim S1x4096x4x64 ![1, 2, 3] bcast_S4096x4x64_S1x4096x4x64_1_2_3 o1)⟩, ⟨S1x4096x4x64, (broadcastInDim S1x4096x4x64 ![1, 2, 3] bcast_S4096x4x64_S1x4096x4x64_1_2_3 o2)⟩] concatenates_S1x4096x4x64_S1x4096x4x64_S1x4096x4x64_S3x4096x4x64_d0

theorem stackO_at (o0 o1 o2 : Rho) (g : Fin 3) (t : Fin 4096) (h : Fin 4) (d : Fin 64) :
    stackO o0 o1 o2 (ix4 g t h d) = three (o0 (ix3 t h d)) (o1 (ix3 t h d)) (o2 (ix3 t h d)) g := by
  pointwise [stackO]
  fin_cases g <;> rfl

/-- A maximum over the first axis of three, at an entry of the result. -/
theorem hostMax_first {n0 n1 n2 : ℕ} {t u : Shape} (x : (⟨3, ![n0, n1, n2]⟩ : Shape).Idx → EReal) (init : u.Idx → EReal)
    (h : (⟨3, ![n0, n1, n2]⟩ : Shape).ReducesTo [0] t) (hu : 0 < u.numel) (j : t.Idx) :
    Host.reduce (FloatOps.maximumf (F := Ideal) (φ := .f32)) x init h hu j = (Finset.univ : Finset (Fin n0)).fold max
      (init (Shape.Idx.first hu)) (fun k => x (ix3 k ⟨(j ⟨0, h.lt_r3_a0_0⟩).val, Shape.coordLt (j ⟨0, h.lt_r3_a0_0⟩) h.size_r3_a0_0⟩
        ⟨(j ⟨1, h.lt_r3_a0_1⟩).val, Shape.coordLt (j ⟨1, h.lt_r3_a0_1⟩) h.size_r3_a0_1⟩)) := by
  rw [Host.reduce_eq_fold, Shape.ReducesTo.fold_fiber_r3_a0]; rfl

/-- The largest of the groups' log-sums. -/
def maxG (l : Grp) : Rh := Host.reduce FloatOps.maximumf l (constant S_ .f32 0xFF800000#32) reducesTo_S3x4096x4_S4096x4_d0 h_S_

theorem maxG_at (l : Grp) (t : Fin 4096) (h : Fin 4) : maxG l (ix2 t h) = top (fun g => l (ix3 g t h)) := by
  rw [maxG, hostMax_first]
  exact congrArg (fun b => (Finset.univ : Finset (Fin 3)).fold max b fun g => l (ix3 g t h)) ninf

/-- Their exponentials, relative to it. -/
def expG (l : Grp) (mx : Rh) : Grp :=
  Host.exp (subf l (broadcastInDim S3x4096x4 ![0, 1, 2] bcast_S1x4096x4_S3x4096x4_0_1_2 (broadcastInDim S1x4096x4 ![1, 2] bcast_S4096x4_S1x4096x4_1_2 (maximumf (broadcastInDim S4096x4 ![] bcast_S_S4096x4 (constant S_ .f32 0xFF800000#32)) mx))))

theorem expG_at (l : Grp) (mx : Rh) (g : Fin 3) (t : Fin 4096) (h : Fin 4) :
    expG l mx (ix3 g t h) = Ideal.exp (l (ix3 g t h) - mx (ix2 t h)) := by
  pointwise [expG]
  rw [ninf, max_eq_right bot_le]

/-- The sum of the exponentials over the groups. -/
def sumG (e : Grp) : Grp1 :=
  broadcastInDim S1x4096x4 ![1, 2] bcast_S4096x4_S1x4096x4_1_2 (Host.reduceAdd e (constant S_ .f32 0x00000000#32) reducesTo_S3x4096x4_S4096x4_d0 h_S_)

theorem sumG_at (e : Grp) (t : Fin 4096) (h : Fin 4) : sumG e (ix3 0 t h) = ∑ g : Fin 3, e (ix3 g t h) := by
  pointwise [sumG]

/-- The groups' weights. -/
def wts (e : Grp) : FVec Ideal S3x4096x4x1 .f32 :=
  broadcastInDim S3x4096x4x1 ![0, 1, 2] bcast_S3x4096x4_S3x4096x4x1_0_1_2 (Host.divf e (broadcastInDim S3x4096x4 ![0, 1, 2] bcast_S1x4096x4_S3x4096x4_0_1_2 (sumG e)))

theorem wts_at (e : Grp) (g : Fin 3) (t : Fin 4096) (h : Fin 4) :
    wts e (ix4 g t h 0) = Ideal.div (e (ix3 g t h)) (∑ g : Fin 3, e (ix3 g t h)) := by
  pointwise [wts, sumG_at]

/-- The cotangents, the same for every group. -/
def cotG (y : FVec Ideal S4096x256 .f32) : GrpO :=
  broadcastInDim S3x4096x4x64 ![1, 2, 3] bcast_S4096x4x64_S3x4096x4x64_1_2_3 (shapeCast _ y shapeCasts_S4096x256_S4096x4x64)

theorem cotG_at (y : FVec Ideal S4096x256 .f32) (g : Fin 3) (t : Fin 4096) (h : Fin 4) (d : Fin 64) :
    cotG y (ix4 g t h d) = y (ix2 t (colIx h d)) := by
  pointwise [cotG]
  rfl

/-- The cotangents of the groups' outputs. -/
def dOuts (w : FVec Ideal S3x4096x4x1 .f32) (y : GrpO) : GrpO :=
  mulf (broadcastInDim S3x4096x4x64 ![0, 1, 2, 3] bcast_S3x4096x4x1_S3x4096x4x64_0_1_2_3 w) y

theorem dOuts_at (w : FVec Ideal S3x4096x4x1 .f32) (y : GrpO) (g : Fin 3) (t : Fin 4096) (h : Fin 4) (d : Fin 64) :
    dOuts w y (ix4 g t h d) = w (ix4 g t h 0) * y (ix4 g t h d) := by
  pointwise [dOuts]

/-- The cotangents of the groups' weights. -/
def dWts (y o : GrpO) : Grp :=
  Host.reduceAdd (shapeCast S3x4096x4x1 (Host.reduceAdd (mulf y o) (constant S_ .f32 0x00000000#32) reducesTo_S3x4096x4x64_S3x4096x4_d3 h_S_) shapeCasts_S3x4096x4_S3x4096x4x1) (constant S_ .f32 0x00000000#32) reducesTo_S3x4096x4x1_S3x4096x4_d3 h_S_

theorem dWts_at (y o : GrpO) (g : Fin 3) (t : Fin 4096) (h : Fin 4) :
    dWts y o (ix3 g t h) = ∑ d : Fin 64, y (ix4 g t h d) * o (ix4 g t h d) := by
  pointwise [dWts]
  exact Fin.sum_univ_one _

/-- The cotangents of the groups' log-sums. -/
def dLses (a e : Grp) (s : Grp1) : Grp :=
  mulf (addf (Host.divf a (broadcastInDim S3x4096x4 ![0, 1, 2] bcast_S1x4096x4_S3x4096x4_0_1_2 s)) (broadcastInDim S3x4096x4 ![1, 2] bcast_S4096x4_S3x4096x4_1_2 (Host.reduceAdd (Host.negf (shapeCast S1x4096x4 (Host.reduceAdd (mulf (mulf a (broadcastInDim S3x4096x4 ![0, 1, 2] bcast_S1x4096x4_S3x4096x4_0_1_2 (Host.divf (broadcastInDim S1x4096x4 ![] bcast_S_S1x4096x4 (constant S_ .f32 0x3F800000#32)) (mulf s s)))) e) (constant S_ .f32 0x00000000#32) reducesTo_S3x4096x4_S4096x4_d0 h_S_) shapeCasts_S4096x4_S1x4096x4)) (constant S_ .f32 0x00000000#32) reducesTo_S1x4096x4_S4096x4_d0 h_S_))) e

theorem dLses_at (a e : Grp) (s : Grp1) (g : Fin 3) (t : Fin 4096) (h : Fin 4) : dLses a e s (ix3 g t h)
    = (Ideal.div (a (ix3 g t h)) (s (ix3 0 t h)) + -(∑ g : Fin 3, a (ix3 g t h) * Ideal.div 1 (s (ix3 0 t h) * s (ix3 0 t h)) * e (ix3 g t h))) * e (ix3 g t h) := by
  pointwise [dLses]
  rw [Fin.sum_univ_one]

/-- The first group's outputs and log-sums, by block. -/
def firstO (o : GrpO) : Out :=
  transpose S32x4x128x64 [0, 2, 1, 3] (shapeCast S32x128x4x64 (shapeCast S4096x4x64 (extractStridedSlice S1x4096x4x64 ![0, 0, 0, 0] o slices_S3x4096x4x64_S1x4096x4x64_0_0_0_0) shapeCasts_S1x4096x4x64_S4096x4x64) shapeCasts_S4096x4x64_S32x128x4x64) transposes_S32x128x4x64_S32x4x128x64_0_2_1_3

theorem firstO_at (o : GrpO) (n : Fin 32) (h : Fin 4) (i : Fin 128) (d : Fin 64) : firstO o (ix4 n h i d) = o (ix4 0 (rowIx n i) h d) := by
  pointwise [firstO]
  rfl

def firstL (l : Grp) : Col :=
  broadcastInDim S32x4x128x1 ![0, 1, 2] bcast_S32x4x128_S32x4x128x1_0_1_2 (transpose S32x4x128 [0, 2, 1] (shapeCast S32x128x4 (shapeCast S4096x4 (extractStridedSlice S1x4096x4 ![0, 0, 0] l slices_S3x4096x4_S1x4096x4_0_0_0) shapeCasts_S1x4096x4_S4096x4) shapeCasts_S4096x4_S32x128x4) transposes_S32x128x4_S32x4x128_0_2_1)

theorem firstL_at (l : Grp) (n : Fin 32) (h : Fin 4) (i : Fin 128) : firstL l (ix4 n h i 0) = l (ix3 0 (rowIx n i) h) := by
  pointwise [firstL]
  rfl

/-- The cotangents of the exponentials' product with the values. -/
def overSum (o : Out) (s : Col) : Out := Host.divf o (broadcastInDim S32x4x128x64 ![0, 1, 2, 3] bcast_S32x4x128x1_S32x4x128x64_0_1_2_3 s)

theorem overSum_at (o : Out) (s : Col) (n : Fin 32) (h : Fin 4) (i : Fin 128) (d : Fin 64) :
    overSum o s (ix4 n h i d) = Ideal.div (o (ix4 n h i d)) (s (ix4 n h i 0)) := by
  pointwise [overSum]

/-- The cotangents of the windows of the values. -/
def dWinV (o : Out) (e : Sco) : Win :=
  transpose S32x256x4x64 [0, 3, 1, 2] (Host.dotGeneral dot_S32x4x128x64_S32x4x128x256_S32x4x64x256_2_2_3_3_01_01 none o e) transposes_S32x4x64x256_S32x256x4x64_0_3_1_2

theorem dWinV_at (o : Out) (e : Sco) (n : Fin 32) (j : Fin 256) (h : Fin 4) (d : Fin 64) :
    dWinV o e (ix4 n j h d) = ∑ i : Fin 128, o (ix4 n h i d) * e (ix4 n h i j) := by
  pointwise [dWinV]

/-- The cotangents of the scores, but for what the largest score adds. -/
def dSco (p : Out) (v : Win) (o a : Out) (s dl : Col) (e : Sco) : Sco :=
  mulf (addf (Host.dotGeneral dot_S32x4x128x64_S32x256x4x64_S32x4x128x256_3_3_2_1_01_02 none p v) (broadcastInDim S32x4x128x256 ![0, 1, 2] bcast_S32x4x128_S32x4x128x256_0_1_2 (Host.reduceAdd (addf (Host.negf (shapeCast S32x4x128x1 (Host.reduceAdd (mulf (mulf o (broadcastInDim S32x4x128x64 ![0, 1, 2, 3] bcast_S32x4x128x1_S32x4x128x64_0_1_2_3 (Host.divf (broadcastInDim S32x4x128x1 ![] bcast_S_S32x4x128x1 (constant S_ .f32 0x3F800000#32)) (mulf s s)))) a) (constant S_ .f32 0x00000000#32) reducesTo_S32x4x128x64_S32x4x128_d3 h_S_) shapeCasts_S32x4x128_S32x4x128x1)) (Host.divf dl s)) (constant S_ .f32 0x00000000#32) reducesTo_S32x4x128x1_S32x4x128_d3 h_S_))) e

theorem dSco_at (p : Out) (v : Win) (o a : Out) (s dl : Col) (e : Sco) (n : Fin 32) (h : Fin 4) (i : Fin 128) (j : Fin 256) :
    dSco p v o a s dl e (ix4 n h i j) = (∑ d : Fin 64, p (ix4 n h i d) * v (ix4 n j h d)
      + (-(∑ d : Fin 64, o (ix4 n h i d) * Ideal.div 1 (s (ix4 n h i 0) * s (ix4 n h i 0)) * a (ix4 n h i d))
        + Ideal.div (dl (ix4 n h i 0)) (s (ix4 n h i 0)))) * e (ix4 n h i j) := by
  pointwise [dSco]
  rw [Fin.sum_univ_one]

/-- The cotangents of the scaled products. -/
def dBlk (ds : Sco) (dl : Col) (ti : Sco) : Sco :=
  mulf (select mask (addf ds (mulf (broadcastInDim S32x4x128x256 ![0, 1, 2] bcast_S32x4x128_S32x4x128x256_0_1_2 (Host.divf (Host.reduceAdd (addf dl (shapeCast S32x4x128x1 (Host.reduceAdd (Host.negf ds) (constant S_ .f32 0x00000000#32) reducesTo_S32x4x128x256_S32x4x128_d3 h_S_) shapeCasts_S32x4x128_S32x4x128x1)) (constant S_ .f32 0x00000000#32) reducesTo_S32x4x128x1_S32x4x128_d3 h_S_) (Host.reduceAdd ti (constant S_ .f32 0x00000000#32) reducesTo_S32x4x128x256_S32x4x128_d3 h_S_))) ti)) (broadcastInDim S32x4x128x256 ![] bcast_S_S32x4x128x256 (constant S_ .f32 0x00000000#32))) (broadcastInDim S32x4x128x256 ![] bcast_S_S32x4x128x256 (constant S_ .f32 0x3E000000#32))

theorem dBlk_at (ds : Sco) (dl : Col) (ti : Sco) (n : Fin 32) (h : Fin 4) (i : Fin 128) (j : Fin 256) : dBlk ds dl ti (ix4 n h i j)
    = (if ok n i j then ds (ix4 n h i j) + Ideal.div (dl (ix4 n h i 0) + ∑ k : Fin 256, -ds (ix4 n h i k)) (∑ k : Fin 256, ti (ix4 n h i k)) * ti (ix4 n h i j) else 0) * sc8 := by
  pointwise [dBlk, mask_at]
  rw [Fin.sum_univ_one]
  by_cases hj : ok n i j
  · rw [if_pos hj, if_pos hj]; rfl
  · rw [if_neg hj, if_neg hj]; exact (if_neg (by decide)).trans (zero_mul sc8).symm

/-- The cotangents of the windows of the keys. -/
def dWinK (s : Sco) (q : By) : Win :=
  transpose S32x256x4x64 [0, 2, 1, 3] (Host.dotGeneral dot_S32x4x128x256_S32x128x4x64_S32x4x256x64_2_1_3_3_01_02 none s q) transposes_S32x4x256x64_S32x256x4x64_0_2_1_3

theorem dWinK_at (s : Sco) (q : By) (n : Fin 32) (j : Fin 256) (h : Fin 4) (d : Fin 64) :
    dWinK s q (ix4 n j h d) = ∑ i : Fin 128, s (ix4 n h i j) * q (ix4 n i h d) := by
  pointwise [dWinK]

/-- The gradient from the cotangents of the windows: each block's own part, and the next block's part of its block before. -/
def unWin (w : Win) : FVec Ideal S4096x256 .f32 :=
  shapeCast _ (shapeCast S4096x4x64 (addf (extractStridedSlice S32x128x4x64 ![0, 128, 0, 0] w slices_S32x256x4x64_S32x128x4x64_0_128_0_0) (pad S32x128x4x64 ![0, 0, 0, 0] ![1, 0, 0, 0] ![0, 0, 0, 0] (extractStridedSlice S31x128x4x64 ![1, 0, 0, 0] (extractStridedSlice S32x128x4x64 ![0, 0, 0, 0] w slices_S32x256x4x64_S32x128x4x64_0_0_0_0) slices_S32x128x4x64_S31x128x4x64_1_0_0_0) (constant S_ .f32 0x00000000#32) pads_S31x128x4x64_S32x128x4x64_010_000_000_000 h_S_)) shapeCasts_S32x128x4x64_S4096x4x64) shapeCasts_S4096x4x64_S4096x256

theorem unWin_at (w : Win) (t : Fin 4096) (c : Fin 256) : unWin w (ix2 t c)
    = w (ix4 ⟨t.val / 128, by omega⟩ ⟨128 + t.val % 128, by omega⟩ ⟨c.val / 64, by omega⟩ ⟨c.val % 64, by omega⟩)
      + if hn : t.val / 128 < 31 then w (ix4 ⟨t.val / 128 + 1, by omega⟩ ⟨t.val % 128, by omega⟩ ⟨c.val / 64, by omega⟩ ⟨c.val % 64, by omega⟩) else 0 := by
  pointwise [unWin]
  have h1 : t.val % 128 < 128 := Nat.mod_lt _ (by decide)
  have h2 : c.val / 64 < 4 := by omega
  have h3 : c.val % 64 < 64 := Nat.mod_lt _ (by decide)
  refine congrArg (HAdd.hAdd _) ?_
  by_cases hn : t.val / 128 < 31
  · refine (dif_pos ⟨hn, h1, h2, h3⟩).trans ((?_ : _ = _).trans (dif_pos hn).symm)
    refine congrArg w (congrArg (fun a : Fin 32 => ix4 a _ _ _) (Fin.ext ?_))
    exact Nat.add_comm _ _
  · refine (dif_neg fun h => hn h.1).trans (?_ : (0 : EReal) = _)
    exact (dif_neg (e := fun _ => (0 : EReal)) hn).symm

/-- The gradient of the queries. -/
def dQ (s : Sco) (k : Win) : FVec Ideal S4096x256 .f32 :=
  shapeCast _ (shapeCast S4096x4x64 (transpose S32x128x4x64 [0, 2, 1, 3] (Host.dotGeneral dot_S32x4x128x256_S32x256x4x64_S32x4x128x64_3_1_2_3_01_02 none s k) transposes_S32x4x128x64_S32x128x4x64_0_2_1_3) shapeCasts_S32x128x4x64_S4096x4x64) shapeCasts_S4096x4x64_S4096x256

theorem dQ_at (s : Sco) (k : Win) (t : Fin 4096) (c : Fin 256) : dQ s k (ix2 t c)
    = ∑ j : Fin 256, s (ix4 ⟨t.val / 128, by omega⟩ ⟨c.val / 64, by omega⟩ ⟨t.val % 128, by omega⟩ j) * k (ix4 ⟨t.val / 128, by omega⟩ j ⟨c.val / 64, by omega⟩ ⟨c.val % 64, by omega⟩) := by
  pointwise [dQ]

end Cert.Reference6Ideal.Dil

end
-- ==== Proof.DilHost.lean ====
/- The row statistics the launch is entered with: the merged log-sums and the products of output and cotangents. -/
module

public import proofs.«01_k».proof.Proof.DilPt
public import proofs.«01_k».proof.Proof.DilBwd
public import Idealize.ShloMosaic.Lib.Claim

@[expose] public section

set_option maxRecDepth 16384

noncomputable section

namespace Cert.Kernel6Ideal.Dil

open Idealize.ShloMosaic Idealize.ShloMosaic.TcCoe Idealize.SL.Sem
open Cert.K Cert.Kernel6Ideal Cert.Kernel6Ideal.Gen
open Cert.Reference6Ideal.Dil (rowMax expo lses outs mix scores blocks window rowMax_at expo_at lses_at outs_at mix_at scores_at window_at)

/-- One number for each row and head, and a head's columns of it. -/
abbrev Rh : Type := FVec Ideal S4096x4 .f32
abbrev Rho : Type := FVec Ideal S4096x4x64 .f32

/-- The largest of the groups' log-sums; an exponential relative to it. -/
def topR (l0 l1 l2 : Rh) : Rh := maximumf (maximumf l0 l1) l2
def expR (l t : Rh) : Rh := Host.exp (subf l t)
/-- A group's weighted output. -/
def wtR (e z : Rh) (o : Rho) : Rho :=
  mulf (broadcastInDim S4096x4x64 ![0, 1, 2] bcast_S4096x4x1_S4096x4x64_0_1_2 (broadcastInDim S4096x4x1 ![0, 1] bcast_S4096x4_S4096x4x1_0_1 (Host.divf e z))) o
/-- The products of output and cotangents. -/
def dotR (y : FVec Ideal S4096x256 .f32) (a : Rho) : Rh :=
  Host.reduceAdd (mulf (shapeCast _ y shapeCasts_S4096x256_S4096x4x64) a) (constant S_ .f32 0x00000000#32) reducesTo_S4096x4x64_S4096x4_d2 h_S_
/-- The statistics side by side. -/
def sideR (a b : Rh) : FVec Ideal S4096x128 .f32 :=
  concatenate S4096x128 1 [⟨S4096x4, a⟩, ⟨S4096x4, b⟩, ⟨S4096x120, broadcastInDim S4096x120 ![] bcast_S_S4096x120 (constant S_ .f32 0x00000000#32)⟩] concatenates_S4096x4_S4096x4_S4096x120_S4096x128_d1

theorem wtR_at (e z : Rh) (o : Rho) (t : Fin 4096) (h : Fin 4) (d : Fin 64) :
    wtR e z o (ix3 t h d) = Ideal.div (e (ix2 t h)) (z (ix2 t h)) * o (ix3 t h d) := by
  pointwise [wtR]

theorem dotR_at (y : FVec Ideal S4096x256 .f32) (a : Rho) (t : Fin 4096) (h : Fin 4) :
    dotR y a (ix2 t h) = ∑ d : Fin 64, y (ix2 t (colIx h d)) * a (ix3 t h d) := by
  pointwise [dotR]
  rfl

theorem sideR_lo (a b : Rh) (t : Fin 4096) (h : Fin 4) : sideR a b (ix2 t ⟨h.val, by omega⟩) = a (ix2 t h) := by
  pointwise [sideR]

theorem sideR_hi (a b : Rh) (t : Fin 4096) (h : Fin 4) : sideR a b (ix2 t ⟨4 + h.val, by omega⟩) = b (ix2 t h) := by
  pointwise [sideR]

/-- The merge over the groups. -/
def sumR (t l0 l1 l2 : Rh) : Rh := addf (addf (expR l0 t) (expR l1 t)) (expR l2 t)
def attR (t z l0 l1 l2 : Rh) (o0 o1 o2 : Rho) : Rho := addf (addf (wtR (expR l0 t) z o0) (wtR (expR l1 t) z o1)) (wtR (expR l2 t) z o2)
def mergeR (l0 l1 l2 : Rh) (o0 o1 o2 : Rho) (y : FVec Ideal S4096x256 .f32) : FVec Ideal S4096x128 .f32 :=
  sideR (addf (topR l0 l1 l2) (Host.log (sumR (topR l0 l1 l2) l0 l1 l2)))
    (dotR y (attR (topR l0 l1 l2) (sumR (topR l0 l1 l2) l0 l1 l2) l0 l1 l2 o0 o1 o2))

theorem top_three (a b c : EReal) : top (three a b c) = max (max a b) c := by
  unfold top three
  rw [show (Finset.univ : Finset (Fin 3)) = {0, 1, 2} from rfl, Finset.fold_insert (by decide), Finset.fold_insert (by decide), Finset.fold_singleton]
  show max a (max b (max c ⊥)) = _
  rw [max_eq_left bot_le, max_assoc]

theorem topR_at (l0 l1 l2 : Rh) (t : Fin 4096) (h : Fin 4) :
    topR l0 l1 l2 (ix2 t h) = top (three (l0 (ix2 t h)) (l1 (ix2 t h)) (l2 (ix2 t h))) := by
  rw [top_three]; rfl

theorem expR_at (l t : Rh) (i : Fin 4096) (h : Fin 4) : expR l t (ix2 i h) = Ideal.exp (l (ix2 i h) - t (ix2 i h)) := by
  pointwise [expR]

theorem sumR_at (l0 l1 l2 : Rh) (t : Fin 4096) (h : Fin 4) :
    sumR (topR l0 l1 l2) l0 l1 l2 (ix2 t h) = den (three (l0 (ix2 t h)) (l1 (ix2 t h)) (l2 (ix2 t h))) := by
  pointwise [sumR, expR_at, topR_at]
  unfold den
  rw [Fin.sum_univ_three]
  rfl

theorem mergeR_lo (l0 l1 l2 : Rh) (o0 o1 o2 : Rho) (y : FVec Ideal S4096x256 .f32) (t : Fin 4096) (h : Fin 4) :
    mergeR l0 l1 l2 o0 o1 o2 y (ix2 t ⟨h.val, by omega⟩) = lseOf (three (l0 (ix2 t h)) (l1 (ix2 t h)) (l2 (ix2 t h))) := by
  rw [mergeR, sideR_lo]
  pointwise [topR_at, sumR_at]
  rfl

theorem mergeR_hi (l0 l1 l2 : Rh) (o0 o1 o2 : Rho) (y : FVec Ideal S4096x256 .f32) (t : Fin 4096) (h : Fin 4) :
    mergeR l0 l1 l2 o0 o1 o2 y (ix2 t ⟨4 + h.val, by omega⟩) = ∑ d : Fin 64, y (ix2 t (colIx h d))
      * ∑ g : Fin 3, prob (three (l0 (ix2 t h)) (l1 (ix2 t h)) (l2 (ix2 t h))) g * three (o0 (ix3 t h d)) (o1 (ix3 t h d)) (o2 (ix3 t h d)) g := by
  rw [mergeR, sideR_hi, dotR_at]
  refine Finset.sum_congr rfl fun d _ => congrArg (y (ix2 t (colIx h d)) * ·) ?_
  pointwise [attR, wtR_at, expR_at, topR_at, sumR_at]
  rw [Fin.sum_univ_three]
  rfl

/-- The statistics from the masked scores, the windows of the values, the other groups and the cotangents. -/
def stats (s : FVec Ideal S32x4x128x256 .f32) (w : FVec Ideal S32x256x4x64 .f32) (o1 : Rho) (l1 : Rh) (o2 : Rho) (l2 : Rh) (y : FVec Ideal S4096x256 .f32) :
    FVec Ideal S4096x128 .f32 :=
  mergeR (lses (rowMax s) (expo s (rowMax s))) l1 l2 (outs (mix (expo s (rowMax s)) w) (expo s (rowMax s))) o1 o2 y

end Cert.Kernel6Ideal.Dil

end
-- ==== Proof.DilEntry.lean ====
/- The buffers the launch is entered with. -/
module

public import proofs.«01_k».proof.Proof.DilHost

@[expose] public section

set_option maxRecDepth 16384

noncomputable section

namespace Cert.Kernel6Ideal.Dil

open Idealize.ShloMosaic Idealize.ShloMosaic.TcCoe Idealize.SL.Sem Idealize.ShloMosaic.StableHlo
open Cert.K Cert.Kernel6Ideal Cert.Kernel6Ideal.Gen
open Cert.Reference6Ideal.Dil (scores blocks window mask lses outs mix expo colSum rowSum colMax rowMax)

/-- The last host operations, in three pieces: the first group's log-sums and outputs, the merge, and the statistics side by side. -/
abbrev opsA : List (HloOp τ sig (Elt Ideal)) := hostOps0_2.take 19
abbrev opsB : List (HloOp τ sig (Elt Ideal)) := (hostOps0_2.drop 19).dropLast
abbrev opsC : List (HloOp τ sig (Elt Ideal)) := hostOps0_2.drop 51

theorem split2 (V0 : Valuation τ sig (Elt Ideal)) : after hostOps0_2 V0 = after opsC (after opsB (after opsA V0)) := by
  rw [← after_append, ← after_append]; rfl

variable (V0 : Valuation τ sig (Elt Ideal))

/-- A buffer's contents. -/
abbrev rd (r : Ref sig .tc) := V0 (Proc.devRef .tc r)

set_option maxHeartbeats 1000000 in
theorem a68 : (after opsA V0 (Proc.devRef .tc main_v68) : FVec Ideal S4096x4 .f32)
    = lses (rowMax (rd V0 main_v51)) (expo (rd V0 main_v51) (rowMax (rd V0 main_v51))) := by
  simp only [opsA, hostOps0_2, List.take_succ_cons, List.take_zero]
  after_results_simp
  rfl

set_option maxHeartbeats 1000000 in
theorem a66 : (after opsA V0 (Proc.devRef .tc main_v66) : FVec Ideal S4096x4x64 .f32)
    = outs (mix (expo (rd V0 main_v51) (rowMax (rd V0 main_v51))) (rd V0 main_v18)) (expo (rd V0 main_v51) (rowMax (rd V0 main_v51))) := by
  simp only [opsA, hostOps0_2, List.take_succ_cons, List.take_zero]
  after_results_simp
  rfl

set_option maxHeartbeats 1000000 in
theorem b97 : (after opsB V0 (Proc.devRef .tc main_v97) : FVec Ideal S4096x4 .f32)
    = addf (topR (rd V0 main_v68) (rd V0 main_arg4) (rd V0 main_arg6))
      (Host.log (sumR (topR (rd V0 main_v68) (rd V0 main_arg4) (rd V0 main_arg6)) (rd V0 main_v68) (rd V0 main_arg4) (rd V0 main_arg6))) := by
  simp only [opsB, hostOps0_2, List.drop_succ_cons, List.drop_zero, List.dropLast]
  after_results_simp
  rfl

set_option maxHeartbeats 1000000 in
theorem b95 : (after opsB V0 (Proc.devRef .tc main_v95) : FVec Ideal S4096x4 .f32)
    = dotR (rd V0 main_arg7) (attR (topR (rd V0 main_v68) (rd V0 main_arg4) (rd V0 main_arg6))
        (sumR (topR (rd V0 main_v68) (rd V0 main_arg4) (rd V0 main_arg6)) (rd V0 main_v68) (rd V0 main_arg4) (rd V0 main_arg6))
        (rd V0 main_v68) (rd V0 main_arg4) (rd V0 main_arg6) (rd V0 main_v66) (rd V0 main_arg3) (rd V0 main_arg5)) := by
  simp only [opsB, hostOps0_2, List.drop_succ_cons, List.drop_zero, List.dropLast]
  after_results_simp
  rfl

theorem b98 : (after opsB V0 (Proc.devRef .tc main_v98) : FVec Ideal S4096x120 .f32)
    = (broadcastInDim S4096x120 ![] bcast_S_S4096x120 (constant S_ .f32 0x00000000#32) : FVec Ideal S4096x120 .f32) := by
  simp only [opsB, hostOps0_2, List.drop_succ_cons, List.drop_zero, List.dropLast]
  after_results_simp

theorem c99 : (after opsC V0 (Proc.devRef .tc main_v99) : FVec Ideal S4096x128 .f32)
    = concatenate S4096x128 1 [⟨S4096x4, rd V0 main_v97⟩, ⟨S4096x4, rd V0 main_v95⟩, ⟨S4096x120, rd V0 main_v98⟩] concatenates_S4096x4_S4096x4_S4096x120_S4096x128_d1 := by
  simp only [opsC, hostOps0_2, List.drop_succ_cons, List.drop_zero]
  rw [after_cons, after_nil, nary_result]
  rfl

theorem keepA : after opsA V0 (Proc.devRef .tc main_arg3) = rd V0 main_arg3 ∧ after opsA V0 (Proc.devRef .tc main_arg4) = rd V0 main_arg4
    ∧ after opsA V0 (Proc.devRef .tc main_arg5) = rd V0 main_arg5 ∧ after opsA V0 (Proc.devRef .tc main_arg6) = rd V0 main_arg6
    ∧ after opsA V0 (Proc.devRef .tc main_arg7) = rd V0 main_arg7 := by
  simp only [opsA, hostOps0_2, List.take_succ_cons, List.take_zero]
  refine ⟨?_, ?_, ?_, ?_, ?_⟩ <;> after_results_simp

/-- The statistics, after the last host operations. -/
theorem stage2 : (after hostOps0_2 V0 (Proc.devRef .tc main_v99) : FVec Ideal S4096x128 .f32)
    = stats (rd V0 main_v51) (rd V0 main_v18) (rd V0 main_arg3) (rd V0 main_arg4) (rd V0 main_arg5) (rd V0 main_arg6) (rd V0 main_arg7) := by
  rw [split2, c99, show rd (after opsB (after opsA V0)) main_v97 = _ from b97 _, show rd (after opsB (after opsA V0)) main_v95 = _ from b95 _,
    show rd (after opsB (after opsA V0)) main_v98 = _ from b98 _, show rd (after opsA V0) main_v68 = _ from a68 V0, show rd (after opsA V0) main_v66 = _ from a66 V0]
  obtain ⟨h3, h4, h5, h6, h7⟩ := keepA V0
  rw [show rd (after opsA V0) main_arg3 = _ from h3, show rd (after opsA V0) main_arg4 = _ from h4, show rd (after opsA V0) main_arg5 = _ from h5,
    show rd (after opsA V0) main_arg6 = _ from h6, show rd (after opsA V0) main_arg7 = _ from h7]
  rfl

/-- The masked scores, after the operations before. -/
theorem stage1 : (after hostOps0_1 V0 (Proc.devRef .tc main_v51) : FVec Ideal S32x4x128x256 .f32)
    = select (broadcastInDim S32x4x128x256 ![0, 1, 2, 3] bcast_S32x1x128x256_S32x4x128x256_0_1_2_3 (rd V0 main_v50)) (rd V0 main_v21)
      (broadcastInDim S32x4x128x256 ![] bcast_S_S32x4x128x256 (id (rd V0 main_cst_6))) := by
  entry_read
  rfl

theorem keep1 : after hostOps0_1 V0 (Proc.devRef .tc main_v18) = rd V0 main_v18 ∧ after hostOps0_1 V0 (Proc.devRef .tc main_arg3) = rd V0 main_arg3
    ∧ after hostOps0_1 V0 (Proc.devRef .tc main_arg4) = rd V0 main_arg4 ∧ after hostOps0_1 V0 (Proc.devRef .tc main_arg5) = rd V0 main_arg5
    ∧ after hostOps0_1 V0 (Proc.devRef .tc main_arg6) = rd V0 main_arg6 ∧ after hostOps0_1 V0 (Proc.devRef .tc main_arg7) = rd V0 main_arg7 := by
  refine ⟨?_, ?_, ?_, ?_, ?_, ?_⟩ <;> entry_read <;> rfl

/-- The scores and the windows of the values, after the first operations. -/
theorem stage0 : (after hostOps0 V0 (Proc.devRef .tc main_v21) : FVec Ideal S32x4x128x256 .f32)
      = mulf (Host.dotGeneral dot_S32x128x4x64_S32x256x4x64_S32x4x128x256_3_3_1_1_02_02 none (blocks (rd V0 main_arg0)) (window (blocks (rd V0 main_arg1))))
        (broadcastInDim S32x4x128x256 ![] bcast_S_S32x4x128x256 (constant S_ .f32 0x3E000000#32))
    ∧ (after hostOps0 V0 (Proc.devRef .tc main_v18) : FVec Ideal S32x256x4x64 .f32) = window (blocks (rd V0 main_arg2))
    ∧ (after hostOps0 V0 (Proc.devRef .tc main_cst_6) : FVec Ideal S_ .f32) = (constant S_ .f32 0xFF800000#32 : FVec Ideal S_ .f32)
    ∧ broadcastInDim S32x4x128x256 ![0, 1, 2, 3] bcast_S32x1x128x256_S32x4x128x256_0_1_2_3 (after hostOps0 V0 (Proc.devRef .tc main_v50) : IVec S32x1x128x256 1) = mask := by
  refine ⟨?_, ?_, ?_, ?_⟩ <;> (simp only [hostOps0]; after_results_simp) <;> rfl

theorem keep0 : after hostOps0 V0 (Proc.devRef .tc main_arg3) = rd V0 main_arg3
    ∧ after hostOps0 V0 (Proc.devRef .tc main_arg4) = rd V0 main_arg4 ∧ after hostOps0 V0 (Proc.devRef .tc main_arg5) = rd V0 main_arg5
    ∧ after hostOps0 V0 (Proc.devRef .tc main_arg6) = rd V0 main_arg6 ∧ after hostOps0 V0 (Proc.devRef .tc main_arg7) = rd V0 main_arg7 := by
  simp only [hostOps0]
  refine ⟨?_, ?_, ?_, ?_, ?_⟩ <;> after_results_simp

/-- The masked scores, after both. -/
theorem stage01 : (after hostOps0_1 (after hostOps0 V0) (Proc.devRef .tc main_v51) : FVec Ideal S32x4x128x256 .f32)
    = scores (blocks (rd V0 main_arg0)) (window (blocks (rd V0 main_arg1))) := by
  obtain ⟨e21, -, e6, e50⟩ := stage0 V0
  refine (stage1 _).trans ?_
  rw [show rd (after hostOps0 V0) main_v21 = _ from e21, show rd (after hostOps0 V0) main_cst_6 = _ from e6]
  exact congrArg (fun k => select k _ _) e50

/-- The statistics the launch is entered with. -/
theorem V_stats (m : (ℓ : Loc nD τ sig) → Buf (Elt Ideal) ℓ) (c : Dev nD) : (V m c main_v99 : FVec Ideal S4096x128 .f32)
    = stats (scores (blocks (m ((c.tc : Thread nD τ).loc main_arg0))) (window (blocks (m ((c.tc : Thread nD τ).loc main_arg1)))))
      (window (blocks (m ((c.tc : Thread nD τ).loc main_arg2)))) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  show after (hostOps0 ++ (hostOps0_1 ++ (hostOps0_2 ++ []))) (fun b => m (c, b)) (Proc.devRef .tc main_v99) = _
  rw [List.append_nil, after_append, after_append]
  generalize hV : (fun b => m (c, b)) = W
  obtain ⟨k18, k3, k4, k5, k6, k7⟩ := keep1 (after hostOps0 W)
  obtain ⟨j3, j4, j5, j6, j7⟩ := keep0 W
  obtain ⟨-, e18, -, -⟩ := stage0 W
  refine (stage2 _).trans ?_
  rw [show rd (after hostOps0_1 (after hostOps0 W)) main_v51 = _ from stage01 W, show rd (after hostOps0_1 (after hostOps0 W)) main_v18 = _ from k18,
    show rd (after hostOps0_1 (after hostOps0 W)) main_arg3 = _ from k3, show rd (after hostOps0_1 (after hostOps0 W)) main_arg4 = _ from k4,
    show rd (after hostOps0_1 (after hostOps0 W)) main_arg5 = _ from k5, show rd (after hostOps0_1 (after hostOps0 W)) main_arg6 = _ from k6,
    show rd (after hostOps0_1 (after hostOps0 W)) main_arg7 = _ from k7]
  rw [show rd (after hostOps0 W) main_arg3 = _ from j3, show rd (after hostOps0 W) main_arg4 = _ from j4, show rd (after hostOps0 W) main_arg5 = _ from j5,
    show rd (after hostOps0 W) main_arg6 = _ from j6, show rd (after hostOps0 W) main_arg7 = _ from j7, show rd (after hostOps0 W) main_v18 = _ from e18]
  subst hV
  rfl

end Cert.Kernel6Ideal.Dil

end
-- ==== Proof.DilFirst.lean ====
/- The first head group's log-sums and outputs, as the entries of its rows give them. -/
module

public import proofs.«01_k».proof.Proof.DilBwd

@[expose] public section

noncomputable section

namespace Cert.Reference6Ideal.Dil

open Idealize.ShloMosaic Idealize.ShloMosaic.TcCoe
open Cert.K

variable (x : Args)

/-- The masked scores, and their exponentials. -/
abbrev sA : Sco := scores (blocks x.q) (window (blocks x.k))
abbrev eA : Sco := expo (sA x) (rowMax (sA x))

theorem row_sA (n : Fin 32) (h : Fin 4) (i : Fin 128) : (fun j => sA x (ix4 n h i j)) = band x n h i :=
  funext fun j => scores_at x.q x.k n h i j

theorem mxA_at (n : Fin 32) (h : Fin 4) (i : Fin 128) : rowMax (sA x) (ix3 n h i) = top (band x n h i) := by
  rw [rowMax_at, row_sA]

theorem eA_at (n : Fin 32) (h : Fin 4) (i : Fin 128) (j : Fin 256) : eA x (ix4 n h i j) = ex (band x n h i) j := by
  rw [eA, expo_at, mxA_at]
  exact congrArg (fun b => Ideal.exp (b - top (band x n h i))) (scores_at x.q x.k n h i j)

theorem sumA_at (n : Fin 32) (h : Fin 4) (i : Fin 128) : ∑ j : Fin 256, eA x (ix4 n h i j) = den (band x n h i) :=
  Finset.sum_congr rfl fun j _ => eA_at x n h i j

theorem lA_at (n : Fin 32) (h : Fin 4) (i : Fin 128) : lses (rowMax (sA x)) (eA x) (ix2 (rowIx n i) h) = lseOf (band x n h i) := by
  rw [lses_at, mxA_at, sumA_at]
  rfl

theorem mixA_at (n : Fin 32) (h : Fin 4) (i : Fin 128) (d : Fin 64) :
    mix (eA x) (window (blocks x.v)) (ix4 n h i d) = ∑ j : Fin 256, ex (band x n h i) j * valOf x.v n h j d := by
  rw [mix_at]
  exact Finset.sum_congr rfl fun j _ => congrArg₂ (· * ·) (eA_at x n h i j) (window_at x.v n j h d)

theorem oA_at (n : Fin 32) (h : Fin 4) (i : Fin 128) (d : Fin 64) :
    outs (mix (eA x) (window (blocks x.v))) (eA x) (ix3 (rowIx n i) h d) = outOf (band x n h i) fun j => valOf x.v n h j d := by
  rw [outs_at, mixA_at, sumA_at]
  rfl

end Cert.Reference6Ideal.Dil

end
-- ==== Proof.DilArr.lean ====
/- The gradients the launch leaves. -/
module

public import proofs.«01_k».proof.Proof.DilEntry
public import proofs.«01_k».proof.Proof.DilFirst

@[expose] public section

set_option maxRecDepth 16384

noncomputable section

namespace Cert.Kernel6Ideal.Dil

open Idealize.ShloMosaic Idealize.ShloMosaic.TcCoe Idealize.SL.Sem
open Cert.K Cert.Kernel6Ideal Cert.Kernel6Ideal.Gen
open Cert.Reference6Ideal.Dil (sA eA lA_at oA_at window blocks)

/-- The statistics of a row. -/
abbrev statsX (x : Args) : FVec Ideal S4096x128 .f32 := stats (sA x) (window (blocks x.v)) x.o1 x.l1 x.o2 x.l2 x.y

theorem statsX_lo (x : Args) (n : Fin 32) (a : Fin 128) (h : Fin 4) : statsX x (ix2 (rowIx n a) ⟨h.val, by omega⟩) = lseAt x n h a := by
  rw [statsX, stats, mergeR_lo, lA_at]
  rfl

theorem statsX_hi (x : Args) (n : Fin 32) (a : Fin 128) (h : Fin 4) : statsX x (ix2 (rowIx n a) ⟨4 + h.val, by omega⟩) = deltaAt x n h a := by
  rw [statsX, stats, mergeR_hi, lA_at]
  unfold deltaAt delta
  refine Finset.sum_congr rfl fun d _ => ?_
  rw [oA_at]
  rfl

variable (m : (ℓ : Loc nD τ sig) → Buf (Elt Ideal) ℓ)

/-- The arguments. -/
def args (c : Dev nD) : Args where
  q := m ((c.tc : Thread nD τ).loc main_arg0)
  k := m ((c.tc : Thread nD τ).loc main_arg1)
  v := m ((c.tc : Thread nD τ).loc main_arg2)
  o1 := m ((c.tc : Thread nD τ).loc main_arg3)
  l1 := m ((c.tc : Thread nD τ).loc main_arg4)
  o2 := m ((c.tc : Thread nD τ).loc main_arg5)
  l2 := m ((c.tc : Thread nD τ).loc main_arg6)
  y := m ((c.tc : Thread nD τ).loc main_arg7)

theorem V_statsX (c : Dev nD) : (V m c main_v99 : FVec Ideal S4096x128 .f32) = statsX (args m c) := V_stats m c

/-- The blocks a grid point names. -/
theorem idx : ∀ t : Fin cfg0.N, win0_0.index t = ![t.val, 0] ∧ win0_1.index t = ![min (t.val + 1) 31, 0] ∧ win0_2.index t = ![t.val - 1, 0] ∧ win0_3.index t = ![t.val, 0]
    ∧ win0_4.index t = ![t.val - 1, 0] ∧ win0_5.index t = ![t.val, 0] ∧ win0_6.index t = ![t.val, 0] ∧ win0_7.index t = ![t.val, 1] ∧ win0_8.index t = ![min (t.val + 1) 31, 0]
    ∧ win0_9.index t = ![min (t.val + 1) 31, 1] ∧ win0_10.index t = ![t.val, 0] ∧ win0_11.index t = ![min (t.val + 1) 31, 0] :=
  (by decide +kernel : ∀ t : Fin grid0.N, _)

theorem idxo : ∀ t : Fin cfg0.N, win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

theorem crd : ∀ t : Fin cfg0.N, (grid0.coords t 0).val = t.val := (by decide +kernel : ∀ t : Fin grid0.N, _)

/-- A point's block, the block before it and the block after it. -/
def blkN (t : Fin cfg0.N) : Fin 32 := ⟨t.val, t.isLt⟩
def preN (t : Fin cfg0.N) : Fin 32 := ⟨t.val - 1, by have : t.val < 32 := t.isLt; omega⟩
def nxtN (t : Fin cfg0.N) : Fin 32 := ⟨min (t.val + 1) 31, by omega⟩

variable (c : Dev nD) (t : Fin cfg0.N)

theorem b0 (a : Fin 128) (b : Fin 256) : iblk m c 0 t (ix2 a b) = (args m c).q (ix2 (rowIx (blkN t) a) b) := by
  blk_point [iblk, V, idx t, args, rowIx, blkN]
theorem b1 (a : Fin 128) (b : Fin 256) : iblk m c 1 t (ix2 a b) = (args m c).q (ix2 (rowIx (nxtN t) a) b) := by
  blk_point [iblk, V, idx t, args, rowIx, nxtN]
theorem b2 (a : Fin 128) (b : Fin 256) : iblk m c 2 t (ix2 a b) = (args m c).k (ix2 (rowIx (preN t) a) b) := by
  blk_point [iblk, V, idx t, args, rowIx, preN]
theorem b3 (a : Fin 128) (b : Fin 256) : iblk m c 3 t (ix2 a b) = (args m c).k (ix2 (rowIx (blkN t) a) b) := by
  blk_point [iblk, V, idx t, args, rowIx, blkN]
theorem b4 (a : Fin 128) (b : Fin 256) : iblk m c 4 t (ix2 a b) = (args m c).v (ix2 (rowIx (preN t) a) b) := by
  blk_point [iblk, V, idx t, args, rowIx, preN]
theorem b5 (a : Fin 128) (b : Fin 256) : iblk m c 5 t (ix2 a b) = (args m c).v (ix2 (rowIx (blkN t) a) b) := by
  blk_point [iblk, V, idx t, args, rowIx, blkN]
theorem b6 (a b : Fin 128) : iblk m c 6 t (ix2 a b) = (args m c).y (ix2 (rowIx (blkN t) a) ⟨b.val, by omega⟩) := by
  blk_point [iblk, V, idx t, args, rowIx, blkN]
theorem b7 (a b : Fin 128) : iblk m c 7 t (ix2 a b) = (args m c).y (ix2 (rowIx (blkN t) a) ⟨128 + b.val, by omega⟩) := by
  blk_point [iblk, V, idx t, args, rowIx, blkN]
theorem b8 (a b : Fin 128) : iblk m c 8 t (ix2 a b) = (args m c).y (ix2 (rowIx (nxtN t) a) ⟨b.val, by omega⟩) := by
  blk_point [iblk, V, idx t, args, rowIx, nxtN]
theorem b9 (a b : Fin 128) : iblk m c 9 t (ix2 a b) = (args m c).y (ix2 (rowIx (nxtN t) a) ⟨128 + b.val, by omega⟩) := by
  blk_point [iblk, V, idx t, args, rowIx, nxtN]
theorem b10 (a b : Fin 128) : iblk m c 10 t (ix2 a b) = statsX (args m c) (ix2 (rowIx (blkN t) a) b) := by
  rw [← V_statsX]
  show (V m c main_v99 : FVec Ideal S4096x128 .f32) ((win0_10.blk t).view.emb (ix2 a b)) = _
  refine congrArg _ (funext fun k => Fin.ext ?_)
  fin_cases k
  · blk_simp [idx t]; rfl
  · blk_simp [idx t]; rfl
theorem b11 (a b : Fin 128) : iblk m c 11 t (ix2 a b) = statsX (args m c) (ix2 (rowIx (nxtN t) a) b) := by
  rw [← V_statsX]
  show (V m c main_v99 : FVec Ideal S4096x128 .f32) ((win0_11.blk t).view.emb (ix2 a b)) = _
  refine congrArg _ (funext fun k => Fin.ext ?_)
  fin_cases k
  · blk_simp [idx t]; rfl
  · blk_simp [idx t]; rfl

end Cert.Kernel6Ideal.Dil

end
-- ==== Proof.DilOut.lean ====
/- The gradients the launch leaves: the point's products, at the rows of its block. -/
module

public import proofs.«01_k».proof.Proof.DilArr

@[expose] public section

set_option maxRecDepth 16384

noncomputable section

namespace Cert.Kernel6Ideal.Dil

open Idealize.ShloMosaic Idealize.ShloMosaic.TcCoe Idealize.SL.Sem
open Cert.K Cert.Kernel6Ideal Cert.Kernel6Ideal.Gen

variable (m : (ℓ : Loc nD τ sig) → Buf (Elt Ideal) ℓ) (c : Dev nD) (t : Fin cfg0.N)

theorem pre_eq : preN t = ⟨(blkN t).val - 1, by have := (blkN t).isLt; omega⟩ := rfl
theorem nxt_eq (hn : (blkN t).val < 31) : nxtN t = ⟨(blkN t).val + 1, by omega⟩ :=
  Fin.ext (show min (t.val + 1) 31 = t.val + 1 by have : t.val < 31 := hn; omega)

/-- A row from its two halves. -/
theorem side_row (y : Arr) (r : Fin 4096) (a b : Half) (i : Fin 128) (ha : ∀ x : Fin 128, a (ix2 i x) = y (ix2 r ⟨x.val, by omega⟩))
    (hb : ∀ x : Fin 128, b (ix2 i x) = y (ix2 r ⟨128 + x.val, by omega⟩)) (x : Fin 256) : side a b i x = y (ix2 r x) := by
  unfold side
  by_cases hx : x.val < 128
  · rw [dif_pos hx, ha]
  · rw [dif_neg hx, hb]
    exact congrArg (fun z => y (ix2 r z)) (Fin.ext (show 128 + (x.val - 128) = x.val by omega))

/-- A point's operands. -/
theorem pt : Pt (args m c) (blkN t) (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) where
  hi := crd t
  h0 a x := b0 m c t a x
  h1 hn a x := by rw [← nxt_eq t hn]; exact b1 m c t a x
  h2 _ a x := b2 m c t a x
  h3 a x := b3 m c t a x
  h4 _ a x := b4 m c t a x
  h5 a x := b5 m c t a x
  h6 a x := side_row _ _ _ _ a (b6 m c t a) (b7 m c t a) x
  h8 hn a x := by rw [← nxt_eq t hn]; exact side_row _ _ _ _ a (b8 m c t a) (b9 m c t a) x
  hl a h := (b10 m c t a _).trans (statsX_lo _ _ a h)
  hd a h := (b10 m c t a _).trans (statsX_hi _ _ a h)
  hl' hn a h := by rw [← nxt_eq t hn]; exact (b11 m c t a _).trans (statsX_lo _ _ a h)
  hd' hn a h := by rw [← nxt_eq t hn]; exact (b11 m c t a _).trans (statsX_hi _ _ a h)

/-- The halves of columns. -/
def lo (f : Fin 4096 → Fin 256 → EReal) : FVec Ideal S4096x128 .f32 := fun i => f (i 0) ⟨(i 1).val, Nat.lt_of_lt_of_le (i 1).isLt (by decide)⟩
def hi (f : Fin 4096 → Fin 256 → EReal) : FVec Ideal S4096x128 .f32 := fun i => f (i 0) ⟨128 + (i 1).val, Nat.add_lt_add_left (m := 128) (i 1).isLt 128⟩

/-- A half's entry: at a place of the result, and of a point's product. -/
theorem lo_at (f : Fin 4096 → Fin 256 → EReal) (i : S4096x128.Idx) (r : Fin 4096) (y : S128x128.Idx) (h0 : i 0 = r) (h1 : (i 1).val = (y 1).val) :
    lo f i = f r ⟨(y 1).val, Nat.lt_of_lt_of_le (y 1).isLt (by decide)⟩ := by
  unfold lo
  rw [h0]
  exact congrArg (f r) (Fin.ext h1)
theorem hi_at (f : Fin 4096 → Fin 256 → EReal) (i : S4096x128.Idx) (r : Fin 4096) (y : S128x128.Idx) (h0 : i 0 = r) (h1 : (i 1).val = (y 1).val) :
    hi f i = f r ⟨128 + (y 1).val, Nat.add_lt_add_left (m := 128) (y 1).isLt 128⟩ := by
  unfold hi
  rw [h0]
  exact congrArg (f r) (Fin.ext (congrArg (128 + ·) h1))

theorem left_at (P : FVec Ideal S128x256 .f32) (y : S128x128.Idx) :
    extractStridedSlice S128x128 ![0, 0] P slices_S128x256_o0_0_S128x128 y = P (ix2 (y 0) ⟨(y 1).val, Nat.lt_of_lt_of_le (y 1).isLt (by decide)⟩) := by
  idx_vars y
  pointwise []
theorem right_at (P : FVec Ideal S128x256 .f32) (y : S128x128.Idx) :
    extractStridedSlice S128x128 ![0, 128] P slices_S128x256_o0_128_S128x128 y = P (ix2 (y 0) ⟨128 + (y 1).val, Nat.add_lt_add_left (m := 128) (y 1).isLt 128⟩) := by
  idx_vars y
  pointwise []

/-- The queries' gradient, its two halves of columns. -/
theorem arr_dq_lo : (dats m 0 c).arrAt 12 cfg0.N = lo (dqGrad (args m c)) := by
  refine (dats m 0 c).arrAt_eq_of_covers 12 _ (by decide +kernel) fun t hf y => ?_
  blk_simp
  rw [after0_12]
  unfold_out out0_12
  frame_out
  refine ((left_at _ y).trans (dq_pt (pt m c t) (y 0) _)).trans (lo_at _ _ _ y ?_ ?_).symm
  · apply Fin.ext
    blk_simp [idxo t]
    rfl
  · blk_simp [idxo t]

theorem arr_dq_hi : (dats m 0 c).arrAt 13 cfg0.N = hi (dqGrad (args m c)) := by
  refine (dats m 0 c).arrAt_eq_of_covers 13 _ (by decide +kernel) fun t hf y => ?_
  blk_simp
  rw [after0_13]
  unfold_out out0_13
  frame_out
  refine ((right_at _ y).trans (dq_pt (pt m c t) (y 0) _)).trans (hi_at _ _ _ y ?_ ?_).symm
  · apply Fin.ext
    blk_simp [idxo t]
    rfl
  · blk_simp [idxo t]

/-- The keys' gradient. -/
theorem arr_dk_lo : (dats m 0 c).arrAt 14 cfg0.N = lo (dkGrad (args m c)) := by
  refine (dats m 0 c).arrAt_eq_of_covers 14 _ (by decide +kernel) fun t hf y => ?_
  blk_simp
  rw [after0_14]
  unfold_out out0_14
  frame_out
  refine ((left_at _ y).trans (dk_pt (pt m c t) (y 0) _)).trans (lo_at _ _ _ y ?_ ?_).symm
  · apply Fin.ext
    blk_simp [idxo t]
    rfl
  · blk_simp [idxo t]

theorem arr_dk_hi : (dats m 0 c).arrAt 15 cfg0.N = hi (dkGrad (args m c)) := by
  refine (dats m 0 c).arrAt_eq_of_covers 15 _ (by decide +kernel) fun t hf y => ?_
  blk_simp
  rw [after0_15]
  unfold_out out0_15
  frame_out
  refine ((right_at _ y).trans (dk_pt (pt m c t) (y 0) _)).trans (hi_at _ _ _ y ?_ ?_).symm
  · apply Fin.ext
    blk_simp [idxo t]
    rfl
  · blk_simp [idxo t]

/-- The values' gradient. -/
theorem arr_dv_lo : (dats m 0 c).arrAt 16 cfg0.N = lo (dvGrad (args m c)) := by
  refine (dats m 0 c).arrAt_eq_of_covers 16 _ (by decide +kernel) fun t hf y => ?_
  blk_simp
  rw [after0_16]
  unfold_out out0_16
  frame_out
  refine ((left_at _ y).trans (dv_pt (pt m c t) (y 0) _)).trans (lo_at _ _ _ y ?_ ?_).symm
  · apply Fin.ext
    blk_simp [idxo t]
    rfl
  · blk_simp [idxo t]

theorem arr_dv_hi : (dats m 0 c).arrAt 17 cfg0.N = hi (dvGrad (args m c)) := by
  refine (dats m 0 c).arrAt_eq_of_covers 17 _ (by decide +kernel) fun t hf y => ?_
  blk_simp
  rw [after0_17]
  unfold_out out0_17
  frame_out
  refine ((right_at _ y).trans (dv_pt (pt m c t) (y 0) _)).trans (hi_at _ _ _ y ?_ ?_).symm
  · apply Fin.ext
    blk_simp [idxo t]
    rfl
  · blk_simp [idxo t]

end Cert.Kernel6Ideal.Dil

end
-- ==== Proof.DilRef.lean ====
/- The reference's gradients of the dilated attention, read at an entry: on reals they are the sums the merged log-sum gives. -/
module

public import proofs.«01_k».proof.Proof.DilFirst

@[expose] public section

set_option maxRecDepth 16384

noncomputable section

namespace Cert.Reference6Ideal.Dil

open Idealize.ShloMosaic Idealize.ShloMosaic.TcCoe
open Cert.K

variable (x : Args)

/-- The groups' log-sums and their exponentials, the groups' outputs and the cotangents of them. -/
def lG : Grp := stackL (lses (rowMax (sA x)) (eA x)) x.l1 x.l2
def eG : Grp := expG (lG x) (maxG (lG x))
def oG : GrpO := stackO (outs (mix (eA x) (window (blocks x.v))) (eA x)) x.o1 x.o2
def aG : Grp := dWts (cotG x.y) (oG x)
def dG : Grp := dLses (aG x) (eG x) (sumG (eG x))
/-- What comes back to the first group: the cotangents of its outputs, of its log-sums, of its scores, and of the scaled products. -/
def doX : Out := firstO (dOuts (wts (eG x)) (cotG x.y))
def dlX : Col := firstL (dG x)
def pX : Out := overSum (doX x) (colSum (eA x))
def dscX : Sco := dSco (pX x) (window (blocks x.v)) (doX x) (mix (eA x) (window (blocks x.v))) (colSum (eA x)) (dlX x) (eA x)
def dsX : Sco := dBlk (dscX x) (dlX x) (ties (sA x) (rowMax (sA x)))

variable (n : Fin 32) (h : Fin 4) (i : Fin 128)

/-- A row's log-sums of the groups. -/
abbrev rowL : Fin 3 → EReal := grpL (band x n h i) (othL x.l1 n h i) (othL x.l2 n h i)

theorem lG_row : (fun g => lG x (ix3 g (rowIx n i) h)) = rowL x n h i := by
  funext g
  rw [lG, stackL_at, lA_at]
  rfl

theorem eG_at (g : Fin 3) : eG x (ix3 g (rowIx n i) h) = ex (rowL x n h i) g := by
  rw [eG, expG_at, maxG_at, lG_row]
  exact congrArg (fun b => Ideal.exp (b - top (rowL x n h i))) (congrFun (lG_row x n h i) g)

theorem sumG_row : ∑ g : Fin 3, eG x (ix3 g (rowIx n i) h) = den (rowL x n h i) := Finset.sum_congr rfl fun g _ => eG_at x n h i g

theorem oG_at (g : Fin 3) (d : Fin 64) : oG x (ix4 g (rowIx n i) h d)
    = grpO (band x n h i) (valOf x.v n h) (othO x.o1 n h i) (othO x.o2 n h i) d g := by
  rw [oG, stackO_at, oA_at]
  rfl

theorem aG_at (g : Fin 3) : aG x (ix3 g (rowIx n i) h)
    = grpA (band x n h i) (valOf x.v n h) (othO x.o1 n h i) (othO x.o2 n h i) (cotOf x.y n h i) g := by
  rw [aG, dWts_at]
  exact Finset.sum_congr rfl fun d _ => congrArg₂ (· * ·) (cotG_at x.y g (rowIx n i) h d) (oG_at x n h i g d)

/-- A row's cotangents of its log-sum. -/
abbrev rowD : EReal := dLse (band x n h i) (valOf x.v n h) (othO x.o1 n h i) (othO x.o2 n h i) (othL x.l1 n h i) (othL x.l2 n h i) (cotOf x.y n h i)

theorem dlX_at : dlX x (ix4 n h i 0) = rowD x n h i := by
  rw [dlX, firstL_at, dG, dLses_at, sumG_at, sumG_row, aG_at, eG_at]
  unfold rowD dLse dsChain
  exact congrArg (fun z => (Ideal.div (grpA (band x n h i) (valOf x.v n h) (othO x.o1 n h i) (othO x.o2 n h i) (cotOf x.y n h i) 0) (den (rowL x n h i)) + -z)
    * ex (rowL x n h i) 0) (Finset.sum_congr rfl fun g _ => congrArg₂ (· * ·) (congrArg (· * _) (aG_at x n h i g)) (eG_at x n h i g))

theorem doX_at (d : Fin 64) : doX x (ix4 n h i d) = dOut (band x n h i) (othL x.l1 n h i) (othL x.l2 n h i) (cotOf x.y n h i) d := by
  rw [doX, firstO_at, dOuts_at, wts_at, sumG_row, eG_at, cotG_at]
  rfl

theorem pX_at (d : Fin 64) : pX x (ix4 n h i d)
    = Ideal.div (dOut (band x n h i) (othL x.l1 n h i) (othL x.l2 n h i) (cotOf x.y n h i) d) (den (band x n h i)) := by
  rw [pX, overSum_at, doX_at, colSum_at, sumA_at]

theorem dscX_at (j : Fin 256) : dscX x (ix4 n h i j)
    = dScore (band x n h i) (valOf x.v n h) (othO x.o1 n h i) (othO x.o2 n h i) (othL x.l1 n h i) (othL x.l2 n h i) (cotOf x.y n h i) j := by
  rw [dscX, dSco_at, colSum_at, sumA_at, dlX_at, eA_at]
  unfold dScore
  refine congrArg (· * ex (band x n h i) j) (congrArg₂ (· + ·) ?_ (congrArg (fun z => -z + Ideal.div (rowD x n h i) (den (band x n h i))) ?_))
  · exact Finset.sum_congr rfl fun d _ => congrArg₂ (· * ·) (pX_at x n h i d) (window_at x.v n j h d)
  · exact Finset.sum_congr rfl fun d _ => congrArg₂ (· * ·) (congrArg (· * _) (doX_at x n h i d)) (mixA_at x n h i d)

theorem tie_at (j : Fin 256) : ties (sA x) (rowMax (sA x)) (ix4 n h i j) = tie (band x n h i) j := by
  rw [ties_at, mxA_at]
  exact congrArg (fun b : EReal => if b = top (band x n h i) then (1 : EReal) else 0) (scores_at x.q x.k n h i j)

theorem dsX_at (j : Fin 256) : dsX x (ix4 n h i j) = dBand (ok n i) (band x n h i) (valOf x.v n h) (othO x.o1 n h i) (othO x.o2 n h i)
    (othL x.l1 n h i) (othL x.l2 n h i) (cotOf x.y n h i) j * sc8 := by
  rw [dsX, dBlk_at, dscX_at, dlX_at, tie_at, Finset.sum_congr rfl fun k _ => congrArg (-·) (dscX_at x n h i k), Finset.sum_congr rfl fun k _ => tie_at x n h i k]
  rfl

/-- Every entry of the arguments is a real. -/
structure Finite : Prop where
  q : ∀ j, ∃ r : ℝ, x.q j = r
  k : ∀ j, ∃ r : ℝ, x.k j = r
  v : ∀ j, ∃ r : ℝ, x.v j = r
  o1 : ∀ j, ∃ r : ℝ, x.o1 j = r
  l1 : ∀ j, ∃ r : ℝ, x.l1 j = r
  o2 : ∀ j, ∃ r : ℝ, x.o2 j = r
  l2 : ∀ j, ∃ r : ℝ, x.l2 j = r
  y : ∀ j, ∃ r : ℝ, x.y j = r

/-- An eighth. -/
theorem sc8_real : sc8 = ((1 / 8 : ℝ) : EReal) := by
  unfold sc8
  simp [Ideal.ofBits, Ideal.ieee, -EReal.coe_mul]; norm_num

theorem win_real (k : Arr) (hk : ∀ j, ∃ r : ℝ, k j = r) (j c : Fin 256) : ∃ r : ℝ, win k n j c = r := by
  unfold win
  split_ifs
  · exact ⟨0, rfl⟩
  · exact hk _
  · exact hk _

theorem score_real (q k : Arr) (hq : ∀ j, ∃ r : ℝ, q j = r) (hk : ∀ j, ∃ r : ℝ, k j = r) (j : Fin 256) : ∃ r : ℝ, scoreOf q k n h i j = r := by
  choose a ha using fun d : Fin 64 => hq (ix2 (rowIx n i) (colIx h d))
  choose b hb using fun d : Fin 64 => win_real n k hk j (colIx h d)
  obtain ⟨e, he⟩ : ∃ e : ℝ, sc8 = e := ⟨1 / 8, sc8_real⟩
  refine ⟨(∑ d, a d * b d) * e, ?_⟩
  unfold scoreOf
  rw [he, Finset.sum_congr rfl fun d _ => congrArg₂ (· * ·) (ha d) (hb d)]
  push_cast
  rfl

theorem rows (H : Finite x) (j : Fin 256) :
    (∀ d, pX x (ix4 n h i d) * eA x (ix4 n h i j) = pAt x n h i j * cotOf x.y n h i d) ∧ dsX x (ix4 n h i j) = dsAt x n h i j := by
  choose s hs using score_real n h i x.q x.k H.q H.k
  choose v hv using fun (j : Fin 256) (d : Fin 64) => win_real n x.v H.v j (colIx h d)
  choose a1 h1 using fun d : Fin 64 => H.o1 (ix3 (rowIx n i) h d)
  choose a2 h2 using fun d : Fin 64 => H.o2 (ix3 (rowIx n i) h d)
  choose y hy using fun d : Fin 64 => H.y (ix2 (rowIx n i) (colIx h d))
  obtain ⟨l1, e1⟩ := H.l1 (ix2 (rowIx n i) h)
  obtain ⟨l2, e2⟩ := H.l2 (ix2 (rowIx n i) h)
  have hs' : scoreOf x.q x.k n h i = fun j => (s j : EReal) := funext hs
  have e1' : othL x.l1 n h i = l1 := e1
  have e2' : othL x.l2 n h i = l2 := e2
  have R := row_eq (ok n i) ⟨⟨128 + i.val, by omega⟩, by unfold ok; simp only; omega⟩ s v a1 a2 l1 l2 y (band x n h i) (by unfold band; rw [hs'])
    (valOf x.v n h) (funext fun j => funext fun d => hv j d) (othO x.o1 n h i) (othO x.o2 n h i) (cotOf x.y n h i) (funext h1) (funext h2) (funext hy) j
  constructor
  · intro d
    rw [pX_at, eA_at, e1', e2', R.1 d]
    unfold pAt lseAt
    rw [hs', e1', e2']
  · rw [dsX_at, e1', e2', R.2]
    unfold dsAt deltaAt lseAt
    rw [hs', e1', e2']

/-- A column from its head and its place in the head. -/
theorem col_eq (c : Fin 256) : colIx ⟨c.val / 64, by omega⟩ ⟨c.val % 64, by omega⟩ = c :=
  Fin.ext (show c.val / 64 * 64 + c.val % 64 = c.val by omega)

theorem dq_eq (H : Finite x) (t : Fin 4096) (c : Fin 256) : dQ (dsX x) (window (blocks x.k)) (ix2 t c) = dqGrad x t c := by
  rw [dQ_at]
  refine Finset.sum_congr rfl fun j _ => congrArg₂ (· * ·) (rows x _ _ _ H j).2 ?_
  rw [window_at, col_eq]

/-- A sum of a window, at its own rows and at the next block's. -/
theorem unWin_rows (w : Win) (p : Fin 32 → Fin 4 → Fin 128 → Fin 256 → EReal) (q : Arr)
    (hw : ∀ (n : Fin 32) (j : Fin 256) (h : Fin 4) (d : Fin 64), w (ix4 n j h d) = ∑ i : Fin 128, p n h i j * q (ix2 (rowIx n i) (colIx h d)))
    (t : Fin 4096) (c : Fin 256) : unWin w (ix2 t c) = ofRows p q t c := by
  rw [unWin_at]
  unfold ofRows
  refine congrArg₂ (· + ·) (by rw [hw, col_eq]) ?_
  by_cases hn : t.val / 128 < 31
  · refine (dif_pos hn).trans (Eq.trans ?_ (dif_pos hn).symm)
    rw [hw, col_eq]
  · exact (dif_neg hn).trans (dif_neg (e := fun _ => (0 : EReal)) hn).symm

theorem dk_eq (H : Finite x) (t : Fin 4096) (c : Fin 256) : unWin (dWinK (dsX x) (blocks x.q)) (ix2 t c) = dkGrad x t c :=
  unWin_rows _ _ _ (fun n j h d => (dWinK_at _ _ n j h d).trans
    (Finset.sum_congr rfl fun i _ => congrArg₂ (· * ·) (rows x n h i H j).2 (blocks_at x.q n i h d))) t c

theorem dv_eq (H : Finite x) (t : Fin 4096) (c : Fin 256) : unWin (dWinV (pX x) (eA x)) (ix2 t c) = dvGrad x t c :=
  unWin_rows _ _ _ (fun n j h d => (dWinV_at _ _ n j h d).trans (Finset.sum_congr rfl fun i _ => (rows x n h i H j).1 d)) t c

end Cert.Reference6Ideal.Dil

end
-- ==== Proof.DilEnd.lean ====
/- The dilated attention's six results: the reference's composed terms are the stages, and on reals the launch's gradients. -/
module

public import proofs.«01_k».proof.Proof.DilRef
public import proofs.«01_k».proof.Proof.Pre
public import proofs.«01_k».proof.Proof.Gen.Pre_real_entries
public import proofs.«01_k».proof.Proof.Gen.Reference6Ideal.Run

@[expose] public section

set_option maxRecDepth 16384

noncomputable section

namespace Cert.Reference6Ideal.Dil

open Idealize.ShloMosaic Idealize.ShloMosaic.TcCoe Idealize.SL.Sem Idealize.ShloMosaic.StableHlo
open Cert.K Cert.Reference6Ideal Cert.Reference6Ideal.Gen

variable (V : Valuation τ sig (Elt Ideal))

/-- The arguments, as the reference finds them. -/
def argsV : Args where
  q := V (Proc.devRef .tc main_arg0)
  k := V (Proc.devRef .tc main_arg1)
  v := V (Proc.devRef .tc main_arg2)
  o1 := V (Proc.devRef .tc main_arg3)
  l1 := V (Proc.devRef .tc main_arg4)
  o2 := V (Proc.devRef .tc main_arg5)
  l2 := V (Proc.devRef .tc main_arg6)
  y := V (Proc.devRef .tc main_arg7)

theorem r6 : Value.res_main_v6 V = blocks (argsV V).q := by unfold Value.res_main_v6; rfl
theorem r13 : Value.res_main_v13 V = window (blocks (argsV V).k) := by unfold Value.res_main_v13 Value.res_main_v7; rfl
theorem r20 : Value.res_main_v20 V = window (blocks (argsV V).v) := by unfold Value.res_main_v20 Value.res_main_v14; rfl
theorem r53 : Value.res_main_v53_1 V = mask := by unfold Value.res_main_v53_1 Value.res_main_v32 Value.res_main_v27; rfl
theorem rS : Value.res_main_v53_0 V = sA (argsV V) := by unfold Value.res_main_v53_0; rw [r6, r13, r53]; rfl
theorem r54 : Value.res_main_v54 V = rowMax (sA (argsV V)) := by unfold Value.res_main_v54; rw [rS]; rfl
theorem r58 : Value.res_main_v58 V = ties (sA (argsV V)) (rowMax (sA (argsV V))) := by unfold Value.res_main_v58; rw [rS, r54]; rfl
theorem r60 : Value.res_main_v60 V = colMax (rowMax (sA (argsV V))) := by unfold Value.res_main_v60; rw [r54]; rfl
theorem r63 : Value.res_main_v63 V = eA (argsV V) := by unfold Value.res_main_v63; rw [rS, r60]; rfl
theorem r65 : Value.res_main_v65 V = colSum (eA (argsV V)) := by unfold Value.res_main_v65; rw [r63]; rfl
theorem r69 : Value.res_main_v69 V = mix (eA (argsV V)) (window (blocks (argsV V).v)) := by unfold Value.res_main_v69; rw [r63, r20]; rfl
theorem r82 : Value.res_main_v82 V = lG (argsV V) := by unfold Value.res_main_v82; rw [r60, r65]; rfl
theorem r105 : Value.res_main_v105 V = eG (argsV V) := by unfold Value.res_main_v105 Value.res_main_v85; rw [r82]; rfl
theorem r107 : Value.res_main_v107 V = sumG (eG (argsV V)) := by unfold Value.res_main_v107; rw [r105]; rfl
theorem r117 : Value.res_main_v117 V = oG (argsV V) := by unfold Value.res_main_v117; rw [r65, r69]; rfl
theorem r125 : Value.res_main_v125 V = cotG (argsV V).y := by unfold Value.res_main_v125; rfl
theorem r137 : Value.res_main_v137 V = aG (argsV V) := by unfold Value.res_main_v137; rw [r117, r125]; rfl
theorem r149 : Value.res_main_v149 V = dG (argsV V) := by unfold Value.res_main_v149; rw [r105, r107, r137]; rfl
theorem r159 : Value.res_main_v159 V = doX (argsV V) := by
  unfold Value.res_main_v159 Value.res_main_v127 Value.res_main_v113
  rw [r105, r107, r125]
  rfl
theorem r167 : Value.res_main_v167 V = pX (argsV V) := by unfold Value.res_main_v167; rw [r159, r65]; rfl
theorem r171 : Value.res_main_v171 V = dlX (argsV V) := by unfold Value.res_main_v171; rw [r149]; rfl
theorem r177 : Value.res_main_v177 V = dscX (argsV V) := by unfold Value.res_main_v177; rw [r159, r167, r171, r20, r63, r65, r69]; rfl
theorem r189 : Value.res_main_v189 V = dsX (argsV V) := by unfold Value.res_main_v189; rw [r171, r177, r53, r58]; rfl
theorem r169 : Value.res_main_v169 V = dWinV (pX (argsV V)) (eA (argsV V)) := by unfold Value.res_main_v169; rw [r167, r63]; rfl
theorem r191 : Value.res_main_v191 V = dWinK (dsX (argsV V)) (blocks (argsV V).q) := by unfold Value.res_main_v191; rw [r189, r6]; rfl
theorem r209 : Value.res_main_v209 V = unWin (dWinV (pX (argsV V)) (eA (argsV V))) := by
  unfold Value.res_main_v209 Value.res_main_v194
  rw [r169]
  rfl
theorem r210 : Value.res_main_v210 V = unWin (dWinK (dsX (argsV V)) (blocks (argsV V).q)) := by
  unfold Value.res_main_v210 Value.res_main_v201
  rw [r191]
  rfl
theorem r211 : Value.res_main_v211 V = dQ (dsX (argsV V)) (window (blocks (argsV V).k)) := by unfold Value.res_main_v211; rw [r189, r13]; rfl

/-- The halves of columns of an array known at its entries. -/
theorem left_half (P : FVec Ideal S4096x256 .f32) (f : Fin 4096 → Fin 256 → EReal) (hP : ∀ t c, P (ix2 t c) = f t c) (i : S4096x128.Idx) :
    extractStridedSlice S4096x128 ![0, 0] P slices_S4096x256_S4096x128_0_0 i = f (i 0) ⟨(i 1).val, Nat.lt_of_lt_of_le (i 1).isLt (by decide)⟩ := by
  refine Eq.trans ?_ (hP _ _)
  idx_vars i
  pointwise []
theorem right_half (P : FVec Ideal S4096x256 .f32) (f : Fin 4096 → Fin 256 → EReal) (hP : ∀ t c, P (ix2 t c) = f t c) (i : S4096x128.Idx) :
    extractStridedSlice S4096x128 ![0, 128] P slices_S4096x256_S4096x128_0_128 i = f (i 0) ⟨128 + (i 1).val, Nat.add_lt_add_left (m := 128) (i 1).isLt 128⟩ := by
  refine Eq.trans ?_ (hP _ _)
  idx_vars i
  pointwise []

theorem q_at (H : Finite (argsV V)) (t : Fin 4096) (c : Fin 256) : Value.res_main_v211 V (ix2 t c) = dqGrad (argsV V) t c := by
  rw [r211]; exact dq_eq _ H t c
theorem k_at (H : Finite (argsV V)) (t : Fin 4096) (c : Fin 256) : Value.res_main_v210 V (ix2 t c) = dkGrad (argsV V) t c := by
  rw [r210]; exact dk_eq _ H t c
theorem v_at (H : Finite (argsV V)) (t : Fin 4096) (c : Fin 256) : Value.res_main_v209 V (ix2 t c) = dvGrad (argsV V) t c := by
  rw [r209]; exact dv_eq _ H t c

/-- What the precondition says: every entry of the eight arguments is a real number. -/
theorem finite_of_pre (x : Args) (h : Cert.Pre_real_entries.fn (F := Ideal) x.q x.k x.v x.o1 x.l1 x.o2 x.l2 x.y = fun _ => 1#1) : Finite x := by
  have e := congrFun h (fun i => i.elim0)
  dsimp only [Cert.Pre_real_entries.fn, Cert.Pre_real_entries.fn_part1, Cert.Pre_real_entries.fn_part2, andi] at e
  obtain ⟨e, e7⟩ := andi_one _ _ e
  obtain ⟨e, e6⟩ := andi_one _ _ e
  obtain ⟨e, e5⟩ := andi_one _ _ e
  obtain ⟨e, e4⟩ := andi_one _ _ e
  obtain ⟨e, e3⟩ := andi_one _ _ e
  obtain ⟨e, e2⟩ := andi_one _ _ e
  obtain ⟨e0, e1⟩ := andi_one _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i), fun i => real_of_lt _ (Host.reduce_andi_all _ _ _ _ _ e5 i),
    fun i => real_of_lt _ (Host.reduce_andi_all _ _ _ _ _ e6 i), fun i => real_of_lt _ (Host.reduce_andi_all _ _ _ _ _ e7 i)⟩

end Cert.Reference6Ideal.Dil

end
-- ==== Proof.DilAlg.lean ====
/- The six results of the dilated attention's gradients: what the reference's terms are is what the launch leaves. -/
module

public import proofs.«01_k».proof.Proof.DilOut
public import proofs.«01_k».proof.Proof.DilEnd

@[expose] public section

set_option maxRecDepth 16384

noncomputable section

namespace Cert.Reference6Ideal.Dil

open Idealize.ShloMosaic Idealize.ShloMosaic.TcCoe Idealize.SL.Sem Idealize.ShloMosaic.StableHlo
open Cert.K Cert.Reference6Ideal Cert.Reference6Ideal.Gen

/-- The two programs' arguments agree. -/
theorem args_eq (m : (ℓ : Loc Cert.Kernel6Ideal.nD Cert.Kernel6Ideal.τ Cert.Kernel6Ideal.sig) → Buf (Elt Ideal) ℓ)
    (m' : (ℓ : Loc nD τ sig) → Buf (Elt Ideal) ℓ) (c : Dev nD)
    (h0 : m' ((c.tc : Thread nD τ).loc main_arg0) = m ((c.tc : Thread Cert.Kernel6Ideal.nD Cert.Kernel6Ideal.τ).loc Cert.Kernel6Ideal.main_arg0))
    (h1 : m' ((c.tc : Thread nD τ).loc main_arg1) = m ((c.tc : Thread Cert.Kernel6Ideal.nD Cert.Kernel6Ideal.τ).loc Cert.Kernel6Ideal.main_arg1))
    (h2 : m' ((c.tc : Thread nD τ).loc main_arg2) = m ((c.tc : Thread Cert.Kernel6Ideal.nD Cert.Kernel6Ideal.τ).loc Cert.Kernel6Ideal.main_arg2))
    (h3 : m' ((c.tc : Thread nD τ).loc main_arg3) = m ((c.tc : Thread Cert.Kernel6Ideal.nD Cert.Kernel6Ideal.τ).loc Cert.Kernel6Ideal.main_arg3))
    (h4 : m' ((c.tc : Thread nD τ).loc main_arg4) = m ((c.tc : Thread Cert.Kernel6Ideal.nD Cert.Kernel6Ideal.τ).loc Cert.Kernel6Ideal.main_arg4))
    (h5 : m' ((c.tc : Thread nD τ).loc main_arg5) = m ((c.tc : Thread Cert.Kernel6Ideal.nD Cert.Kernel6Ideal.τ).loc Cert.Kernel6Ideal.main_arg5))
    (h6 : m' ((c.tc : Thread nD τ).loc main_arg6) = m ((c.tc : Thread Cert.Kernel6Ideal.nD Cert.Kernel6Ideal.τ).loc Cert.Kernel6Ideal.main_arg6))
    (h7 : m' ((c.tc : Thread nD τ).loc main_arg7) = m ((c.tc : Thread Cert.Kernel6Ideal.nD Cert.Kernel6Ideal.τ).loc Cert.Kernel6Ideal.main_arg7)) :
    argsV (launchContents m' c) = Cert.Kernel6Ideal.Dil.args m c := by
  unfold argsV Cert.Kernel6Ideal.Dil.args
  exact (Args.mk.injEq _ _ _ _ _ _ _ _ _ _ _ _ _ _ _ _).mpr ⟨h0, h1, h2, h3, h4, h5, h6, h7⟩

variable (V : Valuation τ sig (Elt Ideal)) (x : Args) (hV : argsV V = x) (H : Finite x)
include hV H

/-- The halves of columns of the reference's gradients. -/
theorem q_lo : extractStridedSlice S4096x128 ![0, 0] (Value.res_main_v211 V) slices_S4096x256_S4096x128_0_0 = Cert.Kernel6Ideal.Dil.lo (dqGrad x) := by
  subst hV; exact funext (left_half _ _ (q_at V H))
theorem q_hi : extractStridedSlice S4096x128 ![0, 128] (Value.res_main_v211 V) slices_S4096x256_S4096x128_0_128 = Cert.Kernel6Ideal.Dil.hi (dqGrad x) := by
  subst hV; exact funext (right_half _ _ (q_at V H))
theorem k_lo : extractStridedSlice S4096x128 ![0, 0] (Value.res_main_v210 V) slices_S4096x256_S4096x128_0_0 = Cert.Kernel6Ideal.Dil.lo (dkGrad x) := by
  subst hV; exact funext (left_half _ _ (k_at V H))
theorem k_hi : extractStridedSlice S4096x128 ![0, 128] (Value.res_main_v210 V) slices_S4096x256_S4096x128_0_128 = Cert.Kernel6Ideal.Dil.hi (dkGrad x) := by
  subst hV; exact funext (right_half _ _ (k_at V H))
theorem v_lo : extractStridedSlice S4096x128 ![0, 0] (Value.res_main_v209 V) slices_S4096x256_S4096x128_0_0 = Cert.Kernel6Ideal.Dil.lo (dvGrad x) := by
  subst hV; exact funext (left_half _ _ (v_at V H))
theorem v_hi : extractStridedSlice S4096x128 ![0, 128] (Value.res_main_v209 V) slices_S4096x256_S4096x128_0_128 = Cert.Kernel6Ideal.Dil.hi (dvGrad x) := by
  subst hV; exact funext (right_half _ _ (v_at V H))

end Cert.Reference6Ideal.Dil

end
-- ==== Proof.Ff2Dx.lean ====
/- The cotangents of the hidden layer before its squared rectifier, and their sums over the rows. -/
module

public import proofs.«01_k».proof.Proof.Gen.Kernel2Ideal.Value
public import proofs.«01_k».proof.Proof.Gen.Reference2Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel2Ideal.Dx

open Cert.K Cert.Kernel2Ideal Cert.Kernel2Ideal.Gen

/-- The hidden layer before the rectifier, at an entry. -/
def preAt (h : FVec Ideal S4096x1024 .f32) (w : FVec Ideal S1024x4096 .f32) (b : FVec Ideal S1x4096 .f32) (r x : Fin 4096) : EReal :=
  (∑ d : Fin 1024, h (ix2 r d) * w (ix2 d x)) + b (ix2 0 x)

/-- The factor of the square's derivative. -/
def two : EReal := Ideal.ofBits .f32 0x40000000#32

/-- The cotangents of the hidden layer, at an entry where it is `p`. -/
def dpre (w2 y : FVec Ideal S4096x1024 .bf16) (r x : Fin 4096) (p : EReal) : EReal :=
  (∑ d : Fin 1024, y (ix2 r d) * w2 (ix2 x d)) * (two * max p 0)

variable (m : (ℓ : Loc nD τ sig) → Buf (Elt Ideal) ℓ)

/-- The input, the first matrix, its bias, the second matrix and the cotangents. -/
abbrev hA (c : Dev nD) : FVec Ideal S4096x1024 .f32 := m ((c.tc : Thread nD τ).loc main_arg0)
abbrev w1A (c : Dev nD) : FVec Ideal S1024x4096 .f32 := m ((c.tc : Thread nD τ).loc main_arg1)
abbrev bA (c : Dev nD) : FVec Ideal S1x4096 .f32 := m ((c.tc : Thread nD τ).loc main_arg2)
abbrev w2A (c : Dev nD) : FVec Ideal S4096x1024 .bf16 := m ((c.tc : Thread nD τ).loc main_arg3)
abbrev yA (c : Dev nD) : FVec Ideal S4096x1024 .bf16 := m ((c.tc : Thread nD τ).loc main_arg4)

/-- The blocks a grid point names. -/
theorem idx : ∀ t : Fin cfg0.N, win0_0.index t = ![t.val % 2, 0] ∧ win0_1.index t = ![t.val / 2, 0]
    ∧ win0_2.index t = ![t.val % 2, t.val / 2] ∧ win0_3.index t = ![t.val % 2, t.val / 2] ∧ win0_4.index t = ![0, t.val / 2] :=
  (by decide +kernel : ∀ t : Fin grid0.N, _)

theorem lt8 (t : Fin cfg0.N) : t.val < 8 := t.isLt

theorem y_blk (c : Dev nD) (t : Fin cfg0.N) (r : Fin 2048) (d : Fin 1024) :
    iblk m c 0 t (ix2 r d) = yA m c (ix2 ⟨t.val % 2 * 2048 + r.val, by omega⟩ d) := by
  blk_point [iblk, V, idx t]

theorem w2_blk (c : Dev nD) (t : Fin cfg0.N) (x d : Fin 1024) :
    iblk m c 1 t (ix2 x d) = w2A m c (ix2 ⟨t.val / 2 * 1024 + x.val, by have := lt8 t; omega⟩ d) := by
  blk_point [iblk, V, idx t]

/-- The hidden layer before the rectifier. -/
def pre (h : FVec Ideal S4096x1024 .f32) (w : FVec Ideal S1024x4096 .f32) (b : FVec Ideal S1x4096 .f32) : FVec Ideal S4096x4096 .f32 :=
  addf (Host.dotGeneral dot_S4096x1024_S1024x4096_S4096x4096_1_0_0_1_n_n none h w) (broadcastInDim S4096x4096 ![0, 1] bcast_S1x4096_S4096x4096_0_1 b)

theorem pre_at (h : FVec Ideal S4096x1024 .f32) (w : FVec Ideal S1024x4096 .f32) (b : FVec Ideal S1x4096 .f32) (r x : Fin 4096) :
    pre h w b (ix2 r x) = preAt h w b r x := by
  pointwise [pre]
  rfl

/-- What the launch is entered with. -/
theorem V_pre (c : Dev nD) : (V m c main_v2 : FVec Ideal S4096x4096 .f32) = pre (hA m c) (w1A m c) (bA m c) := by
  entry_read
  rfl

theorem pre_blk (c : Dev nD) (t : Fin cfg0.N) (r : Fin 2048) (x : Fin 1024) : iblk m c 2 t (ix2 r x)
    = preAt (hA m c) (w1A m c) (bA m c) ⟨t.val % 2 * 2048 + r.val, by omega⟩ ⟨t.val / 2 * 1024 + x.val, by have := lt8 t; omega⟩ := by
  rw [← pre_at, ← V_pre]
  show (V m c main_v2 : FVec Ideal S4096x4096 .f32) ((win0_2.blk t).view.emb (ix2 r x)) = _
  refine congrArg _ (funext fun a => Fin.ext ?_)
  fin_cases a
  · blk_simp [idx t]; rfl
  · blk_simp [idx t]; rfl

/-- What a point computes of the cotangents. -/
theorem pay1_at (w : FVec Ideal S1024x1024 .bf16) (y : FVec Ideal S2048x1024 .bf16) (p : FVec Ideal S2048x1024 .f32) (j : S2048x1024.Idx) :
    k0_pay1 (F := Ideal) w y p j = (∑ d : Fin 1024, y (ix2 (j 0) d) * w (ix2 (j 1) d)) * (two * max (p j) 0) := by
  idx_vars j
  pointwise [k0_pay1]
  rfl

theorem pay2_at (w : FVec Ideal S1024x1024 .bf16) (y : FVec Ideal S2048x1024 .bf16) (p : FVec Ideal S2048x1024 .f32) (j : S2048x1024.Idx) :
    k0_pay2 (F := Ideal) w y p j = k0_pay1 (F := Ideal) w y p j := rfl

/-- What a point adds to the sums. -/
theorem pay4_at (w : FVec Ideal S1024x1024 .bf16) (y : FVec Ideal S2048x1024 .bf16) (p : FVec Ideal S2048x1024 .f32)
    (a : FVec Ideal S1x1024 .f32) (j : S1x1024.Idx) :
    k0_pay4 (F := Ideal) w y p a j = a j + ∑ r : Fin 2048, k0_pay1 (F := Ideal) w y p (ix2 r (j 1)) := by
  idx_vars j
  pointwise [k0_pay4]

/-- The sums start at zero. -/
theorem pay3_at (j : S1x1024.Idx) : k0_pay3 (F := Ideal) j = 0 := by
  idx_vars j
  pointwise [k0_pay3]

/-- What point `t` leaves of the cotangents. -/
theorem d_at (c : Dev nD) (t : Fin cfg0.N) (j : S2048x1024.Idx) : (outsAt0 m c t.val t.isLt).1 j
    = k0_pay1 (F := Ideal) (iblk m c 1 t) (iblk m c 0 t) (iblk m c 2 t) j := by
  by_cases h : t.val % 2 = 0
  · rw [outsAt0_A m c t h]
    frame_out
    rfl
  · rw [outsAt0_B m c t h]
    frame_out
    rfl

/-- What point `t` adds to the sums. -/
def term (c : Dev nD) (t : Fin cfg0.N) (j : S1x1024.Idx) : EReal :=
  ∑ r : Fin 2048, k0_pay1 (F := Ideal) (iblk m c 1 t) (iblk m c 0 t) (iblk m c 2 t) (ix2 r (j 1))

theorem sA (c : Dev nD) (t : Fin cfg0.N) (h : t.val % 2 = 0) (j : S1x1024.Idx) : (outsAt0 m c t.val t.isLt).2 j = 0 + term m c t j := by
  rw [outsAt0_A m c t h]
  frame_out
  refine (pay4_at _ _ _ (k0_pay3 (F := Ideal)) j).trans (congrArg (· + _) ?_)
  exact pay3_at j

theorem sB (c : Dev nD) (t : Fin cfg0.N) (h : ¬t.val % 2 = 0) (j : S1x1024.Idx) : (outsAt0 m c t.val t.isLt).2 j
    = (outsAt0 m c (t.val - 1) (Nat.lt_of_le_of_lt (Nat.sub_le _ _) t.isLt)).2 j + term m c t j := by
  rw [outsAt0_B m c t h]
  frame_out
  exact pay4_at _ _ _ _ j

/-- The gradient of the hidden layer before the rectifier, from the arguments. -/
abbrev full (c : Dev nD) (r x : Fin 4096) : EReal := dpre (w2A m c) (yA m c) r x (preAt (hA m c) (w1A m c) (bA m c) r x)

/-- A point's cotangents are those of its rows and columns. -/
theorem pay_full (c : Dev nD) (t : Fin cfg0.N) (r : Fin 2048) (x : Fin 1024) :
    k0_pay1 (F := Ideal) (iblk m c 1 t) (iblk m c 0 t) (iblk m c 2 t) (ix2 r x)
      = full m c ⟨t.val % 2 * 2048 + r.val, by omega⟩ ⟨t.val / 2 * 1024 + x.val, by have := lt8 t; omega⟩ := by
  refine (pay1_at _ _ _ _).trans ?_
  unfold full dpre
  refine congrArg₂ (· * ·) (Finset.sum_congr rfl fun d _ => congrArg₂ (· * ·) (y_blk m c t r d) (w2_blk m c t x d)) ?_
  exact congrArg (fun p => two * max p 0) (pre_blk m c t r x)

/-- The cotangents after the launch. -/
theorem arr_d (c : Dev nD) : (dats m 0 c).arrAt 3 cfg0.N = fun i : S4096x4096.Idx => full m c (i 0) (i 1) := by
  refine (dats m 0 c).arrAt_eq_of_covers 3 _ (by decide +kernel) fun t hf y => ?_
  blk_simp
  rw [after0_3]
  have ht := lt8 t
  have y0 : (y 0).val < 2048 := (y 0).isLt
  have y1 : (y 1).val < 1024 := (y 1).isLt
  have h0 : (⟨t.val % 2 * 2048 + (y 0).val, by omega⟩ : Fin 4096) = (win0_3.blk t).view.emb y 0 := by
    apply Fin.ext
    blk_simp [idx t]
  have h1 : (⟨t.val / 2 * 1024 + (y 1).val, by omega⟩ : Fin 4096) = (win0_3.blk t).view.emb y 1 := by
    apply Fin.ext
    blk_simp [idx t]
  refine (d_at m c t y).trans (Eq.trans ?_ (congrArg₂ (full m c) h0 h1))
  exact (congrArg _ (ValueIdx.eq_ix2 y)).trans (pay_full m c t (y 0) (y 1))

/-- The sums after the launch. -/
theorem arr_sum (c : Dev nD) : (dats m 0 c).arrAt 4 cfg0.N = fun i : S1x4096.Idx => ∑ r : Fin 4096, full m c r (i 1) := by
  refine (dats m 0 c).arrAt_eq_of_covers 4 _ (by decide +kernel) fun t hf y => ?_
  blk_simp
  rw [after0_4]
  have ht := lt8 t
  have h3 : t.val % 2 = 1 := (flush0_4 t).mp hf
  have y1 : (y 1).val < 1024 := (y 1).isLt
  have h1 : (⟨t.val / 2 * 1024 + (y 1).val, by omega⟩ : Fin 4096) = (win0_4.blk t).view.emb y 1 := by
    apply Fin.ext
    blk_simp [idx t]
  refine (run_two (fun n h => (outsAt0 m c n h).2) (term m c) (sA m c) (sB m c) t h3 y).trans ?_
  refine Eq.trans ?_ (congrArg (fun x => ∑ r : Fin 4096, full m c r x) h1)
  refine Eq.trans ?_ (sum_rows fun r => full m c r ⟨t.val / 2 * 1024 + (y 1).val, by omega⟩)
  refine Finset.sum_congr rfl fun k _ => Finset.sum_congr rfl fun r _ => (pay_full m c _ r (y 1)).trans ?_
  refine congrArg₂ (full m c) (Fin.ext ?_) (Fin.ext ?_)
  · show (2 * (t.val / 2) + k.val) % 2 * 2048 + r.val = k.val * 2048 + r.val
    omega
  · show (2 * (t.val / 2) + k.val) / 2 * 1024 + (y 1).val = t.val / 2 * 1024 + (y 1).val
    omega

end Cert.Kernel2Ideal.Dx

namespace Cert.Reference2Ideal.Dx

open Cert.Reference2Ideal Cert.Reference2Ideal.Gen

/-- The hidden layer before the rectifier. -/
def pre (h : FVec Ideal S4096x1024 .f32) (w : FVec Ideal S1024x4096 .f32) (b : FVec Ideal S1x4096 .f32) : FVec Ideal S4096x4096 .f32 :=
  addf (Host.dotGeneral dot_S4096x1024_S1024x4096_S4096x4096_1_0_0_1_n_n none h w) (broadcastInDim S4096x4096 ![0, 1] bcast_S1x4096_S4096x4096_0_1 b)

theorem pre_at (h : FVec Ideal S4096x1024 .f32) (w : FVec Ideal S1024x4096 .f32) (b : FVec Ideal S1x4096 .f32) (r x : Fin 4096) :
    pre h w b (ix2 r x) = Cert.Kernel2Ideal.Dx.preAt h w b r x := by
  pointwise [pre]
  rfl

/-- Its cotangents. -/
def dp (p : FVec Ideal S4096x4096 .f32) (w2 y : FVec Ideal S4096x1024 .bf16) : FVec Ideal S4096x4096 .f32 :=
  select (cmpf .ogt p (broadcastInDim S4096x4096 ![] bcast_S_S4096x4096 (constant S_ .f32 0x00000000#32))) (mulf (Host.dotGeneral dot_S4096x1024_S4096x1024_S4096x4096_1_1_0_0_n_n none (extf .f32 y bitsLt_bf16_f32) (extf .f32 w2 bitsLt_bf16_f32)) (mulf (broadcastInDim S4096x4096 ![] bcast_S_S4096x4096 (constant S_ .f32 0x40000000#32)) (maximumf p (broadcastInDim S4096x4096 ![] bcast_S_S4096x4096 (constant S_ .f32 0x00000000#32))))) (broadcastInDim S4096x4096 ![] bcast_S_S4096x4096 (constant S_ .f32 0x00000000#32))

theorem dp_at (p : FVec Ideal S4096x4096 .f32) (w2 y : FVec Ideal S4096x1024 .bf16) (r x : Fin 4096) :
    dp p w2 y (ix2 r x) = Cert.Kernel2Ideal.Dx.dpre w2 y r x (p (ix2 r x)) := by
  pointwise [dp]
  split_ifs with h
  · rfl
  · rw [Cert.Kernel2Ideal.Dx.dpre, max_eq_right (not_lt.mp h), mul_zero, mul_zero]

/-- The sums over the rows. -/
def sums (d : FVec Ideal S4096x4096 .f32) : FVec Ideal S1x4096 .f32 :=
  shapeCast _ (Host.reduceAdd d (constant S_ .f32 0x00000000#32) reducesTo_S4096x4096_S4096_d0 h_S_) shapeCasts_S4096_S1x4096

theorem sums_at (d : FVec Ideal S4096x4096 .f32) (z : Fin 1) (x : Fin 4096) : sums d (ix2 z x) = ∑ r : Fin 4096, d (ix2 r x) := by
  pointwise [sums]

end Cert.Reference2Ideal.Dx

end
-- ==== Proof.Ff2Dw.lean ====
/- The gradient of the second matrix of the feed-forward layer. -/
module

public import proofs.«01_k».proof.Proof.Gen.Kernel3Ideal.Value
public import proofs.«01_k».proof.Proof.Gen.Reference3Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel3Ideal.Dw

open Cert.K Cert.Kernel3Ideal Cert.Kernel3Ideal.Gen

/-- The hidden layer before the rectifier, at an entry. -/
def preAt (h : FVec Ideal S4096x1024 .f32) (w : FVec Ideal S1024x4096 .f32) (b : FVec Ideal S1x4096 .f32) (r x : Fin 4096) : EReal :=
  (∑ d : Fin 1024, h (ix2 r d) * w (ix2 d x)) + b (ix2 0 x)

/-- The hidden layer, at an entry: the square of the rectifier. -/
def actAt (h : FVec Ideal S4096x1024 .f32) (w : FVec Ideal S1024x4096 .f32) (b : FVec Ideal S1x4096 .f32) (r x : Fin 4096) : EReal :=
  max (preAt h w b r x) 0 * max (preAt h w b r x) 0

/-- Entry `(x, d)` of the gradient: column `x` of the hidden layer against column `d` of the cotangents. -/
def dwAt (a : Fin 4096 → Fin 4096 → EReal) (y : FVec Ideal S4096x1024 .bf16) (x : Fin 4096) (d : Fin 1024) : EReal :=
  ∑ r : Fin 4096, a r x * y (ix2 r d)

variable (m : (ℓ : Loc nD τ sig) → Buf (Elt Ideal) ℓ)

/-- The input, the first matrix, its bias and the cotangents. -/
abbrev hA (c : Dev nD) : FVec Ideal S4096x1024 .f32 := m ((c.tc : Thread nD τ).loc main_arg0)
abbrev w1A (c : Dev nD) : FVec Ideal S1024x4096 .f32 := m ((c.tc : Thread nD τ).loc main_arg1)
abbrev bA (c : Dev nD) : FVec Ideal S1x4096 .f32 := m ((c.tc : Thread nD τ).loc main_arg2)
abbrev yA (c : Dev nD) : FVec Ideal S4096x1024 .bf16 := m ((c.tc : Thread nD τ).loc main_arg3)

/-- The hidden layer. -/
abbrev aA (c : Dev nD) : Fin 4096 → Fin 4096 → EReal := actAt (hA m c) (w1A m c) (bA m c)

/-- The blocks a grid point names. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem lt8 (t : Fin cfg0.N) : t.val < 8 := t.isLt

/-- The hidden layer before the rectifier. -/
def pre (h : FVec Ideal S4096x1024 .f32) (w : FVec Ideal S1024x4096 .f32) (b : FVec Ideal S1x4096 .f32) : FVec Ideal S4096x4096 .f32 :=
  addf (Host.dotGeneral dot_S4096x1024_S1024x4096_S4096x4096_1_0_0_1_n_n none h w) (broadcastInDim S4096x4096 ![0, 1] bcast_S1x4096_S4096x4096_0_1 b)

theorem pre_at (h : FVec Ideal S4096x1024 .f32) (w : FVec Ideal S1024x4096 .f32) (b : FVec Ideal S1x4096 .f32) (r x : Fin 4096) :
    pre h w b (ix2 r x) = preAt h w b r x := by
  pointwise [pre]
  rfl

/-- Its rectifier. -/
def rect (p : FVec Ideal S4096x4096 .f32) : FVec Ideal S4096x4096 .f32 :=
  maximumf p (broadcastInDim S4096x4096 ![] bcast_S_S4096x4096 (constant S_ .f32 0x00000000#32))

theorem rect_at (p : FVec Ideal S4096x4096 .f32) (r x : Fin 4096) : rect p (ix2 r x) = max (p (ix2 r x)) 0 := by
  pointwise [rect]

/-- Its square. -/
def act (p : FVec Ideal S4096x4096 .f32) : FVec Ideal S4096x4096 .bf16 := truncf .bf16 (mulf (rect p) (rect p)) bitsLt_bf16_f32

theorem act_at (h : FVec Ideal S4096x1024 .f32) (w : FVec Ideal S1024x4096 .f32) (b : FVec Ideal S1x4096 .f32) (r x : Fin 4096) :
    act (pre h w b) (ix2 r x) = actAt h w b r x := by
  pointwise [act, rect_at, pre_at]
  rfl

/-- What the launch is entered with. -/
theorem V_act (c : Dev nD) : (V m c main_v6 : FVec Ideal S4096x4096 .bf16) = act (pre (hA m c) (w1A m c) (bA m c)) := by
  entry_read
  rfl

theorem a_blk (c : Dev nD) (t : Fin cfg0.N) (r : Fin 1024) (x : Fin 2048) : iblk m c 0 t (ix2 r x)
    = aA m c ⟨t.val % 4 * 1024 + r.val, by omega⟩ ⟨t.val / 4 * 2048 + x.val, by have := lt8 t; omega⟩ := by
  rw [aA, ← act_at, ← V_act]
  show (V m c main_v6 : FVec Ideal S4096x4096 .bf16) ((win0_0.blk t).view.emb (ix2 r x)) = _
  refine congrArg _ (funext fun a => Fin.ext ?_)
  fin_cases a
  · blk_simp [idx t]; rfl
  · blk_simp [idx t]; rfl

theorem y_blk (c : Dev nD) (t : Fin cfg0.N) (r : Fin 1024) (d : Fin 1024) :
    iblk m c 1 t (ix2 r d) = yA m c (ix2 ⟨t.val % 4 * 1024 + r.val, by omega⟩ d) := by
  blk_point [iblk, V, idx t]

/-- A slice of the contraction, of a block of the hidden layer and one of the cotangents. -/
def part (y : FVec Ideal S1024x1024 .bf16) (a : FVec Ideal S1024x2048 .bf16) (j : S2048x1024.Idx) : EReal :=
  ∑ r : Fin 1024, a (ix2 r (j 0)) * y (ix2 r (j 1))

theorem pay1_at (y : FVec Ideal S1024x1024 .bf16) (a : FVec Ideal S1024x2048 .bf16) (j : S2048x1024.Idx) :
    k0_pay1 (F := Ideal) y a j = part y a j := by
  idx_vars j
  pointwise [k0_pay1]
  rfl

theorem pay2_at (s : FVec Ideal S2048x1024 .f32) (y : FVec Ideal S1024x1024 .bf16) (a : FVec Ideal S1024x2048 .bf16) (j : S2048x1024.Idx) :
    k0_pay2 (F := Ideal) s y a j = s j + part y a j := by
  rw [← pay1_at]
  idx_vars j
  pointwise [k0_pay1, k0_pay2]

theorem pay3_at (s : FVec Ideal S2048x1024 .f32) (y : FVec Ideal S1024x1024 .bf16) (a : FVec Ideal S1024x2048 .bf16) (j : S2048x1024.Idx) :
    k0_pay3 (F := Ideal) s y a j = s j + part y a j := by
  rw [← pay1_at]
  idx_vars j
  pointwise [k0_pay1, k0_pay3]

/-- What point `t` adds. -/
def term (c : Dev nD) (t : Fin cfg0.N) (j : S2048x1024.Idx) : EReal :=
  ∑ r : Fin 1024, aA m c ⟨t.val % 4 * 1024 + r.val, by omega⟩ ⟨t.val / 4 * 2048 + (j 0).val, by have := lt8 t; have : (j 0).val < 2048 := (j 0).isLt; omega⟩
    * yA m c (ix2 ⟨t.val % 4 * 1024 + r.val, by omega⟩ (j 1))

theorem part_term (c : Dev nD) (t : Fin cfg0.N) (j : S2048x1024.Idx) : part (iblk m c 1 t) (iblk m c 0 t) j = term m c t j :=
  Finset.sum_congr rfl fun r _ => congrArg₂ (· * ·) (a_blk m c t r (j 0)) (y_blk m c t r (j 1))

theorem sA (c : Dev nD) (t : Fin cfg0.N) (h : t.val % 4 = 0) (j : S2048x1024.Idx) : (outsAt0 m c t.val t.isLt).2 j = term m c t j := by
  rw [outsAt0_A m c t h (by omega) (by omega)]
  frame_out
  exact (pay1_at _ _ j).trans (part_term m c t j)

theorem sB (c : Dev nD) (t : Fin cfg0.N) (h : 1 ≤ t.val % 4 ∧ t.val % 4 ≤ 2) (j : S2048x1024.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  exact (pay2_at _ _ _ j).trans (congrArg₂ (· + ·) (congrFun (Memref.IsWhole.read_unread _ _) j) (part_term m c t j))

theorem oC (c : Dev nD) (t : Fin cfg0.N) (h : t.val % 4 = 3) (j : S2048x1024.Idx) : (outsAt0 m c t.val t.isLt).1 j
    = (outsAt0 m c (t.val - 1) (Nat.lt_of_le_of_lt (Nat.sub_le _ _) t.isLt)).2 j + term m c t j := by
  rw [outsAt0_C m c t (by omega) (by omega) h]
  frame_out
  exact (pay3_at _ _ _ j).trans (congrArg₂ (· + ·) (congrFun (Memref.IsWhole.read_unread _ _) j) (part_term m c t j))

/-- The gradient after the launch. -/
theorem arr_dw (c : Dev nD) : (dats m 0 c).arrAt 2 cfg0.N
    = fun i : S4096x1024.Idx => dwAt (aA m c) (yA m c) (i 0) (i 1) := by
  refine (dats m 0 c).arrAt_eq_of_covers 2 _ (by decide +kernel) fun t hf y => ?_
  blk_simp
  rw [after0_2]
  have h3 : t.val % 4 = 3 := (flush0_2 t).mp hf
  have ht := lt8 t
  have y0 : (y 0).val < 2048 := (y 0).isLt
  have h0 : (⟨t.val / 4 * 2048 + (y 0).val, by omega⟩ : Fin 4096) = (win0_2.blk t).view.emb y 0 := by
    apply Fin.ext
    blk_simp [idx t]
  have h1 : (y 1 : Fin 1024) = (win0_2.blk t).view.emb y 1 := by
    apply Fin.ext
    blk_simp [idx t]
  have e := run_four (fun n h => (outsAt0 m c n h).1) (fun n h => (outsAt0 m c n h).2) (term m c) (sA m c) (sB m c) (oC m c) t h3 y
  refine e.trans (Eq.trans ?_ (congr (congrArg (dwAt (aA m c) (yA m c)) h0) h1))
  refine Eq.trans ?_ (sum_slices fun r => aA m c r ⟨t.val / 4 * 2048 + (y 0).val, by omega⟩ * yA m c (ix2 r (y 1)))
  refine Finset.sum_congr rfl fun k _ => Finset.sum_congr rfl fun r _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 1024 + r.val, by omega⟩ : Fin 4096) = ⟨k.val * 1024 + r.val, by omega⟩ :=
    Fin.ext (by show _ + _ = _ + _; omega)
  exact congrArg₂ (fun x r' => aA m c r' x * yA m c (ix2 r' (y 1))) hr hx

end Cert.Kernel3Ideal.Dw

namespace Cert.Reference3Ideal.Dw

open Cert.Reference3Ideal Cert.Reference3Ideal.Gen

/-- The product of the cotangents with the hidden layer, transposed. -/
def dw (p : FVec Ideal S4096x4096 .f32) (y : FVec Ideal S4096x1024 .bf16) : FVec Ideal S4096x1024 .bf16 :=
  truncf .bf16 (transpose S4096x1024 [1, 0] (Host.dotGeneral dot_S4096x1024_S4096x4096_S1024x4096_0_0_1_1_n_n none (extf .f32 y bitsLt_bf16_f32) (mulf (Cert.Kernel3Ideal.Dw.rect p) (Cert.Kernel3Ideal.Dw.rect p))) transposes_S1024x4096_S4096x1024_1_0) bitsLt_bf16_f32

theorem dw_at (h : FVec Ideal S4096x1024 .f32) (w : FVec Ideal S1024x4096 .f32) (b : FVec Ideal S1x4096 .f32) (y : FVec Ideal S4096x1024 .bf16)
    (x : Fin 4096) (d : Fin 1024) :
    dw (Cert.Kernel3Ideal.Dw.pre h w b) y (ix2 x d) = Cert.Kernel3Ideal.Dw.dwAt (Cert.Kernel3Ideal.Dw.actAt h w b) y x d := by
  pointwise [dw, Cert.Kernel3Ideal.Dw.rect_at, Cert.Kernel3Ideal.Dw.pre_at]
  exact Finset.sum_congr rfl fun r _ => mul_comm _ _

end Cert.Reference3Ideal.Dw

end
-- ==== Proof.Ff1Dw.lean ====
/- The gradient of a matrix kept in eight shards of columns: what the kernel leaves and what the reference says. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel4Ideal.Dw

open Cert.Kernel4Ideal Cert.Kernel4Ideal.Gen

/-- Entry `(a, b)` of shard `s` of the gradient: column `a` of the input against column `s * 512 + b` of the cotangents. -/
def dwAt (h : FVec Ideal S4096x1024 .bf16) (y : FVec Ideal S4096x4096 .bf16) (s : Fin 8) (a : Fin 1024) (b : Fin 512) : EReal :=
  ∑ r : Fin 4096, h (ix2 r a) * y (ix2 r ⟨s.val * 512 + b.val, by omega⟩)

variable (m : (ℓ : Loc nD τ sig) → Buf (Elt Ideal) ℓ)

/-- The input and the cotangents. -/
abbrev hA (c : Dev nD) : FVec Ideal S4096x1024 .bf16 := m ((c.tc : Thread nD τ).loc main_arg0)
abbrev yA (c : Dev nD) : FVec Ideal S4096x4096 .bf16 := m ((c.tc : Thread nD τ).loc main_arg1)

/-- The blocks a grid point names. -/
theorem idx : ∀ t : Fin cfg0.N, win0_0.index t = ![0, 0] ∧ win0_1.index t = ![0, t.val] ∧ win0_2.index t = ![t.val, 0, 0] :=
  (by decide +kernel : ∀ t : Fin grid0.N, _)

theorem lt8 (t : Fin cfg0.N) : t.val < 8 := t.isLt

theorem h_blk (c : Dev nD) (t : Fin cfg0.N) (r : Fin 4096) (x : Fin 1024) : iblk m c 0 t (ix2 r x) = hA m c (ix2 r x) := by
  blk_point [iblk, V, idx t]

theorem y_blk (c : Dev nD) (t : Fin cfg0.N) (r : Fin 4096) (x : Fin 512) :
    iblk m c 1 t (ix2 r x) = yA m c (ix2 r ⟨t.val * 512 + x.val, by have := lt8 t; omega⟩) := by
  blk_point [iblk, V, idx t]

/-- What a point computes. -/
theorem pay_at (y : FVec Ideal S4096x512 .bf16) (h : FVec Ideal S4096x1024 .bf16) (j : S1x1024x512.Idx) :
    k0_pay1 (F := Ideal) y h j = ∑ r : Fin 4096, h (ix2 r (j 1)) * y (ix2 r (j 2)) := by
  idx_vars j
  pointwise [k0_pay1]

/-- The gradient after the launch. -/
theorem arr_dw (c : Dev nD) : (dats m 0 c).arrAt 2 cfg0.N
    = fun i : S8x1024x512.Idx => dwAt (hA m c) (yA m c) (i 0) (i 1) (i 2) := by
  refine (dats m 0 c).arrAt_eq_of_covers 2 _ (by decide +kernel) fun t hf y => ?_
  blk_simp
  rw [after0_2]
  frame_out
  refine (pay_at _ _ y).trans ?_
  have h0 : (⟨t.val, lt8 t⟩ : Fin 8) = (win0_2.blk t).view.emb y 0 := by
    apply Fin.ext
    blk_simp [idx t]
  have h1 : (y 1 : Fin 1024) = (win0_2.blk t).view.emb y 1 := by
    apply Fin.ext
    blk_simp [idx t]
  have h2 : (y 2 : Fin 512) = (win0_2.blk t).view.emb y 2 := by
    apply Fin.ext
    blk_simp [idx t]
  refine Eq.trans ?_ (congr (congr (congrArg (dwAt (hA m c) (yA m c)) h0) h1) h2)
  exact Finset.sum_congr rfl fun r _ => congrArg₂ (· * ·) (h_blk m c t r (y 1)) (y_blk m c t r (y 2))

end Cert.Kernel4Ideal.Dw

namespace Cert.Reference4Ideal.Dw

open Cert.Reference4Ideal Cert.Reference4Ideal.Gen

/-- The product of the cotangents with the input, its columns cut into shards. -/
def dw (h : FVec Ideal S4096x1024 .bf16) (y : FVec Ideal S4096x4096 .bf16) : FVec Ideal S8x1024x512 .bf16 :=
  truncf .bf16 (transpose S8x1024x512 [1, 0, 2] (shapeCast _ (transpose S1024x4096 [1, 0] (Host.dotGeneral dot_S4096x4096_S4096x1024_S4096x1024_0_0_1_1_n_n none (extf .f32 y bitsLt_bf16_f32) (extf .f32 h bitsLt_bf16_f32)) transposes_S4096x1024_S1024x4096_1_0) shapeCasts_S1024x4096_S1024x8x512) transposes_S1024x8x512_S8x1024x512_1_0_2) bitsLt_bf16_f32

theorem dw_at (h : FVec Ideal S4096x1024 .bf16) (y : FVec Ideal S4096x4096 .bf16) (s : Fin 8) (a : Fin 1024) (b : Fin 512) :
    dw h y (ix3 s a b) = Cert.Kernel4Ideal.Dw.dwAt h y s a b := by
  pointwise [dw]
  refine Finset.sum_congr rfl fun r _ => ?_
  exact mul_comm _ _

end Cert.Reference4Ideal.Dw

end
-- ==== Proof.Ff1Dx.lean ====
/- The gradient of the input of a product whose matrix is kept in eight shards of columns. -/
module

public import proofs.«01_k».proof.Proof.Gen.Kernel5Ideal.Value
public import proofs.«01_k».proof.Proof.Gen.Reference5Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel5Ideal.Dx

open Cert.K Cert.Kernel5Ideal Cert.Kernel5Ideal.Gen

/-- Row `d` of the matrix, at its column `x`. -/
def col (w : FVec Ideal S8x1024x512 .bf16) (d : Fin 1024) (x : Fin 4096) : EReal :=
  w (ix3 ⟨x.val / 512, by omega⟩ d ⟨x.val % 512, by omega⟩)

/-- Entry `(r, d)` of the gradient: row `r` of the cotangents against row `d` of the matrix. -/
def dxAt (y : FVec Ideal S4096x4096 .bf16) (w : FVec Ideal S8x1024x512 .bf16) (r : Fin 4096) (d : Fin 1024) : EReal :=
  ∑ x : Fin 4096, y (ix2 r x) * col w d x

variable (m : (ℓ : Loc nD τ sig) → Buf (Elt Ideal) ℓ)

/-- The cotangents and the matrix. -/
abbrev yA (c : Dev nD) : FVec Ideal S4096x4096 .bf16 := m ((c.tc : Thread nD τ).loc main_arg0)
abbrev wA (c : Dev nD) : FVec Ideal S8x1024x512 .bf16 := m ((c.tc : Thread nD τ).loc main_arg1)

/-- The blocks a grid point names. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

theorem lt8 (t : Fin cfg0.N) : t.val < 8 := t.isLt

theorem y_blk (c : Dev nD) (t : Fin cfg0.N) (r : Fin 2048) (x : Fin 1024) :
    iblk m c 0 t (ix2 r x) = yA m c (ix2 ⟨t.val / 4 * 2048 + r.val, by have := lt8 t; omega⟩ ⟨t.val % 4 * 1024 + x.val, by omega⟩) := by
  blk_point [iblk, V, idx t]

theorem w_blk (c : Dev nD) (t : Fin cfg0.N) (s : Fin 2) (d : Fin 1024) (x : Fin 512) :
    iblk m c 1 t (ix3 s d x) = wA m c (ix3 ⟨t.val % 4 * 2 + s.val, by omega⟩ d x) := by
  blk_point [iblk, V, idx t]

/-- A slice of the contraction, of the block of rows and of two shards. -/
def part (y : FVec Ideal S2048x1024 .bf16) (w0 w1 : FVec Ideal S1x1024x512 .bf16) (j : S2048x1024.Idx) : EReal :=
  ∑ x : Fin 512, y (ix2 (j 0) ⟨x.val, by omega⟩) * w0 (ix3 0 (j 1) x)
    + ∑ x : Fin 512, y (ix2 (j 0) ⟨512 + x.val, by omega⟩) * w1 (ix3 0 (j 1) x)

theorem pay1_at (w0 w1 : FVec Ideal S1x1024x512 .bf16) (y : FVec Ideal S2048x1024 .bf16) (j : S2048x1024.Idx) :
    k0_pay1 (F := Ideal) w0 w1 y j = part y w0 w1 j := by
  idx_vars j
  pointwise [k0_pay1]
  rfl

theorem pay2_at (a : FVec Ideal S2048x1024 .f32) (w0 w1 : FVec Ideal S1x1024x512 .bf16) (y : FVec Ideal S2048x1024 .bf16)
    (j : S2048x1024.Idx) : k0_pay2 (F := Ideal) a w0 w1 y j = a j + part y w0 w1 j := by
  rw [← pay1_at]
  idx_vars j
  pointwise [k0_pay1, k0_pay2]

theorem pay3_at (a : FVec Ideal S2048x1024 .f32) (w0 w1 : FVec Ideal S1x1024x512 .bf16) (y : FVec Ideal S2048x1024 .bf16)
    (j : S2048x1024.Idx) : k0_pay3 (F := Ideal) a w0 w1 y j = a j + part y w0 w1 j := by
  rw [← pay1_at]
  idx_vars j
  pointwise [k0_pay1, k0_pay3]

/-- What point `t` adds. -/
def term (c : Dev nD) (t : Fin cfg0.N) (j : S2048x1024.Idx) : EReal :=
  ∑ x : Fin 1024, yA m c (ix2 ⟨t.val / 4 * 2048 + (j 0).val, by have := lt8 t; have : (j 0).val < 2048 := (j 0).isLt; omega⟩ ⟨t.val % 4 * 1024 + x.val, by omega⟩)
    * col (wA m c) (j 1) ⟨t.val % 4 * 1024 + x.val, by omega⟩

/-- The slice of a point's blocks is what the point adds. -/
theorem part_term (c : Dev nD) (t : Fin cfg0.N) (w0 w1 : FVec Ideal S1x1024x512 .bf16) (j : S2048x1024.Idx)
    (h0 : ∀ d x, w0 (ix3 0 d x) = iblk m c 1 t (ix3 0 d x)) (h1 : ∀ d x, w1 (ix3 0 d x) = iblk m c 1 t (ix3 1 d x)) :
    part (iblk m c 0 t) w0 w1 j = term m c t j := by
  rw [term, ← sum_halves, part]
  refine congrArg₂ (· + ·) (Finset.sum_congr rfl fun x _ => ?_) (Finset.sum_congr rfl fun x _ => ?_)
  · refine congrArg₂ (· * ·) (y_blk m c t (j 0) ⟨x.val, by omega⟩) ?_
    exact ((h0 (j 1) x).trans (w_blk m c t 0 (j 1) x)).trans (congrArg (wA m c) (congrArg₂ (fun a b => ix3 a (j 1) b) (Fin.ext (by show t.val % 4 * 2 + 0 = (t.val % 4 * 1024 + x.val) / 512; omega))
      (Fin.ext (by show x.val = (t.val % 4 * 1024 + x.val) % 512; omega))))
  · refine congrArg₂ (· * ·) (y_blk m c t (j 0) ⟨512 + x.val, by omega⟩) ?_
    exact ((h1 (j 1) x).trans (w_blk m c t 1 (j 1) x)).trans (congrArg (wA m c) (congrArg₂ (fun a b => ix3 a (j 1) b) (Fin.ext (by show t.val % 4 * 2 + 1 = (t.val % 4 * 1024 + (512 + x.val)) / 512; omega))
      (Fin.ext (by show x.val = (t.val % 4 * 1024 + (512 + x.val)) % 512; omega))))

theorem sA (c : Dev nD) (t : Fin cfg0.N) (h : t.val % 4 = 0) (j : S2048x1024.Idx) : (outsAt0 m c t.val t.isLt).2 j = term m c t j := by
  rw [outsAt0_A m c t h (by omega) (by omega)]
  frame_out
  refine (pay1_at _ _ _ j).trans (part_term m c t _ _ j ?_ ?_)
  all_goals intro d x; pointwise

theorem sB (c : Dev nD) (t : Fin cfg0.N) (h : 1 ≤ t.val % 4 ∧ t.val % 4 ≤ 2) (j : S2048x1024.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  refine (pay2_at _ _ _ _ j).trans (congrArg₂ (· + ·) ?_ (part_term m c t _ _ j ?_ ?_))
  · exact congrFun (Memref.IsWhole.read_unread _ _) j
  all_goals intro d x; pointwise

theorem oC (c : Dev nD) (t : Fin cfg0.N) (h : t.val % 4 = 3) (j : S2048x1024.Idx) : (outsAt0 m c t.val t.isLt).1 j
    = (outsAt0 m c (t.val - 1) (Nat.lt_of_le_of_lt (Nat.sub_le _ _) t.isLt)).2 j + term m c t j := by
  rw [outsAt0_C m c t (by omega) (by omega) h]
  frame_out
  refine (pay3_at _ _ _ _ j).trans (congrArg₂ (· + ·) ?_ (part_term m c t _ _ j ?_ ?_))
  · exact congrFun (Memref.IsWhole.read_unread _ _) j
  all_goals intro d x; pointwise

/-- The gradient after the launch. -/
theorem arr_dx (c : Dev nD) : (dats m 0 c).arrAt 2 cfg0.N
    = fun i : S4096x1024.Idx => dxAt (yA m c) (wA m c) (i 0) (i 1) := by
  refine (dats m 0 c).arrAt_eq_of_covers 2 _ (by decide +kernel) fun t hf y => ?_
  blk_simp
  rw [after0_2]
  have h3 : t.val % 4 = 3 := (flush0_2 t).mp hf
  have ht := lt8 t
  have y0 : (y 0).val < 2048 := (y 0).isLt
  have h0 : (⟨t.val / 4 * 2048 + (y 0).val, by omega⟩ : Fin 4096) = (win0_2.blk t).view.emb y 0 := by
    apply Fin.ext
    blk_simp [idx t]
  have h1 : (y 1 : Fin 1024) = (win0_2.blk t).view.emb y 1 := by
    apply Fin.ext
    blk_simp [idx t]
  have e := run_four (fun n h => (outsAt0 m c n h).1) (fun n h => (outsAt0 m c n h).2) (term m c) (sA m c) (sB m c) (oC m c) t h3 y
  refine e.trans (Eq.trans ?_ (congr (congrArg (dxAt (yA m c) (wA m c)) h0) h1))
  refine Eq.trans ?_ (sum_slices fun x => yA m c (ix2 ⟨t.val / 4 * 2048 + (y 0).val, by omega⟩ x) * col (wA m c) (y 1) x)
  refine Finset.sum_congr rfl fun k _ => Finset.sum_congr rfl fun x _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 1024 + x.val, by omega⟩ : Fin 4096) = ⟨k.val * 1024 + x.val, by omega⟩ :=
    Fin.ext (by show _ + _ = _ + _; omega)
  exact congrArg₂ (fun r x' => yA m c (ix2 r x') * col (wA m c) (y 1) x') hr hx

end Cert.Kernel5Ideal.Dx

namespace Cert.Reference5Ideal.Dx

open Cert.Reference5Ideal Cert.Reference5Ideal.Gen

/-- The product of the cotangents with the matrix's rows. -/
def dx (y : FVec Ideal S4096x4096 .bf16) (w : FVec Ideal S8x1024x512 .bf16) : FVec Ideal S4096x1024 .f32 :=
  Host.dotGeneral dot_S4096x4096_S1024x4096_S4096x1024_1_1_0_0_n_n none (extf .f32 y bitsLt_bf16_f32) (shapeCast _ (transpose S1024x8x512 [1, 0, 2] (extf .f32 w bitsLt_bf16_f32) transposes_S8x1024x512_S1024x8x512_1_0_2) shapeCasts_S1024x8x512_S1024x4096)

theorem dx_at (y : FVec Ideal S4096x4096 .bf16) (w : FVec Ideal S8x1024x512 .bf16) (r : Fin 4096) (d : Fin 1024) :
    dx y w (ix2 r d) = Cert.Kernel5Ideal.Dx.dxAt y w r d := by
  pointwise [dx]
  rfl

end Cert.Reference5Ideal.Dx

end
-- ==== Proof.InDw.lean ====
/- The gradient of the input projection's matrix, in eight shards of 640 columns: what the kernel leaves and what the reference says. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel7Ideal.Dw

open Cert.Kernel7Ideal Cert.Kernel7Ideal.Gen

/-- Entry `(a, b)` of shard `s` of the gradient: column `a` of the input against column `s * 640 + b` of the cotangents. -/
def dwAt (h : FVec Ideal S4096x1024 .bf16) (y : FVec Ideal S4096x5120 .bf16) (s : Fin 8) (a : Fin 1024) (b : Fin 640) : EReal :=
  ∑ r : Fin 4096, h (ix2 r a) * y (ix2 r ⟨s.val * 640 + b.val, by omega⟩)

variable (m : (ℓ : Loc nD τ sig) → Buf (Elt Ideal) ℓ)

/-- The input and the cotangents. -/
abbrev hA (c : Dev nD) : FVec Ideal S4096x1024 .bf16 := m ((c.tc : Thread nD τ).loc main_arg0)
abbrev yA (c : Dev nD) : FVec Ideal S4096x5120 .bf16 := m ((c.tc : Thread nD τ).loc main_arg1)

/-- The blocks a grid point names. -/
theorem idx : ∀ t : Fin cfg0.N, win0_0.index t = ![0, 0] ∧ win0_1.index t = ![0, t.val] ∧ win0_2.index t = ![t.val, 0, 0] :=
  (by decide +kernel : ∀ t : Fin grid0.N, _)

theorem lt4 (t : Fin cfg0.N) : t.val < 4 := t.isLt

theorem h_blk (c : Dev nD) (t : Fin cfg0.N) (r : Fin 4096) (x : Fin 1024) : iblk m c 0 t (ix2 r x) = hA m c (ix2 r x) := by
  blk_point [iblk, V, idx t]

theorem y_blk (c : Dev nD) (t : Fin cfg0.N) (r : Fin 4096) (x : Fin 1280) :
    iblk m c 1 t (ix2 r x) = yA m c (ix2 r ⟨t.val * 1280 + x.val, by have := lt4 t; omega⟩) := by
  blk_point [iblk, V, idx t]

/-- What a point computes: two shards of the gradient. -/
theorem pay2_at (y : FVec Ideal S4096x1280 .bf16) (h : FVec Ideal S4096x1024 .bf16) (j : S1x1024x640.Idx) :
    k0_pay2 (F := Ideal) y h j = ∑ r : Fin 4096, h (ix2 r (j 1)) * y (ix2 r ⟨(j 2).val, Nat.lt_of_lt_of_le (j 2).isLt (by decide)⟩) := by
  idx_vars j
  pointwise [k0_pay2, k0_pay1]

theorem pay3_at (y : FVec Ideal S4096x1280 .bf16) (h : FVec Ideal S4096x1024 .bf16) (j : S1x1024x640.Idx) :
    k0_pay3 (F := Ideal) y h j = ∑ r : Fin 4096, h (ix2 r (j 1)) * y (ix2 r ⟨640 + (j 2).val, Nat.add_lt_add_left (m := 640) (j 2).isLt 640⟩) := by
  idx_vars j
  pointwise [k0_pay3, k0_pay1]

/-- A point's blocks. -/
abbrev hB (c : Dev nD) (t : Fin cfg0.N) : FVec Ideal S4096x1024 .bf16 := iblk m c 0 t
abbrev yB (c : Dev nD) (t : Fin cfg0.N) : FVec Ideal S4096x1280 .bf16 := iblk m c 1 t

/-- A shard's entry, from the point's blocks: shard `s` of the two has its columns from `s * 640`. -/
theorem tile (c : Dev nD) (t : Fin cfg0.N) (s : ℕ) (a : Fin 1024) (x : Fin 1280) (A : Fin 8) (a' : Fin 1024) (b : Fin 640)
    (hA' : A.val = t.val * 2 + s) (ha : a' = a) (hx : x.val = s * 640 + b.val) :
    ∑ r : Fin 4096, hB m c t (ix2 r a) * yB m c t (ix2 r x) = dwAt (hA m c) (yA m c) A a' b := by
  subst ha
  refine Finset.sum_congr rfl fun r _ => congrArg₂ (fun p q : EReal => p * q) (h_blk m c t r a') ((y_blk m c t r x).trans ?_)
  exact congrArg (fun q => yA m c (ix2 r q)) (Fin.ext (by show t.val * 1280 + x.val = A.val * 640 + b.val; omega))

/-- The gradient after the launch. -/
theorem arr_dw (c : Dev nD) : (dats m 0 c).arrAt 2 cfg0.N
    = fun i : S8x1024x640.Idx => dwAt (hA m c) (yA m c) (i 0) (i 1) (i 2) := by
  refine (dats m 0 c).arrAt_eq_of_covers 2 _ (by decide +kernel) fun t hf y => ?_
  blk_simp
  rw [after0_2]
  frame_out
  have ht := lt4 t
  have y0 : (y 0).val < 2 := (y 0).isLt
  have e0 : (⟨t.val * 2 + (y 0).val, by omega⟩ : Fin 8) = (win0_2.blk t).view.emb y 0 := by
    apply Fin.ext
    blk_simp [idx t]
  have e1 : (y 1 : Fin 1024) = (win0_2.blk t).view.emb y 1 := by
    apply Fin.ext
    blk_simp [idx t]
  have e2 : (y 2 : Fin 640) = (win0_2.blk t).view.emb y 2 := by
    apply Fin.ext
    blk_simp [idx t]
  refine Eq.trans ?_ (congr (congr (congrArg (dwAt (hA m c) (yA m c)) e0) e1) e2)
  canon_tiles y h
  case piece0 =>
    refine (pay3_at _ _ _).trans (tile m c t 1 _ _ _ _ _ ?_ (Fin.ext h1) ?_)
    · show t.val * 2 + _ = t.val * 2 + 1
      omega
    · rw [h2]
  case piece1 =>
    refine (pay2_at _ _ _).trans (tile m c t 0 _ _ _ _ _ ?_ (Fin.ext h1) ?_)
    · show t.val * 2 + _ = t.val * 2 + 0
      omega
    · rw [h2, Nat.zero_mul, Nat.zero_add]

end Cert.Kernel7Ideal.Dw

namespace Cert.Reference7Ideal.Dw

open Cert.Reference7Ideal Cert.Reference7Ideal.Gen

/-- The product of the cotangents with the input, its columns cut into shards. -/
def dw (h : FVec Ideal S4096x1024 .bf16) (y : FVec Ideal S4096x5120 .bf16) : FVec Ideal S8x1024x640 .bf16 :=
  truncf .bf16 (transpose S8x1024x640 [1, 0, 2] (shapeCast _ (transpose S1024x5120 [1, 0] (Host.dotGeneral dot_S4096x5120_S4096x1024_S5120x1024_0_0_1_1_n_n none (extf .f32 y bitsLt_bf16_f32) (extf .f32 h bitsLt_bf16_f32)) transposes_S5120x1024_S1024x5120_1_0) shapeCasts_S1024x5120_S1024x8x640) transposes_S1024x8x640_S8x1024x640_1_0_2) bitsLt_bf16_f32

theorem dw_at (h : FVec Ideal S4096x1024 .bf16) (y : FVec Ideal S4096x5120 .bf16) (s : Fin 8) (a : Fin 1024) (b : Fin 640) :
    dw h y (ix3 s a b) = Cert.Kernel7Ideal.Dw.dwAt h y s a b := by
  pointwise [dw]
  refine Finset.sum_congr rfl fun r _ => ?_
  exact mul_comm _ _

end Cert.Reference7Ideal.Dw

end
-- ==== Proof.InDx.lean ====
/- The gradient of the input projection's input, its matrix in eight shards of 640 columns. -/
module

public import proofs.«01_k».proof.Proof.Gen.Kernel8Ideal.Value
public import proofs.«01_k».proof.Proof.Gen.Reference8Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel8Ideal.Dx

open Cert.K Cert.Kernel8Ideal Cert.Kernel8Ideal.Gen

/-- Row `d` of the matrix, at its column `x`. -/
def col (w : FVec Ideal S8x1024x640 .bf16) (d : Fin 1024) (x : Fin 5120) : EReal :=
  w (ix3 ⟨x.val / 640, by omega⟩ d ⟨x.val % 640, by omega⟩)

/-- Entry `(r, d)` of the gradient: row `r` of the cotangents against row `d` of the matrix. -/
def dxAt (y : FVec Ideal S4096x5120 .bf16) (w : FVec Ideal S8x1024x640 .bf16) (r : Fin 4096) (d : Fin 1024) : EReal :=
  ∑ x : Fin 5120, y (ix2 r x) * col w d x

variable (m : (ℓ : Loc nD τ sig) → Buf (Elt Ideal) ℓ)

/-- The cotangents and the matrix. -/
abbrev yA (c : Dev nD) : FVec Ideal S4096x5120 .bf16 := m ((c.tc : Thread nD τ).loc main_arg0)
abbrev wA (c : Dev nD) : FVec Ideal S8x1024x640 .bf16 := m ((c.tc : Thread nD τ).loc main_arg1)

/-- The blocks a grid point names. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

theorem lt8 (t : Fin cfg0.N) : t.val < 8 := t.isLt

theorem y_blk (c : Dev nD) (t : Fin cfg0.N) (r : Fin 2048) (x : Fin 1280) :
    iblk m c 0 t (ix2 r x) = yA m c (ix2 ⟨t.val / 4 * 2048 + r.val, by have := lt8 t; omega⟩ ⟨t.val % 4 * 1280 + x.val, by omega⟩) := by
  blk_point [iblk, V, idx t]

theorem w_blk (c : Dev nD) (t : Fin cfg0.N) (s : Fin 2) (d : Fin 1024) (x : Fin 640) :
    iblk m c 1 t (ix3 s d x) = wA m c (ix3 ⟨t.val % 4 * 2 + s.val, by omega⟩ d x) := by
  blk_point [iblk, V, idx t]

/-- A slice of the contraction, of the block of rows and of two shards. -/
def part (y : FVec Ideal S2048x1280 .bf16) (w0 w1 : FVec Ideal S1x1024x640 .bf16) (j : S2048x1024.Idx) : EReal :=
  ∑ x : Fin 640, y (ix2 (j 0) ⟨x.val, by omega⟩) * w0 (ix3 0 (j 1) x)
    + ∑ x : Fin 640, y (ix2 (j 0) ⟨640 + x.val, by omega⟩) * w1 (ix3 0 (j 1) x)

theorem pay1_at (w0 w1 : FVec Ideal S1x1024x640 .bf16) (y : FVec Ideal S2048x1280 .bf16) (j : S2048x1024.Idx) :
    k0_pay1 (F := Ideal) w0 w1 y j = part y w0 w1 j := by
  idx_vars j
  pointwise [k0_pay1]
  rfl

theorem pay2_at (a : FVec Ideal S2048x1024 .f32) (w0 w1 : FVec Ideal S1x1024x640 .bf16) (y : FVec Ideal S2048x1280 .bf16)
    (j : S2048x1024.Idx) : k0_pay2 (F := Ideal) a w0 w1 y j = a j + part y w0 w1 j := by
  rw [← pay1_at]
  idx_vars j
  pointwise [k0_pay1, k0_pay2]

theorem pay3_at (a : FVec Ideal S2048x1024 .f32) (w0 w1 : FVec Ideal S1x1024x640 .bf16) (y : FVec Ideal S2048x1280 .bf16)
    (j : S2048x1024.Idx) : k0_pay3 (F := Ideal) a w0 w1 y j = a j + part y w0 w1 j := by
  rw [← pay1_at]
  idx_vars j
  pointwise [k0_pay1, k0_pay3]

/-- What point `t` adds. -/
def term (c : Dev nD) (t : Fin cfg0.N) (j : S2048x1024.Idx) : EReal :=
  ∑ x : Fin 1280, yA m c (ix2 ⟨t.val / 4 * 2048 + (j 0).val, by have := lt8 t; have : (j 0).val < 2048 := (j 0).isLt; omega⟩ ⟨t.val % 4 * 1280 + x.val, by omega⟩)
    * col (wA m c) (j 1) ⟨t.val % 4 * 1280 + x.val, by omega⟩

/-- The slice of a point's blocks is what the point adds. -/
theorem part_term (c : Dev nD) (t : Fin cfg0.N) (w0 w1 : FVec Ideal S1x1024x640 .bf16) (j : S2048x1024.Idx)
    (h0 : ∀ d x, w0 (ix3 0 d x) = iblk m c 1 t (ix3 0 d x)) (h1 : ∀ d x, w1 (ix3 0 d x) = iblk m c 1 t (ix3 1 d x)) :
    part (iblk m c 0 t) w0 w1 j = term m c t j := by
  rw [term, ← sum_halves_1280, part]
  refine congrArg₂ (· + ·) (Finset.sum_congr rfl fun x _ => ?_) (Finset.sum_congr rfl fun x _ => ?_)
  · refine congrArg₂ (· * ·) (y_blk m c t (j 0) ⟨x.val, by omega⟩) ?_
    exact ((h0 (j 1) x).trans (w_blk m c t 0 (j 1) x)).trans (congrArg (wA m c) (congrArg₂ (fun a b => ix3 a (j 1) b) (Fin.ext (by show t.val % 4 * 2 + 0 = (t.val % 4 * 1280 + x.val) / 640; omega))
      (Fin.ext (by show x.val = (t.val % 4 * 1280 + x.val) % 640; omega))))
  · refine congrArg₂ (· * ·) (y_blk m c t (j 0) ⟨640 + x.val, by omega⟩) ?_
    exact ((h1 (j 1) x).trans (w_blk m c t 1 (j 1) x)).trans (congrArg (wA m c) (congrArg₂ (fun a b => ix3 a (j 1) b) (Fin.ext (by show t.val % 4 * 2 + 1 = (t.val % 4 * 1280 + (640 + x.val)) / 640; omega))
      (Fin.ext (by show x.val = (t.val % 4 * 1280 + (640 + x.val)) % 640; omega))))

theorem sA (c : Dev nD) (t : Fin cfg0.N) (h : t.val % 4 = 0) (j : S2048x1024.Idx) : (outsAt0 m c t.val t.isLt).2 j = term m c t j := by
  rw [outsAt0_A m c t h (by omega) (by omega)]
  frame_out
  refine (pay1_at _ _ _ j).trans (part_term m c t _ _ j ?_ ?_)
  all_goals intro d x; pointwise

theorem sB (c : Dev nD) (t : Fin cfg0.N) (h : 1 ≤ t.val % 4 ∧ t.val % 4 ≤ 2) (j : S2048x1024.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  refine (pay2_at _ _ _ _ j).trans (congrArg₂ (· + ·) ?_ (part_term m c t _ _ j ?_ ?_))
  · exact congrFun (Memref.IsWhole.read_unread _ _) j
  all_goals intro d x; pointwise

theorem oC (c : Dev nD) (t : Fin cfg0.N) (h : t.val % 4 = 3) (j : S2048x1024.Idx) : (outsAt0 m c t.val t.isLt).1 j
    = (outsAt0 m c (t.val - 1) (Nat.lt_of_le_of_lt (Nat.sub_le _ _) t.isLt)).2 j + term m c t j := by
  rw [outsAt0_C m c t (by omega) (by omega) h]
  frame_out
  refine (pay3_at _ _ _ _ j).trans (congrArg₂ (· + ·) ?_ (part_term m c t _ _ j ?_ ?_))
  · exact congrFun (Memref.IsWhole.read_unread _ _) j
  all_goals intro d x; pointwise

/-- The gradient after the launch. -/
theorem arr_dx (c : Dev nD) : (dats m 0 c).arrAt 2 cfg0.N
    = fun i : S4096x1024.Idx => dxAt (yA m c) (wA m c) (i 0) (i 1) := by
  refine (dats m 0 c).arrAt_eq_of_covers 2 _ (by decide +kernel) fun t hf y => ?_
  blk_simp
  rw [after0_2]
  have h3 : t.val % 4 = 3 := (flush0_2 t).mp hf
  have ht := lt8 t
  have y0 : (y 0).val < 2048 := (y 0).isLt
  have h0 : (⟨t.val / 4 * 2048 + (y 0).val, by omega⟩ : Fin 4096) = (win0_2.blk t).view.emb y 0 := by
    apply Fin.ext
    blk_simp [idx t]
  have h1 : (y 1 : Fin 1024) = (win0_2.blk t).view.emb y 1 := by
    apply Fin.ext
    blk_simp [idx t]
  have e := run_four (fun n h => (outsAt0 m c n h).1) (fun n h => (outsAt0 m c n h).2) (term m c) (sA m c) (sB m c) (oC m c) t h3 y
  refine e.trans (Eq.trans ?_ (congr (congrArg (dxAt (yA m c) (wA m c)) h0) h1))
  refine Eq.trans ?_ (sum_slices_5120 fun x => yA m c (ix2 ⟨t.val / 4 * 2048 + (y 0).val, by omega⟩ x) * col (wA m c) (y 1) x)
  refine Finset.sum_congr rfl fun k _ => Finset.sum_congr rfl fun x _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 1280 + x.val, by omega⟩ : Fin 5120) = ⟨k.val * 1280 + x.val, by omega⟩ :=
    Fin.ext (by show _ + _ = _ + _; omega)
  exact congrArg₂ (fun r x' => yA m c (ix2 r x') * col (wA m c) (y 1) x') hr hx

end Cert.Kernel8Ideal.Dx

namespace Cert.Reference8Ideal.Dx

open Cert.Reference8Ideal Cert.Reference8Ideal.Gen

/-- The product of the cotangents with the matrix's rows. -/
def dx (y : FVec Ideal S4096x5120 .bf16) (w : FVec Ideal S8x1024x640 .bf16) : FVec Ideal S4096x1024 .f32 :=
  Host.dotGeneral dot_S4096x5120_S1024x5120_S4096x1024_1_1_0_0_n_n none (extf .f32 y bitsLt_bf16_f32) (shapeCast _ (transpose S1024x8x640 [1, 0, 2] (extf .f32 w bitsLt_bf16_f32) transposes_S8x1024x640_S1024x8x640_1_0_2) shapeCasts_S1024x8x640_S1024x5120)

theorem dx_at (y : FVec Ideal S4096x5120 .bf16) (w : FVec Ideal S8x1024x640 .bf16) (r : Fin 4096) (d : Fin 1024) :
    dx y w (ix2 r d) = Cert.Kernel8Ideal.Dx.dxAt y w r d := by
  pointwise [dx]
  rfl

end Cert.Reference8Ideal.Dx

end
-- ==== Proof.Ff1Fwd.lean ====
/- The hidden layer of the feed-forward layer, before and after the rectifier, its matrix in eight shards of columns. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel9Ideal.Hid

open Cert.Kernel9Ideal Cert.Kernel9Ideal.Gen

/-- The hidden layer before the rectifier, at row `r` and column `x` of shard `s`. -/
def shardAt (h : FVec Ideal S4096x1024 .bf16) (w : FVec Ideal S8x1024x512 .bf16) (b : FVec Ideal S1x4096 .f32) (r : Fin 4096) (s : Fin 8) (x : Fin 512) : EReal :=
  (∑ d : Fin 1024, h (ix2 r d) * w (ix3 s d x)) + b (ix2 0 ⟨s.val * 512 + x.val, by omega⟩)

/-- The hidden layer before the rectifier, at an entry. -/
def preAt (h : FVec Ideal S4096x1024 .bf16) (w : FVec Ideal S8x1024x512 .bf16) (b : FVec Ideal S1x4096 .f32) (r x : Fin 4096) : EReal :=
  (∑ d : Fin 1024, h (ix2 r d) * w (ix3 ⟨x.val / 512, by omega⟩ d ⟨x.val % 512, by omega⟩)) + b (ix2 0 x)

/-- An entry's column is a column of its shard. -/
theorem shard_pre (h : FVec Ideal S4096x1024 .bf16) (w : FVec Ideal S8x1024x512 .bf16) (b : FVec Ideal S1x4096 .f32) (r : Fin 4096) (s : Fin 8) (x : Fin 512) :
    shardAt h w b r s x = preAt h w b r ⟨s.val * 512 + x.val, by omega⟩ := by
  have hs : (⟨(s.val * 512 + x.val) / 512, by omega⟩ : Fin 8) = s := Fin.ext (by show _ / _ = _; omega)
  have hx : (⟨(s.val * 512 + x.val) % 512, by omega⟩ : Fin 512) = x := Fin.ext (by show _ % _ = _; omega)
  rw [preAt, shardAt]
  simp only [hs, hx]

/-- The square of the rectifier. -/
def sq (z : EReal) : EReal := max z 0 * max z 0

variable (m : (ℓ : Loc nD τ sig) → Buf (Elt Ideal) ℓ)

/-- The input, the matrix and its bias. -/
abbrev hA (c : Dev nD) : FVec Ideal S4096x1024 .bf16 := m ((c.tc : Thread nD τ).loc main_arg0)
abbrev wA (c : Dev nD) : FVec Ideal S8x1024x512 .bf16 := m ((c.tc : Thread nD τ).loc main_arg1)
abbrev bA (c : Dev nD) : FVec Ideal S1x4096 .f32 := m ((c.tc : Thread nD τ).loc main_arg2)

/-- The blocks a grid point names. -/
theorem idx : ∀ t : Fin cfg0.N, win0_0.index t = ![t.val / 8, 0] ∧ win0_1.index t = ![t.val % 8, 0, 0]
    ∧ win0_2.index t = ![0, t.val % 8] ∧ win0_3.index t = ![t.val / 8, t.val % 8] ∧ win0_4.index t = ![t.val / 8, t.val % 8] :=
  (by decide +kernel : ∀ t : Fin grid0.N, _)

theorem lt16 (t : Fin cfg0.N) : t.val < 16 := t.isLt

theorem h_blk (c : Dev nD) (t : Fin cfg0.N) (r : Fin 2048) (d : Fin 1024) :
    iblk m c 0 t (ix2 r d) = hA m c (ix2 ⟨t.val / 8 * 2048 + r.val, by have := lt16 t; omega⟩ d) := by
  blk_point [iblk, V, idx t]

theorem w_blk (c : Dev nD) (t : Fin cfg0.N) (d : Fin 1024) (x : Fin 512) :
    iblk m c 1 t (ix3 0 d x) = wA m c (ix3 ⟨t.val % 8, by omega⟩ d x) := by
  blk_point [iblk, V, idx t]

theorem b_blk (c : Dev nD) (t : Fin cfg0.N) (x : Fin 512) :
    iblk m c 2 t (ix2 0 x) = bA m c (ix2 0 ⟨t.val % 8 * 512 + x.val, by omega⟩) := by
  blk_point [iblk, V, idx t]

/-- What a point computes of its blocks. -/
def part (w : FVec Ideal S1x1024x512 .bf16) (h : FVec Ideal S2048x1024 .bf16) (b : FVec Ideal S1x512 .f32) (j : S2048x512.Idx) : EReal :=
  (∑ d : Fin 1024, h (ix2 (j 0) d) * w (ix3 0 d (j 1))) + b (ix2 0 (j 1))

theorem pay1_at (w : FVec Ideal S1x1024x512 .bf16) (h : FVec Ideal S2048x1024 .bf16) (b : FVec Ideal S1x512 .f32) (j : S2048x512.Idx) :
    k0_pay1 (F := Ideal) w h b j = part w h b j := by
  idx_vars j
  pointwise [k0_pay1]
  rfl

theorem pay2_at (w : FVec Ideal S1x1024x512 .bf16) (h : FVec Ideal S2048x1024 .bf16) (b : FVec Ideal S1x512 .f32) (j : S2048x512.Idx) :
    k0_pay2 (F := Ideal) w h b j = sq (part w h b j) := by
  rw [← pay1_at]
  idx_vars j
  pointwise [k0_pay2]
  rfl

/-- A point's blocks give its block of the hidden layer. -/
theorem part_pre (c : Dev nD) (t : Fin cfg0.N) (j : S2048x512.Idx) : part (iblk m c 1 t) (iblk m c 0 t) (iblk m c 2 t) j
    = preAt (hA m c) (wA m c) (bA m c) ⟨t.val / 8 * 2048 + (j 0).val, by have := lt16 t; have : (j 0).val < 2048 := (j 0).isLt; omega⟩
      ⟨t.val % 8 * 512 + (j 1).val, by have : (j 1).val < 512 := (j 1).isLt; omega⟩ :=
  Eq.trans (congrArg₂ (· + ·) (Finset.sum_congr rfl fun d _ => congrArg₂ (· * ·) (h_blk m c t (j 0) d) (w_blk m c t d (j 1))) (b_blk m c t (j 1)))
    (shard_pre _ _ _ _ ⟨t.val % 8, by omega⟩ (j 1))

/-- The hidden layer before the rectifier, after the launch. -/
theorem arr_pre (c : Dev nD) : (dats m 0 c).arrAt 3 cfg0.N
    = fun i : S4096x4096.Idx => preAt (hA m c) (wA m c) (bA m c) (i 0) (i 1) := by
  refine (dats m 0 c).arrAt_eq_of_covers 3 _ (by decide +kernel) fun t hf y => ?_
  blk_simp
  rw [after0_3]
  frame_out
  refine (pay1_at _ _ _ y).trans ((part_pre m c t y).trans (congrArg₂ (preAt (hA m c) (wA m c) (bA m c)) ?_ ?_))
  all_goals
    apply Fin.ext
    blk_simp [idx t]

/-- And after it. -/
theorem arr_act (c : Dev nD) : (dats m 0 c).arrAt 4 cfg0.N
    = fun i : S4096x4096.Idx => sq (preAt (hA m c) (wA m c) (bA m c) (i 0) (i 1)) := by
  refine (dats m 0 c).arrAt_eq_of_covers 4 _ (by decide +kernel) fun t hf y => ?_
  blk_simp
  rw [after0_4]
  frame_out
  refine (pay2_at _ _ _ y).trans (congrArg sq ((part_pre m c t y).trans (congrArg₂ (preAt (hA m c) (wA m c) (bA m c)) ?_ ?_)))
  all_goals
    apply Fin.ext
    blk_simp [idx t]

end Cert.Kernel9Ideal.Hid

namespace Cert.Reference9Ideal.Hid

open Cert.Reference9Ideal Cert.Reference9Ideal.Gen

/-- The product of the input with the matrix, and the bias. -/
def pre (h : FVec Ideal S4096x1024 .bf16) (w : FVec Ideal S8x1024x512 .bf16) (b : FVec Ideal S1x4096 .f32) : FVec Ideal S4096x4096 .f32 :=
  addf (Host.dotGeneral dot_S4096x1024_S1024x4096_S4096x4096_1_0_0_1_n_n none (extf .f32 h bitsLt_bf16_f32) (shapeCast _ (transpose S1024x8x512 [1, 0, 2] (extf .f32 w bitsLt_bf16_f32) transposes_S8x1024x512_S1024x8x512_1_0_2) shapeCasts_S1024x8x512_S1024x4096)) (broadcastInDim S4096x4096 ![0, 1] bcast_S1x4096_S4096x4096_0_1 b)

theorem pre_at (h : FVec Ideal S4096x1024 .bf16) (w : FVec Ideal S8x1024x512 .bf16) (b : FVec Ideal S1x4096 .f32) (r x : Fin 4096) :
    pre h w b (ix2 r x) = Cert.Kernel9Ideal.Hid.preAt h w b r x := by
  pointwise [pre]
  rfl

/-- The square of its rectifier. -/
def act (p : FVec Ideal S4096x4096 .f32) : FVec Ideal S4096x4096 .bf16 :=
  truncf .bf16 (mulf (maximumf p (broadcastInDim S4096x4096 ![] bcast_S_S4096x4096 (constant S_ .f32 0x00000000#32))) (maximumf p (broadcastInDim S4096x4096 ![] bcast_S_S4096x4096 (constant S_ .f32 0x00000000#32)))) bitsLt_bf16_f32

theorem act_at (p : FVec Ideal S4096x4096 .f32) (r x : Fin 4096) : act p (ix2 r x) = Cert.Kernel9Ideal.Hid.sq (p (ix2 r x)) := by
  pointwise [act]
  rfl

end Cert.Reference9Ideal.Hid

end
-- ==== Proof.Ff2Fwd.lean ====
/- The output of the feed-forward layer. -/
module

public import proofs.«01_k».proof.Proof.Gen.Kernel10Ideal.Value
public import proofs.«01_k».proof.Proof.Gen.Reference10Ideal.Run
public import proofs.«01_k».proof.Proof.Ff2Dw

@[expose] public section

set_option maxRecDepth 16384

noncomputable section

open Idealize.ShloMosaic Idealize.ShloMosaic.TcCoe Idealize.SL.Sem

namespace Cert.Kernel10Ideal.Out

open Cert.K Cert.Kernel10Ideal Cert.Kernel10Ideal.Gen
open Cert.Kernel3Ideal.Dw (actAt pre act act_at)

/-- Entry `(r, d)` of the output: row `r` of the hidden layer against column `d` of the matrix, and the bias. -/
def outAt (a : Fin 4096 → Fin 4096 → EReal) (w : FVec Ideal S4096x1024 .bf16) (b : FVec Ideal S1x1024 .f32) (r : Fin 4096) (d : Fin 1024) : EReal :=
  (∑ x : Fin 4096, a r x * w (ix2 x d)) + b (ix2 0 d)

variable (m : (ℓ : Loc nD τ sig) → Buf (Elt Ideal) ℓ)

/-- The input, the first matrix and its bias, the second matrix and its bias. -/
abbrev hA (c : Dev nD) : FVec Ideal S4096x1024 .f32 := m ((c.tc : Thread nD τ).loc main_arg0)
abbrev w1A (c : Dev nD) : FVec Ideal S1024x4096 .f32 := m ((c.tc : Thread nD τ).loc main_arg1)
abbrev b1A (c : Dev nD) : FVec Ideal S1x4096 .f32 := m ((c.tc : Thread nD τ).loc main_arg2)
abbrev wA (c : Dev nD) : FVec Ideal S4096x1024 .bf16 := m ((c.tc : Thread nD τ).loc main_arg3)
abbrev bA (c : Dev nD) : FVec Ideal S1x1024 .f32 := m ((c.tc : Thread nD τ).loc main_arg4)

/-- The hidden layer. -/
abbrev aA (c : Dev nD) : Fin 4096 → Fin 4096 → EReal := actAt (hA m c) (w1A m c) (b1A m c)

/-- The blocks a grid point names. -/
theorem idx : ∀ t : Fin cfg0.N, win0_0.index t = ![t.val / 4, t.val % 4] ∧ win0_1.index t = ![t.val % 4, 0]
    ∧ win0_2.index t = ![0, 0] ∧ win0_3.index t = ![t.val / 4, 0] :=
  (by decide +kernel : ∀ t : Fin grid0.N, _)

theorem lt8 (t : Fin cfg0.N) : t.val < 8 := t.isLt

/-- What the launch is entered with. -/
theorem V_act (c : Dev nD) : (V m c main_v6 : FVec Ideal S4096x4096 .bf16) = act (pre (hA m c) (w1A m c) (b1A m c)) := by
  entry_read
  rfl

theorem a_blk (c : Dev nD) (t : Fin cfg0.N) (r : Fin 2048) (x : Fin 1024) : iblk m c 0 t (ix2 r x)
    = aA m c ⟨t.val / 4 * 2048 + r.val, by have := lt8 t; omega⟩ ⟨t.val % 4 * 1024 + x.val, by omega⟩ := by
  rw [aA, ← act_at, ← V_act]
  show (V m c main_v6 : FVec Ideal S4096x4096 .bf16) ((win0_0.blk t).view.emb (ix2 r x)) = _
  refine congrArg _ (funext fun a => Fin.ext ?_)
  fin_cases a
  · blk_simp [idx t]; rfl
  · blk_simp [idx t]; rfl

theorem w_blk (c : Dev nD) (t : Fin cfg0.N) (x : Fin 1024) (d : Fin 1024) :
    iblk m c 1 t (ix2 x d) = wA m c (ix2 ⟨t.val % 4 * 1024 + x.val, by omega⟩ d) := by
  blk_point [iblk, V, idx t]

theorem b_blk (c : Dev nD) (t : Fin cfg0.N) (d : Fin 1024) : iblk m c 2 t (ix2 0 d) = bA m c (ix2 0 d) := by
  blk_point [iblk, V, idx t]

/-- A slice of the contraction, of a block of the hidden layer and one of the matrix. -/
def part (w : FVec Ideal S1024x1024 .bf16) (a : FVec Ideal S2048x1024 .bf16) (j : S2048x1024.Idx) : EReal :=
  ∑ x : Fin 1024, a (ix2 (j 0) x) * w (ix2 x (j 1))

theorem pay1_at (w : FVec Ideal S1024x1024 .bf16) (a : FVec Ideal S2048x1024 .bf16) (j : S2048x1024.Idx) :
    k0_pay1 (F := Ideal) w a j = part w a j := by
  idx_vars j
  pointwise [k0_pay1]
  rfl

theorem pay2_at (s : FVec Ideal S2048x1024 .f32) (w : FVec Ideal S1024x1024 .bf16) (a : FVec Ideal S2048x1024 .bf16) (j : S2048x1024.Idx) :
    k0_pay2 (F := Ideal) s w a j = s j + part w a j := by
  rw [← pay1_at]
  idx_vars j
  pointwise [k0_pay1, k0_pay2]

theorem pay3_at (s : FVec Ideal S2048x1024 .f32) (w : FVec Ideal S1024x1024 .bf16) (a : FVec Ideal S2048x1024 .bf16) (b : FVec Ideal S1x1024 .f32)
    (j : S2048x1024.Idx) : k0_pay3 (F := Ideal) s w a b j = s j + part w a j + b (ix2 0 (j 1)) := by
  rw [← pay1_at]
  idx_vars j
  pointwise [k0_pay1, k0_pay3]

/-- What point `t` adds. -/
def term (c : Dev nD) (t : Fin cfg0.N) (j : S2048x1024.Idx) : EReal :=
  ∑ x : Fin 1024, aA m c ⟨t.val / 4 * 2048 + (j 0).val, by have := lt8 t; have : (j 0).val < 2048 := (j 0).isLt; omega⟩ ⟨t.val % 4 * 1024 + x.val, by omega⟩
    * wA m c (ix2 ⟨t.val % 4 * 1024 + x.val, by omega⟩ (j 1))

theorem part_term (c : Dev nD) (t : Fin cfg0.N) (j : S2048x1024.Idx) : part (iblk m c 1 t) (iblk m c 0 t) j = term m c t j :=
  Finset.sum_congr rfl fun x _ => congrArg₂ (· * ·) (a_blk m c t (j 0) x) (w_blk m c t x (j 1))

theorem sA (c : Dev nD) (t : Fin cfg0.N) (h : t.val % 4 = 0) (j : S2048x1024.Idx) : (outsAt0 m c t.val t.isLt).2 j = term m c t j := by
  rw [outsAt0_A m c t h (by omega) (by omega)]
  frame_out
  exact (pay1_at _ _ j).trans (part_term m c t j)

theorem sB (c : Dev nD) (t : Fin cfg0.N) (h : 1 ≤ t.val % 4 ∧ t.val % 4 ≤ 2) (j : S2048x1024.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  exact (pay2_at _ _ _ j).trans (congrArg₂ (· + ·) (congrFun (Memref.IsWhole.read_unread _ _) j) (part_term m c t j))

/-- What the last point of a run stores, the bias apart. -/
def last (c : Dev nD) (n : ℕ) (h : n < cfg0.N) (j : S2048x1024.Idx) : EReal :=
  (outsAt0 m c (n - 1) (Nat.lt_of_le_of_lt (Nat.sub_le _ _) h)).2 j + term m c ⟨n, h⟩ j

theorem oC (c : Dev nD) (t : Fin cfg0.N) (h : t.val % 4 = 3) (j : S2048x1024.Idx) : (outsAt0 m c t.val t.isLt).1 j
    = last m c t.val t.isLt j + bA m c (ix2 0 (j 1)) := by
  rw [outsAt0_C m c t (by omega) (by omega) h]
  frame_out
  exact (pay3_at _ _ _ _ j).trans (congrArg₂ (· + ·)
    (congrArg₂ (· + ·) (congrFun (Memref.IsWhole.read_unread _ _) j) (part_term m c t j)) (b_blk m c t (j 1)))

/-- The output after the launch. -/
theorem arr_out (c : Dev nD) : (dats m 0 c).arrAt 3 cfg0.N
    = fun i : S4096x1024.Idx => outAt (aA m c) (wA m c) (bA m c) (i 0) (i 1) := by
  refine (dats m 0 c).arrAt_eq_of_covers 3 _ (by decide +kernel) fun t hf y => ?_
  blk_simp
  rw [after0_3]
  have h3 : t.val % 4 = 3 := (flush0_3 t).mp hf
  have ht := lt8 t
  have y0 : (y 0).val < 2048 := (y 0).isLt
  have h0 : (⟨t.val / 4 * 2048 + (y 0).val, by omega⟩ : Fin 4096) = (win0_3.blk t).view.emb y 0 := by
    apply Fin.ext
    blk_simp [idx t]
  have h1 : (y 1 : Fin 1024) = (win0_3.blk t).view.emb y 1 := by
    apply Fin.ext
    blk_simp [idx t]
  have e := run_four (last m c) (fun n h => (outsAt0 m c n h).2) (term m c) (sA m c) (sB m c) (fun _ _ _ => rfl) t h3 y
  refine ((oC m c t h3 y).trans (congrArg (· + _) e)).trans (Eq.trans ?_ (congr (congrArg (outAt (aA m c) (wA m c) (bA m c)) h0) h1))
  refine congrArg (· + _) (Eq.trans ?_ (sum_slices fun x => aA m c ⟨t.val / 4 * 2048 + (y 0).val, by omega⟩ x * wA m c (ix2 x (y 1))))
  refine Finset.sum_congr rfl fun k _ => Finset.sum_congr rfl fun x _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 1024 + x.val, by omega⟩ : Fin 4096) = ⟨k.val * 1024 + x.val, by omega⟩ :=
    Fin.ext (by show _ + _ = _ + _; omega)
  exact congrArg₂ (fun r x' => aA m c r x' * wA m c (ix2 x' (y 1))) hr hx

end Cert.Kernel10Ideal.Out

namespace Cert.Reference10Ideal.Out

open Cert.Reference10Ideal Cert.Reference10Ideal.Gen

/-- The product of the hidden layer with the matrix, and the bias. -/
def out (p : FVec Ideal S4096x4096 .f32) (w : FVec Ideal S4096x1024 .bf16) (b : FVec Ideal S1x1024 .f32) : FVec Ideal S4096x1024 .f32 :=
  addf (Host.dotGeneral dot_S4096x4096_S4096x1024_S4096x1024_1_0_0_1_n_n none (mulf (Cert.Kernel3Ideal.Dw.rect p) (Cert.Kernel3Ideal.Dw.rect p)) (extf .f32 w bitsLt_bf16_f32)) (broadcastInDim S4096x1024 ![0, 1] bcast_S1x1024_S4096x1024_0_1 b)

theorem out_at (h : FVec Ideal S4096x1024 .f32) (w1 : FVec Ideal S1024x4096 .f32) (b1 : FVec Ideal S1x4096 .f32) (w : FVec Ideal S4096x1024 .bf16)
    (b : FVec Ideal S1x1024 .f32) (r : Fin 4096) (d : Fin 1024) :
    out (Cert.Kernel3Ideal.Dw.pre h w1 b1) w b (ix2 r d) = Cert.Kernel10Ideal.Out.outAt (Cert.Kernel3Ideal.Dw.actAt h w1 b1) w b r d := by
  pointwise [out, Cert.Kernel3Ideal.Dw.rect_at, Cert.Kernel3Ideal.Dw.pre_at]
  rfl

end Cert.Reference10Ideal.Out

end
-- ==== Proof.GluDw.lean ====
/- The gradient of the gated linear unit's matrix, in eight shards of 256 columns. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel11Ideal.Dw

open Cert.Kernel11Ideal Cert.Kernel11Ideal.Gen

/-- Entry `(a, b)` of shard `s` of the gradient: column `a` of the input against column `s * 256 + b` of the cotangents. -/
def dwAt (h : FVec Ideal S4096x768 .bf16) (y : FVec Ideal S4096x2048 .bf16) (s : Fin 8) (a : Fin 768) (b : Fin 256) : EReal :=
  ∑ r : Fin 4096, h (ix2 r a) * y (ix2 r ⟨s.val * 256 + b.val, by omega⟩)

variable (m : (ℓ : Loc nD τ sig) → Buf (Elt Ideal) ℓ)

/-- The input and the cotangents. -/
abbrev hA (c : Dev nD) : FVec Ideal S4096x768 .bf16 := m ((c.tc : Thread nD τ).loc main_arg0)
abbrev yA (c : Dev nD) : FVec Ideal S4096x2048 .bf16 := m ((c.tc : Thread nD τ).loc main_arg1)

/-- The blocks a grid point names. -/
theorem idx : ∀ t : Fin cfg0.N, win0_0.index t = ![0, 0] ∧ win0_1.index t = ![0, t.val] ∧ win0_2.index t = ![t.val, 0, 0] :=
  (by decide +kernel : ∀ t : Fin grid0.N, _)

theorem lt8 (t : Fin cfg0.N) : t.val < 8 := t.isLt

theorem h_blk (c : Dev nD) (t : Fin cfg0.N) (r : Fin 4096) (x : Fin 768) : iblk m c 0 t (ix2 r x) = hA m c (ix2 r x) := by
  blk_point [iblk, V, idx t]

theorem y_blk (c : Dev nD) (t : Fin cfg0.N) (r : Fin 4096) (x : Fin 256) :
    iblk m c 1 t (ix2 r x) = yA m c (ix2 r ⟨t.val * 256 + x.val, by have := lt8 t; omega⟩) := by
  blk_point [iblk, V, idx t]

/-- What a point computes. -/
theorem pay_at (y : FVec Ideal S4096x256 .bf16) (h : FVec Ideal S4096x768 .bf16) (j : S1x768x256.Idx) :
    k0_pay1 (F := Ideal) y h j = ∑ r : Fin 4096, h (ix2 r (j 1)) * y (ix2 r (j 2)) := by
  idx_vars j
  pointwise [k0_pay1]

/-- The gradient after the launch. -/
theorem arr_dw (c : Dev nD) : (dats m 0 c).arrAt 2 cfg0.N
    = fun i : S8x768x256.Idx => dwAt (hA m c) (yA m c) (i 0) (i 1) (i 2) := by
  refine (dats m 0 c).arrAt_eq_of_covers 2 _ (by decide +kernel) fun t hf y => ?_
  blk_simp
  rw [after0_2]
  frame_out
  refine (pay_at _ _ y).trans ?_
  have h0 : (⟨t.val, lt8 t⟩ : Fin 8) = (win0_2.blk t).view.emb y 0 := by
    apply Fin.ext
    blk_simp [idx t]
  have h1 : (y 1 : Fin 768) = (win0_2.blk t).view.emb y 1 := by
    apply Fin.ext
    blk_simp [idx t]
  have h2 : (y 2 : Fin 256) = (win0_2.blk t).view.emb y 2 := by
    apply Fin.ext
    blk_simp [idx t]
  refine Eq.trans ?_ (congr (congr (congrArg (dwAt (hA m c) (yA m c)) h0) h1) h2)
  exact Finset.sum_congr rfl fun r _ => congrArg₂ (· * ·) (h_blk m c t r (y 1)) (y_blk m c t r (y 2))

end Cert.Kernel11Ideal.Dw

namespace Cert.Reference11Ideal.Dw

open Cert.Reference11Ideal Cert.Reference11Ideal.Gen

/-- The product of the cotangents with the input, its columns cut into shards. -/
def dw (h : FVec Ideal S4096x768 .bf16) (y : FVec Ideal S4096x2048 .bf16) : FVec Ideal S8x768x256 .bf16 :=
  truncf .bf16 (transpose S8x768x256 [1, 0, 2] (shapeCast _ (transpose S768x2048 [1, 0] (Host.dotGeneral dot_S4096x2048_S4096x768_S2048x768_0_0_1_1_n_n none (extf .f32 y bitsLt_bf16_f32) (extf .f32 h bitsLt_bf16_f32)) transposes_S2048x768_S768x2048_1_0) shapeCasts_S768x2048_S768x8x256) transposes_S768x8x256_S8x768x256_1_0_2) bitsLt_bf16_f32

theorem dw_at (h : FVec Ideal S4096x768 .bf16) (y : FVec Ideal S4096x2048 .bf16) (s : Fin 8) (a : Fin 768) (b : Fin 256) :
    dw h y (ix3 s a b) = Cert.Kernel11Ideal.Dw.dwAt h y s a b := by
  pointwise [dw]
  refine Finset.sum_congr rfl fun r _ => ?_
  exact mul_comm _ _

end Cert.Reference11Ideal.Dw

end
-- ==== Proof.GluDx.lean ====
/- The gradient of the gated linear unit's input, its matrix in eight shards of 256 columns. -/
module

public import proofs.«01_k».proof.Proof.Gen.Kernel12Ideal.Value
public import proofs.«01_k».proof.Proof.Gen.Reference12Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel12Ideal.Dx

open Cert.K Cert.Kernel12Ideal Cert.Kernel12Ideal.Gen

/-- Row `d` of the matrix, at its column `x`. -/
def col (w : FVec Ideal S8x768x256 .bf16) (d : Fin 768) (x : Fin 2048) : EReal :=
  w (ix3 ⟨x.val / 256, by omega⟩ d ⟨x.val % 256, by omega⟩)

/-- Entry `(r, d)` of the gradient: row `r` of the cotangents against row `d` of the matrix. -/
def dxAt (y : FVec Ideal S4096x2048 .bf16) (w : FVec Ideal S8x768x256 .bf16) (r : Fin 4096) (d : Fin 768) : EReal :=
  ∑ x : Fin 2048, y (ix2 r x) * col w d x

/-- A sum over four slices of 512 is a sum over 2048. -/
theorem sum_slices_2048 (f : Fin 2048 → EReal) :
    ∑ k : Fin 4, ∑ x : Fin 512, f ⟨k.val * 512 + x.val, by omega⟩ = ∑ x : Fin 2048, f x :=
  Fin.sum_mul_add_congr fun _ _ _ => rfl

/-- A sum over 512 is the sum of its halves. -/
theorem sum_halves_512 (f : Fin 512 → EReal) :
    ∑ x : Fin 256, f ⟨x.val, by omega⟩ + ∑ x : Fin 256, f ⟨256 + x.val, by omega⟩ = ∑ x : Fin 512, f x := by
  have e : ∑ k : Fin 2, ∑ x : Fin 256, f ⟨k.val * 256 + x.val, by omega⟩ = ∑ x : Fin 512, f x :=
    Fin.sum_mul_add_congr fun _ _ _ => rfl
  rw [← e, Fin.sum_univ_two]
  refine congrArg₂ (· + ·) ?_ ?_ <;> exact Finset.sum_congr rfl fun x _ => congrArg f (Fin.ext (by simp))

variable (m : (ℓ : Loc nD τ sig) → Buf (Elt Ideal) ℓ)

/-- The cotangents and the matrix. -/
abbrev yA (c : Dev nD) : FVec Ideal S4096x2048 .bf16 := m ((c.tc : Thread nD τ).loc main_arg0)
abbrev wA (c : Dev nD) : FVec Ideal S8x768x256 .bf16 := m ((c.tc : Thread nD τ).loc main_arg1)

/-- The blocks a grid point names. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

theorem lt8 (t : Fin cfg0.N) : t.val < 8 := t.isLt

theorem y_blk (c : Dev nD) (t : Fin cfg0.N) (r : Fin 2048) (x : Fin 512) :
    iblk m c 0 t (ix2 r x) = yA m c (ix2 ⟨t.val / 4 * 2048 + r.val, by have := lt8 t; omega⟩ ⟨t.val % 4 * 512 + x.val, by omega⟩) := by
  blk_point [iblk, V, idx t]

theorem w_blk (c : Dev nD) (t : Fin cfg0.N) (s : Fin 2) (d : Fin 768) (x : Fin 256) :
    iblk m c 1 t (ix3 s d x) = wA m c (ix3 ⟨t.val % 4 * 2 + s.val, by omega⟩ d x) := by
  blk_point [iblk, V, idx t]

/-- A slice of the contraction, of the block of rows and of two shards. -/
def part (y : FVec Ideal S2048x512 .bf16) (w0 w1 : FVec Ideal S1x768x256 .bf16) (j : S2048x768.Idx) : EReal :=
  ∑ x : Fin 256, y (ix2 (j 0) ⟨x.val, by omega⟩) * w0 (ix3 0 (j 1) x)
    + ∑ x : Fin 256, y (ix2 (j 0) ⟨256 + x.val, by omega⟩) * w1 (ix3 0 (j 1) x)

theorem pay1_at (w0 w1 : FVec Ideal S1x768x256 .bf16) (y : FVec Ideal S2048x512 .bf16) (j : S2048x768.Idx) :
    k0_pay1 (F := Ideal) w0 w1 y j = part y w0 w1 j := by
  idx_vars j
  pointwise [k0_pay1]
  rfl

theorem pay2_at (a : FVec Ideal S2048x768 .f32) (w0 w1 : FVec Ideal S1x768x256 .bf16) (y : FVec Ideal S2048x512 .bf16)
    (j : S2048x768.Idx) : k0_pay2 (F := Ideal) a w0 w1 y j = a j + part y w0 w1 j := by
  rw [← pay1_at]
  idx_vars j
  pointwise [k0_pay1, k0_pay2]

theorem pay3_at (a : FVec Ideal S2048x768 .f32) (w0 w1 : FVec Ideal S1x768x256 .bf16) (y : FVec Ideal S2048x512 .bf16)
    (j : S2048x768.Idx) : k0_pay3 (F := Ideal) a w0 w1 y j = a j + part y w0 w1 j := by
  rw [← pay1_at]
  idx_vars j
  pointwise [k0_pay1, k0_pay3]

/-- What point `t` adds. -/
def term (c : Dev nD) (t : Fin cfg0.N) (j : S2048x768.Idx) : EReal :=
  ∑ x : Fin 512, yA m c (ix2 ⟨t.val / 4 * 2048 + (j 0).val, by have := lt8 t; have : (j 0).val < 2048 := (j 0).isLt; omega⟩ ⟨t.val % 4 * 512 + x.val, by omega⟩)
    * col (wA m c) (j 1) ⟨t.val % 4 * 512 + x.val, by omega⟩

/-- The slice of a point's blocks is what the point adds. -/
theorem part_term (c : Dev nD) (t : Fin cfg0.N) (w0 w1 : FVec Ideal S1x768x256 .bf16) (j : S2048x768.Idx)
    (h0 : ∀ d x, w0 (ix3 0 d x) = iblk m c 1 t (ix3 0 d x)) (h1 : ∀ d x, w1 (ix3 0 d x) = iblk m c 1 t (ix3 1 d x)) :
    part (iblk m c 0 t) w0 w1 j = term m c t j := by
  rw [term, ← sum_halves_512, part]
  refine congrArg₂ (· + ·) (Finset.sum_congr rfl fun x _ => ?_) (Finset.sum_congr rfl fun x _ => ?_)
  · refine congrArg₂ (· * ·) (y_blk m c t (j 0) ⟨x.val, by omega⟩) ?_
    exact ((h0 (j 1) x).trans (w_blk m c t 0 (j 1) x)).trans (congrArg (wA m c) (congrArg₂ (fun a b => ix3 a (j 1) b) (Fin.ext (by show t.val % 4 * 2 + 0 = (t.val % 4 * 512 + x.val) / 256; omega))
      (Fin.ext (by show x.val = (t.val % 4 * 512 + x.val) % 256; omega))))
  · refine congrArg₂ (· * ·) (y_blk m c t (j 0) ⟨256 + x.val, by omega⟩) ?_
    exact ((h1 (j 1) x).trans (w_blk m c t 1 (j 1) x)).trans (congrArg (wA m c) (congrArg₂ (fun a b => ix3 a (j 1) b) (Fin.ext (by show t.val % 4 * 2 + 1 = (t.val % 4 * 512 + (256 + x.val)) / 256; omega))
      (Fin.ext (by show x.val = (t.val % 4 * 512 + (256 + x.val)) % 256; omega))))

theorem sA (c : Dev nD) (t : Fin cfg0.N) (h : t.val % 4 = 0) (j : S2048x768.Idx) : (outsAt0 m c t.val t.isLt).2 j = term m c t j := by
  rw [outsAt0_A m c t h (by omega) (by omega)]
  frame_out
  refine (pay1_at _ _ _ j).trans (part_term m c t _ _ j ?_ ?_)
  all_goals intro d x; pointwise

theorem sB (c : Dev nD) (t : Fin cfg0.N) (h : 1 ≤ t.val % 4 ∧ t.val % 4 ≤ 2) (j : S2048x768.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  refine (pay2_at _ _ _ _ j).trans (congrArg₂ (· + ·) ?_ (part_term m c t _ _ j ?_ ?_))
  · exact congrFun (Memref.IsWhole.read_unread _ _) j
  all_goals intro d x; pointwise

theorem oC (c : Dev nD) (t : Fin cfg0.N) (h : t.val % 4 = 3) (j : S2048x768.Idx) : (outsAt0 m c t.val t.isLt).1 j
    = (outsAt0 m c (t.val - 1) (Nat.lt_of_le_of_lt (Nat.sub_le _ _) t.isLt)).2 j + term m c t j := by
  rw [outsAt0_C m c t (by omega) (by omega) h]
  frame_out
  refine (pay3_at _ _ _ _ j).trans (congrArg₂ (· + ·) ?_ (part_term m c t _ _ j ?_ ?_))
  · exact congrFun (Memref.IsWhole.read_unread _ _) j
  all_goals intro d x; pointwise

/-- The gradient after the launch. -/
theorem arr_dx (c : Dev nD) : (dats m 0 c).arrAt 2 cfg0.N
    = fun i : S4096x768.Idx => dxAt (yA m c) (wA m c) (i 0) (i 1) := by
  refine (dats m 0 c).arrAt_eq_of_covers 2 _ (by decide +kernel) fun t hf y => ?_
  blk_simp
  rw [after0_2]
  have h3 : t.val % 4 = 3 := (flush0_2 t).mp hf
  have ht := lt8 t
  have y0 : (y 0).val < 2048 := (y 0).isLt
  have h0 : (⟨t.val / 4 * 2048 + (y 0).val, by omega⟩ : Fin 4096) = (win0_2.blk t).view.emb y 0 := by
    apply Fin.ext
    blk_simp [idx t]
  have h1 : (y 1 : Fin 768) = (win0_2.blk t).view.emb y 1 := by
    apply Fin.ext
    blk_simp [idx t]
  have e := run_four (fun n h => (outsAt0 m c n h).1) (fun n h => (outsAt0 m c n h).2) (term m c) (sA m c) (sB m c) (oC m c) t h3 y
  refine e.trans (Eq.trans ?_ (congr (congrArg (dxAt (yA m c) (wA m c)) h0) h1))
  refine Eq.trans ?_ (sum_slices_2048 fun x => yA m c (ix2 ⟨t.val / 4 * 2048 + (y 0).val, by omega⟩ x) * col (wA m c) (y 1) x)
  refine Finset.sum_congr rfl fun k _ => Finset.sum_congr rfl fun x _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 512 + x.val, by omega⟩ : Fin 2048) = ⟨k.val * 512 + x.val, by omega⟩ :=
    Fin.ext (by show _ + _ = _ + _; omega)
  exact congrArg₂ (fun r x' => yA m c (ix2 r x') * col (wA m c) (y 1) x') hr hx

end Cert.Kernel12Ideal.Dx

namespace Cert.Reference12Ideal.Dx

open Cert.Reference12Ideal Cert.Reference12Ideal.Gen

/-- The product of the cotangents with the matrix's rows. -/
def dx (y : FVec Ideal S4096x2048 .bf16) (w : FVec Ideal S8x768x256 .bf16) : FVec Ideal S4096x768 .f32 :=
  Host.dotGeneral dot_S4096x2048_S768x2048_S4096x768_1_1_0_0_n_n none (extf .f32 y bitsLt_bf16_f32) (shapeCast _ (transpose S768x8x256 [1, 0, 2] (extf .f32 w bitsLt_bf16_f32) transposes_S8x768x256_S768x8x256_1_0_2) shapeCasts_S768x8x256_S768x2048)

theorem dx_at (y : FVec Ideal S4096x2048 .bf16) (w : FVec Ideal S8x768x256 .bf16) (r : Fin 4096) (d : Fin 768) :
    dx y w (ix2 r d) = Cert.Kernel12Ideal.Dx.dxAt y w r d := by
  pointwise [dx]
  rfl

end Cert.Reference12Ideal.Dx

end
-- ==== Proof.GluFwd.lean ====
/- The projection onto the gated linear unit, its matrix in eight shards of 256 columns. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel13Ideal.Out

open Cert.Kernel13Ideal Cert.Kernel13Ideal.Gen

/-- The output, at row `r` and column `x` of shard `s`. -/
def shardAt (h : FVec Ideal S4096x768 .bf16) (w : FVec Ideal S8x768x256 .bf16) (b : FVec Ideal S1x2048 .f32) (r : Fin 4096) (s : Fin 8) (x : Fin 256) : EReal :=
  (∑ d : Fin 768, h (ix2 r d) * w (ix3 s d x)) + b (ix2 0 ⟨s.val * 256 + x.val, by omega⟩)

/-- The output, at an entry. -/
def outAt (h : FVec Ideal S4096x768 .bf16) (w : FVec Ideal S8x768x256 .bf16) (b : FVec Ideal S1x2048 .f32) (r : Fin 4096) (x : Fin 2048) : EReal :=
  (∑ d : Fin 768, h (ix2 r d) * w (ix3 ⟨x.val / 256, by omega⟩ d ⟨x.val % 256, by omega⟩)) + b (ix2 0 x)

/-- An entry's column is a column of its shard. -/
theorem shard_out (h : FVec Ideal S4096x768 .bf16) (w : FVec Ideal S8x768x256 .bf16) (b : FVec Ideal S1x2048 .f32) (r : Fin 4096) (s : Fin 8) (x : Fin 256) :
    shardAt h w b r s x = outAt h w b r ⟨s.val * 256 + x.val, by omega⟩ := by
  have hs : (⟨(s.val * 256 + x.val) / 256, by omega⟩ : Fin 8) = s := Fin.ext (by show _ / _ = _; omega)
  have hx : (⟨(s.val * 256 + x.val) % 256, by omega⟩ : Fin 256) = x := Fin.ext (by show _ % _ = _; omega)
  rw [outAt, shardAt]
  simp only [hs, hx]

variable (m : (ℓ : Loc nD τ sig) → Buf (Elt Ideal) ℓ)

/-- The input, the matrix and its bias. -/
abbrev hA (c : Dev nD) : FVec Ideal S4096x768 .bf16 := m ((c.tc : Thread nD τ).loc main_arg0)
abbrev wA (c : Dev nD) : FVec Ideal S8x768x256 .bf16 := m ((c.tc : Thread nD τ).loc main_arg1)
abbrev bA (c : Dev nD) : FVec Ideal S1x2048 .f32 := m ((c.tc : Thread nD τ).loc main_arg2)

/-- The blocks a grid point names. -/
theorem idx : ∀ t : Fin cfg0.N, win0_0.index t = ![t.val / 8, 0] ∧ win0_1.index t = ![t.val % 8, 0, 0]
    ∧ win0_2.index t = ![0, t.val % 8] ∧ win0_3.index t = ![t.val / 8, t.val % 8] :=
  (by decide +kernel : ∀ t : Fin grid0.N, _)

theorem lt16 (t : Fin cfg0.N) : t.val < 16 := t.isLt

theorem h_blk (c : Dev nD) (t : Fin cfg0.N) (r : Fin 2048) (d : Fin 768) :
    iblk m c 0 t (ix2 r d) = hA m c (ix2 ⟨t.val / 8 * 2048 + r.val, by have := lt16 t; omega⟩ d) := by
  blk_point [iblk, V, idx t]

theorem w_blk (c : Dev nD) (t : Fin cfg0.N) (d : Fin 768) (x : Fin 256) :
    iblk m c 1 t (ix3 0 d x) = wA m c (ix3 ⟨t.val % 8, by omega⟩ d x) := by
  blk_point [iblk, V, idx t]

theorem b_blk (c : Dev nD) (t : Fin cfg0.N) (x : Fin 256) :
    iblk m c 2 t (ix2 0 x) = bA m c (ix2 0 ⟨t.val % 8 * 256 + x.val, by omega⟩) := by
  blk_point [iblk, V, idx t]

/-- What a point computes of its blocks. -/
def part (w : FVec Ideal S1x768x256 .bf16) (h : FVec Ideal S2048x768 .bf16) (b : FVec Ideal S1x256 .f32) (j : S2048x256.Idx) : EReal :=
  (∑ d : Fin 768, h (ix2 (j 0) d) * w (ix3 0 d (j 1))) + b (ix2 0 (j 1))

theorem pay1_at (w : FVec Ideal S1x768x256 .bf16) (h : FVec Ideal S2048x768 .bf16) (b : FVec Ideal S1x256 .f32) (j : S2048x256.Idx) :
    k0_pay1 (F := Ideal) w h b j = part w h b j := by
  idx_vars j
  pointwise [k0_pay1]
  rfl

/-- A point's blocks give its block of the output. -/
theorem part_out (c : Dev nD) (t : Fin cfg0.N) (j : S2048x256.Idx) : part (iblk m c 1 t) (iblk m c 0 t) (iblk m c 2 t) j
    = outAt (hA m c) (wA m c) (bA m c) ⟨t.val / 8 * 2048 + (j 0).val, by have := lt16 t; have : (j 0).val < 2048 := (j 0).isLt; omega⟩
      ⟨t.val % 8 * 256 + (j 1).val, by have : (j 1).val < 256 := (j 1).isLt; omega⟩ :=
  Eq.trans (congrArg₂ (· + ·) (Finset.sum_congr rfl fun d _ => congrArg₂ (· * ·) (h_blk m c t (j 0) d) (w_blk m c t d (j 1))) (b_blk m c t (j 1)))
    (shard_out _ _ _ _ ⟨t.val % 8, by omega⟩ (j 1))

/-- The output after the launch. -/
theorem arr_out (c : Dev nD) : (dats m 0 c).arrAt 3 cfg0.N
    = fun i : S4096x2048.Idx => outAt (hA m c) (wA m c) (bA m c) (i 0) (i 1) := by
  refine (dats m 0 c).arrAt_eq_of_covers 3 _ (by decide +kernel) fun t hf y => ?_
  blk_simp
  rw [after0_3]
  frame_out
  refine (pay1_at _ _ _ y).trans ((part_out m c t y).trans (congrArg₂ (outAt (hA m c) (wA m c) (bA m c)) ?_ ?_))
  all_goals
    apply Fin.ext
    blk_simp [idx t]

end Cert.Kernel13Ideal.Out

namespace Cert.Reference13Ideal.Out

open Cert.Reference13Ideal Cert.Reference13Ideal.Gen

/-- The product of the input with the matrix, and the bias. -/
def out (h : FVec Ideal S4096x768 .bf16) (w : FVec Ideal S8x768x256 .bf16) (b : FVec Ideal S1x2048 .f32) : FVec Ideal S4096x2048 .f32 :=
  addf (Host.dotGeneral dot_S4096x768_S768x2048_S4096x2048_1_0_0_1_n_n none (extf .f32 h bitsLt_bf16_f32) (shapeCast _ (transpose S768x8x256 [1, 0, 2] (extf .f32 w bitsLt_bf16_f32) transposes_S8x768x256_S768x8x256_1_0_2) shapeCasts_S768x8x256_S768x2048)) (broadcastInDim S4096x2048 ![0, 1] bcast_S1x2048_S4096x2048_0_1 b)

theorem out_at (h : FVec Ideal S4096x768 .bf16) (w : FVec Ideal S8x768x256 .bf16) (b : FVec Ideal S1x2048 .f32) (r : Fin 4096) (x : Fin 2048) :
    out h w b (ix2 r x) = Cert.Kernel13Ideal.Out.outAt h w b r x := by
  pointwise [out]
  rfl

end Cert.Reference13Ideal.Out

end
-- ==== Proof.Square.lean ====
/- The products with a square matrix: the gradient of the matrix, of the input, and the product itself. -/
module

public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel14Ideal.Sq

open Cert.K Cert.Kernel14Ideal Cert.Kernel14Ideal.Gen

/-- Entry `(x, d)` of the matrix's gradient: column `x` of the input against column `d` of the cotangents. -/
def dwAt (a y : FVec Ideal S4096x1024 .bf16) (x d : Fin 1024) : EReal := ∑ r : Fin 4096, a (ix2 r x) * y (ix2 r d)

/-- Entry `(r, d)` of the input's gradient: row `r` of the cotangents against row `d` of the matrix. -/
def dxAt (y : FVec Ideal S4096x1024 .bf16) (w : FVec Ideal S1024x1024 .bf16) (r : Fin 4096) (d : Fin 1024) : EReal :=
  ∑ x : Fin 1024, y (ix2 r x) * w (ix2 d x)

/-- Entry `(r, d)` of the product: row `r` of the input against column `d` of the matrix. -/
def outAt (a : FVec Ideal S4096x1024 .bf16) (w : FVec Ideal S1024x1024 .bf16) (r : Fin 4096) (d : Fin 1024) : EReal :=
  ∑ x : Fin 1024, a (ix2 r x) * w (ix2 x d)

variable (m : (ℓ : Loc nD τ sig) → Buf (Elt Ideal) ℓ)

/-- The input and the cotangents. -/
abbrev aA (c : Dev nD) : FVec Ideal S4096x1024 .bf16 := m ((c.tc : Thread nD τ).loc main_arg0)
abbrev yA (c : Dev nD) : FVec Ideal S4096x1024 .bf16 := m ((c.tc : Thread nD τ).loc main_arg1)

/-- The blocks a grid point names. -/
theorem idx : ∀ t : Fin cfg0.N, win0_0.index t = ![t.val, 0] ∧ win0_1.index t = ![t.val, 0] ∧ win0_2.index t = ![0, 0] :=
  (by decide +kernel : ∀ t : Fin grid0.N, _)

theorem lt2 (t : Fin cfg0.N) : t.val < 2 := t.isLt

theorem a_blk (c : Dev nD) (t : Fin cfg0.N) (r : Fin 2048) (x : Fin 1024) :
    iblk m c 0 t (ix2 r x) = aA m c (ix2 ⟨t.val * 2048 + r.val, by have := lt2 t; omega⟩ x) := by
  blk_point [iblk, V, idx t]

theorem y_blk (c : Dev nD) (t : Fin cfg0.N) (r : Fin 2048) (d : Fin 1024) :
    iblk m c 1 t (ix2 r d) = yA m c (ix2 ⟨t.val * 2048 + r.val, by have := lt2 t; omega⟩ d) := by
  blk_point [iblk, V, idx t]

/-- A slice of the contraction, of a block of the input and one of the cotangents. -/
def part (y a : FVec Ideal S2048x1024 .bf16) (j : S1024x1024.Idx) : EReal := ∑ r : Fin 2048, a (ix2 r (j 0)) * y (ix2 r (j 1))

theorem pay1_at (y a : FVec Ideal S2048x1024 .bf16) (j : S1024x1024.Idx) : k0_pay1 (F := Ideal) y a j = part y a j := by
  idx_vars j
  pointwise [k0_pay1]
  rfl

theorem pay2_at (s : FVec Ideal S1024x1024 .f32) (y a : FVec Ideal S2048x1024 .bf16) (j : S1024x1024.Idx) :
    k0_pay2 (F := Ideal) s y a j = s j + part y a j := by
  rw [← pay1_at]
  idx_vars j
  pointwise [k0_pay1, k0_pay2]

/-- What point `t` adds. -/
def term (c : Dev nD) (t : Fin cfg0.N) (j : S1024x1024.Idx) : EReal :=
  ∑ r : Fin 2048, aA m c (ix2 ⟨t.val * 2048 + r.val, by have := lt2 t; omega⟩ (j 0)) * yA m c (ix2 ⟨t.val * 2048 + r.val, by have := lt2 t; omega⟩ (j 1))

theorem part_term (c : Dev nD) (t : Fin cfg0.N) (j : S1024x1024.Idx) : part (iblk m c 1 t) (iblk m c 0 t) j = term m c t j :=
  Finset.sum_congr rfl fun r _ => congrArg₂ (· * ·) (a_blk m c t r (j 0)) (y_blk m c t r (j 1))

theorem sA (c : Dev nD) (t : Fin cfg0.N) (h : t.val % 2 = 0) (j : S1024x1024.Idx) : (outsAt0 m c t.val t.isLt).2 j = term m c t j := by
  rw [outsAt0_A m c t h (by omega)]
  frame_out
  exact (pay1_at _ _ j).trans (part_term m c t j)

theorem oB (c : Dev nD) (t : Fin cfg0.N) (h : t.val % 2 = 1) (j : S1024x1024.Idx) : (outsAt0 m c t.val t.isLt).1 j
    = (outsAt0 m c (t.val - 1) (Nat.lt_of_le_of_lt (Nat.sub_le _ _) t.isLt)).2 j + term m c t j := by
  rw [outsAt0_B m c t (by omega) h]
  frame_out
  exact (pay2_at _ _ _ j).trans (congrArg₂ (· + ·) (congrFun (Memref.IsWhole.read_unread _ _) j) (part_term m c t j))

/-- The gradient after the launch. -/
theorem arr_dw (c : Dev nD) : (dats m 0 c).arrAt 2 cfg0.N = fun i : S1024x1024.Idx => dwAt (aA m c) (yA m c) (i 0) (i 1) := by
  refine (dats m 0 c).arrAt_eq_of_covers 2 _ (by decide +kernel) fun t hf y => ?_
  blk_simp
  rw [after0_2]
  have h1 : t.val % 2 = 1 := (flush0_2 t).mp hf
  have ht := lt2 t
  have i0 : (y 0 : Fin 1024) = (win0_2.blk t).view.emb y 0 := by
    apply Fin.ext
    blk_simp [idx t]
  have i1 : (y 1 : Fin 1024) = (win0_2.blk t).view.emb y 1 := by
    apply Fin.ext
    blk_simp [idx t]
  refine (oB m c t h1 y).trans (Eq.trans ?_ (congrArg₂ (dwAt (aA m c) (yA m c)) i0 i1))
  refine (congrArg (· + _) (sA m c ⟨t.val - 1, Nat.lt_of_le_of_lt (Nat.sub_le _ _) t.isLt⟩ (by show (t.val - 1) % 2 = 0; omega) y)).trans ?_
  refine Eq.trans ?_ (sum_rows fun r => aA m c (ix2 r (y 0)) * yA m c (ix2 r (y 1)))
  have hr : ∀ (n k : ℕ) (hn : n = k) (r : Fin 2048) (h h'), (⟨n * 2048 + r.val, h⟩ : Fin 4096) = ⟨k * 2048 + r.val, h'⟩ :=
    fun n k hn r h h' => Fin.ext (by show n * 2048 + r.val = k * 2048 + r.val; rw [hn])
  rw [Fin.sum_univ_two]
  refine congrArg₂ (· + ·) (Finset.sum_congr rfl fun r _ => ?_) (Finset.sum_congr rfl fun r _ => ?_)
  · exact congrArg (fun q => aA m c (ix2 q (y 0)) * yA m c (ix2 q (y 1))) (hr (t.val - 1) 0 (by omega) r _ _)
  · exact congrArg (fun q => aA m c (ix2 q (y 0)) * yA m c (ix2 q (y 1))) (hr t.val 1 (by omega) r _ _)

end Cert.Kernel14Ideal.Sq

namespace Cert.Reference14Ideal.Sq

open Cert.Reference14Ideal Cert.Reference14Ideal.Gen

/-- The product of the cotangents with the input, transposed. -/
def dw (a y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 a bitsLt_bf16_f32)) transposes_S1024x1024_S1024x1024_1_0) bitsLt_bf16_f32

theorem dw_at (a y : FVec Ideal S4096x1024 .bf16) (x d : Fin 1024) : dw a y (ix2 x d) = Cert.Kernel14Ideal.Sq.dwAt a y x d := by
  pointwise [dw]
  exact Finset.sum_congr rfl fun r _ => mul_comm _ _

end Cert.Reference14Ideal.Sq

namespace Cert.Kernel15Ideal.Sq

open Cert.Kernel15Ideal Cert.Kernel15Ideal.Gen
open Cert.Kernel14Ideal.Sq (dxAt)

variable (m : (ℓ : Loc nD τ sig) → Buf (Elt Ideal) ℓ)

/-- The cotangents and the matrix. -/
abbrev yA (c : Dev nD) : FVec Ideal S4096x1024 .bf16 := m ((c.tc : Thread nD τ).loc main_arg0)
abbrev wA (c : Dev nD) : FVec Ideal S1024x1024 .bf16 := m ((c.tc : Thread nD τ).loc main_arg1)

/-- The blocks a grid point names. -/
theorem idx : ∀ t : Fin cfg0.N, win0_0.index t = ![t.val, 0] ∧ win0_1.index t = ![0, 0] ∧ win0_2.index t = ![t.val, 0] :=
  (by decide +kernel : ∀ t : Fin grid0.N, _)

theorem lt2 (t : Fin cfg0.N) : t.val < 2 := t.isLt

theorem y_blk (c : Dev nD) (t : Fin cfg0.N) (r : Fin 2048) (x : Fin 1024) :
    iblk m c 0 t (ix2 r x) = yA m c (ix2 ⟨t.val * 2048 + r.val, by have := lt2 t; omega⟩ x) := by
  blk_point [iblk, V, idx t]

theorem w_blk (c : Dev nD) (t : Fin cfg0.N) (x d : Fin 1024) : iblk m c 1 t (ix2 x d) = wA m c (ix2 x d) := by
  blk_point [iblk, V, idx t]

/-- What a point computes. -/
theorem pay_at (w : FVec Ideal S1024x1024 .bf16) (y : FVec Ideal S2048x1024 .bf16) (j : S2048x1024.Idx) :
    k0_pay1 (F := Ideal) w y j = ∑ x : Fin 1024, y (ix2 (j 0) x) * w (ix2 (j 1) x) := by
  idx_vars j
  pointwise [k0_pay1]

/-- The gradient after the launch. -/
theorem arr (c : Dev nD) : (dats m 0 c).arrAt 2 cfg0.N = fun i : S4096x1024.Idx => dxAt (yA m c) (wA m c) (i 0) (i 1) := by
  refine (dats m 0 c).arrAt_eq_of_covers 2 _ (by decide +kernel) fun t hf y => ?_
  blk_simp
  rw [after0_2]
  frame_out
  refine (pay_at _ _ y).trans ?_
  have ht := lt2 t
  have y0 : (y 0).val < 2048 := (y 0).isLt
  have i0 : (⟨t.val * 2048 + (y 0).val, by omega⟩ : Fin 4096) = (win0_2.blk t).view.emb y 0 := by
    apply Fin.ext
    blk_simp [idx t]
  have i1 : (y 1 : Fin 1024) = (win0_2.blk t).view.emb y 1 := by
    apply Fin.ext
    blk_simp [idx t]
  refine Eq.trans ?_ (congrArg₂ (dxAt (yA m c) (wA m c)) i0 i1)
  exact Finset.sum_congr rfl fun x _ => congrArg₂ (· * ·) (y_blk m c t (y 0) x) (w_blk m c t (y 1) x)

end Cert.Kernel15Ideal.Sq

namespace Cert.Reference15Ideal.Sq

open Cert.Reference15Ideal Cert.Reference15Ideal.Gen

/-- The product of the cotangents with the matrix's rows. -/
def val (y : FVec Ideal S4096x1024 .bf16) (w : FVec Ideal S1024x1024 .bf16) : FVec Ideal S4096x1024 .bf16 :=
  truncf .bf16 (Host.dotGeneral dot_S4096x1024_S1024x1024_S4096x1024_1_1_0_0_n_n none (extf .f32 y bitsLt_bf16_f32) (extf .f32 w bitsLt_bf16_f32)) bitsLt_bf16_f32

theorem val_at (y : FVec Ideal S4096x1024 .bf16) (w : FVec Ideal S1024x1024 .bf16) (r : Fin 4096) (d : Fin 1024) :
    val y w (ix2 r d) = Cert.Kernel14Ideal.Sq.dxAt y w r d := by
  pointwise [val]
  rfl

end Cert.Reference15Ideal.Sq

namespace Cert.Kernel16Ideal.Sq

open Cert.Kernel16Ideal Cert.Kernel16Ideal.Gen
open Cert.Kernel14Ideal.Sq (dxAt)

variable (m : (ℓ : Loc nD τ sig) → Buf (Elt Ideal) ℓ)

/-- The cotangents and the matrix. -/
abbrev yA (c : Dev nD) : FVec Ideal S4096x1024 .bf16 := m ((c.tc : Thread nD τ).loc main_arg0)
abbrev wA (c : Dev nD) : FVec Ideal S1024x1024 .bf16 := m ((c.tc : Thread nD τ).loc main_arg1)

/-- The blocks a grid point names. -/
theorem idx : ∀ t : Fin cfg0.N, win0_0.index t = ![t.val, 0] ∧ win0_1.index t = ![0, 0] ∧ win0_2.index t = ![t.val, 0] :=
  (by decide +kernel : ∀ t : Fin grid0.N, _)

theorem lt2 (t : Fin cfg0.N) : t.val < 2 := t.isLt

theorem y_blk (c : Dev nD) (t : Fin cfg0.N) (r : Fin 2048) (x : Fin 1024) :
    iblk m c 0 t (ix2 r x) = yA m c (ix2 ⟨t.val * 2048 + r.val, by have := lt2 t; omega⟩ x) := by
  blk_point [iblk, V, idx t]

theorem w_blk (c : Dev nD) (t : Fin cfg0.N) (x d : Fin 1024) : iblk m c 1 t (ix2 x d) = wA m c (ix2 x d) := by
  blk_point [iblk, V, idx t]

/-- What a point computes. -/
theorem pay_at (w : FVec Ideal S1024x1024 .bf16) (y : FVec Ideal S2048x1024 .bf16) (j : S2048x1024.Idx) :
    k0_pay1 (F := Ideal) w y j = ∑ x : Fin 1024, y (ix2 (j 0) x) * w (ix2 (j 1) x) := by
  idx_vars j
  pointwise [k0_pay1]

/-- The gradient after the launch. -/
theorem arr (c : Dev nD) : (dats m 0 c).arrAt 2 cfg0.N = fun i : S4096x1024.Idx => dxAt (yA m c) (wA m c) (i 0) (i 1) := by
  refine (dats m 0 c).arrAt_eq_of_covers 2 _ (by decide +kernel) fun t hf y => ?_
  blk_simp
  rw [after0_2]
  frame_out
  refine (pay_at _ _ y).trans ?_
  have ht := lt2 t
  have y0 : (y 0).val < 2048 := (y 0).isLt
  have i0 : (⟨t.val * 2048 + (y 0).val, by omega⟩ : Fin 4096) = (win0_2.blk t).view.emb y 0 := by
    apply Fin.ext
    blk_simp [idx t]
  have i1 : (y 1 : Fin 1024) = (win0_2.blk t).view.emb y 1 := by
    apply Fin.ext
    blk_simp [idx t]
  refine Eq.trans ?_ (congrArg₂ (dxAt (yA m c) (wA m c)) i0 i1)
  exact Finset.sum_congr rfl fun x _ => congrArg₂ (· * ·) (y_blk m c t (y 0) x) (w_blk m c t (y 1) x)

end Cert.Kernel16Ideal.Sq

namespace Cert.Reference16Ideal.Sq

open Cert.Reference16Ideal Cert.Reference16Ideal.Gen

/-- The product of the cotangents with the matrix's rows. -/
def val (y : FVec Ideal S4096x1024 .bf16) (w : FVec Ideal S1024x1024 .bf16) : FVec Ideal S4096x1024 .f32 :=
  Host.dotGeneral dot_S4096x1024_S1024x1024_S4096x1024_1_1_0_0_n_n none (extf .f32 y bitsLt_bf16_f32) (extf .f32 w bitsLt_bf16_f32)

theorem val_at (y : FVec Ideal S4096x1024 .bf16) (w : FVec Ideal S1024x1024 .bf16) (r : Fin 4096) (d : Fin 1024) :
    val y w (ix2 r d) = Cert.Kernel14Ideal.Sq.dxAt y w r d := by
  pointwise [val]
  rfl

end Cert.Reference16Ideal.Sq

namespace Cert.Kernel17Ideal.Sq

open Cert.Kernel17Ideal Cert.Kernel17Ideal.Gen
open Cert.Kernel14Ideal.Sq (outAt)

variable (m : (ℓ : Loc nD τ sig) → Buf (Elt Ideal) ℓ)

/-- The input and the matrix. -/
abbrev aA (c : Dev nD) : FVec Ideal S4096x1024 .bf16 := m ((c.tc : Thread nD τ).loc main_arg0)
abbrev wA (c : Dev nD) : FVec Ideal S1024x1024 .bf16 := m ((c.tc : Thread nD τ).loc main_arg1)

/-- The blocks a grid point names. -/
theorem idx : ∀ t : Fin cfg0.N, win0_0.index t = ![t.val, 0] ∧ win0_1.index t = ![0, 0] ∧ win0_2.index t = ![t.val, 0] :=
  (by decide +kernel : ∀ t : Fin grid0.N, _)

theorem lt2 (t : Fin cfg0.N) : t.val < 2 := t.isLt

theorem a_blk (c : Dev nD) (t : Fin cfg0.N) (r : Fin 2048) (x : Fin 1024) :
    iblk m c 0 t (ix2 r x) = aA m c (ix2 ⟨t.val * 2048 + r.val, by have := lt2 t; omega⟩ x) := by
  blk_point [iblk, V, idx t]

theorem w_blk (c : Dev nD) (t : Fin cfg0.N) (x d : Fin 1024) : iblk m c 1 t (ix2 x d) = wA m c (ix2 x d) := by
  blk_point [iblk, V, idx t]

/-- What a point computes. -/
theorem pay_at (w : FVec Ideal S1024x1024 .bf16) (a : FVec Ideal S2048x1024 .bf16) (j : S2048x1024.Idx) :
    k0_pay1 (F := Ideal) w a j = ∑ x : Fin 1024, a (ix2 (j 0) x) * w (ix2 x (j 1)) := by
  idx_vars j
  pointwise [k0_pay1]

/-- The product after the launch. -/
theorem arr (c : Dev nD) : (dats m 0 c).arrAt 2 cfg0.N = fun i : S4096x1024.Idx => outAt (aA m c) (wA m c) (i 0) (i 1) := by
  refine (dats m 0 c).arrAt_eq_of_covers 2 _ (by decide +kernel) fun t hf y => ?_
  blk_simp
  rw [after0_2]
  frame_out
  refine (pay_at _ _ y).trans ?_
  have ht := lt2 t
  have y0 : (y 0).val < 2048 := (y 0).isLt
  have i0 : (⟨t.val * 2048 + (y 0).val, by omega⟩ : Fin 4096) = (win0_2.blk t).view.emb y 0 := by
    apply Fin.ext
    blk_simp [idx t]
  have i1 : (y 1 : Fin 1024) = (win0_2.blk t).view.emb y 1 := by
    apply Fin.ext
    blk_simp [idx t]
  refine Eq.trans ?_ (congrArg₂ (outAt (aA m c) (wA m c)) i0 i1)
  exact Finset.sum_congr rfl fun x _ => congrArg₂ (· * ·) (a_blk m c t (y 0) x) (w_blk m c t x (y 1))

end Cert.Kernel17Ideal.Sq

namespace Cert.Reference17Ideal.Sq

open Cert.Reference17Ideal Cert.Reference17Ideal.Gen

/-- The product of the input with the matrix. -/
def val (a : FVec Ideal S4096x1024 .bf16) (w : FVec Ideal S1024x1024 .bf16) : FVec Ideal S4096x1024 .bf16 :=
  truncf .bf16 (Host.dotGeneral dot_S4096x1024_S1024x1024_S4096x1024_1_0_0_1_n_n none (extf .f32 a bitsLt_bf16_f32) (extf .f32 w bitsLt_bf16_f32)) bitsLt_bf16_f32

theorem val_at (a : FVec Ideal S4096x1024 .bf16) (w : FVec Ideal S1024x1024 .bf16) (r : Fin 4096) (d : Fin 1024) :
    val a w (ix2 r d) = Cert.Kernel14Ideal.Sq.outAt a w r d := by
  pointwise [val]
  rfl

end Cert.Reference17Ideal.Sq

end
-- ==== Proof.AttUp.lean ====
/- The projection of the merged attention, its matrix in eight shards of 128 columns, and the matrix's gradient. -/
module

public import proofs.«01_k».proof.Proof.Gen.Kernel18Ideal.Value
public import proofs.«01_k».proof.Proof.Gen.Reference18Ideal.Run
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel18Ideal.Dw

open Cert.Kernel18Ideal Cert.Kernel18Ideal.Gen

/-- Entry `(a, b)` of shard `s` of the gradient: column `a` of the input against column `s * 128 + b` of the cotangents. -/
def dwAt (h : FVec Ideal S4096x256 .f32) (y : FVec Ideal S4096x1024 .bf16) (s : Fin 8) (a : Fin 256) (b : Fin 128) : EReal :=
  ∑ r : Fin 4096, h (ix2 r a) * y (ix2 r ⟨s.val * 128 + b.val, by omega⟩)

variable (m : (ℓ : Loc nD τ sig) → Buf (Elt Ideal) ℓ)

/-- The input and the cotangents. -/
abbrev hA (c : Dev nD) : FVec Ideal S4096x256 .f32 := m ((c.tc : Thread nD τ).loc main_arg0)
abbrev yA (c : Dev nD) : FVec Ideal S4096x1024 .bf16 := m ((c.tc : Thread nD τ).loc main_arg1)

/-- The blocks a grid point names. -/
theorem idx : ∀ t : Fin cfg0.N, win0_0.index t = ![0, 0] ∧ win0_1.index t = ![0, t.val] ∧ win0_2.index t = ![t.val, 0, 0] :=
  (by decide +kernel : ∀ t : Fin grid0.N, _)

theorem lt8 (t : Fin cfg0.N) : t.val < 8 := t.isLt

theorem h_blk (c : Dev nD) (t : Fin cfg0.N) (r : Fin 4096) (x : Fin 256) : iblk m c 0 t (ix2 r x) = hA m c (ix2 r x) := by
  blk_point [iblk, V, idx t]

theorem y_blk (c : Dev nD) (t : Fin cfg0.N) (r : Fin 4096) (x : Fin 128) :
    iblk m c 1 t (ix2 r x) = yA m c (ix2 r ⟨t.val * 128 + x.val, by have := lt8 t; omega⟩) := by
  blk_point [iblk, V, idx t]

/-- What a point computes. -/
theorem pay_at (y : FVec Ideal S4096x128 .bf16) (h : FVec Ideal S4096x256 .f32) (j : S1x256x128.Idx) :
    k0_pay1 (F := Ideal) y h j = ∑ r : Fin 4096, h (ix2 r (j 1)) * y (ix2 r (j 2)) := by
  idx_vars j
  pointwise [k0_pay1]

/-- The gradient after the launch. -/
theorem arr_dw (c : Dev nD) : (dats m 0 c).arrAt 2 cfg0.N
    = fun i : S8x256x128.Idx => dwAt (hA m c) (yA m c) (i 0) (i 1) (i 2) := by
  refine (dats m 0 c).arrAt_eq_of_covers 2 _ (by decide +kernel) fun t hf y => ?_
  blk_simp
  rw [after0_2]
  frame_out
  refine (pay_at _ _ y).trans ?_
  have h0 : (⟨t.val, lt8 t⟩ : Fin 8) = (win0_2.blk t).view.emb y 0 := by
    apply Fin.ext
    blk_simp [idx t]
  have h1 : (y 1 : Fin 256) = (win0_2.blk t).view.emb y 1 := by
    apply Fin.ext
    blk_simp [idx t]
  have h2 : (y 2 : Fin 128) = (win0_2.blk t).view.emb y 2 := by
    apply Fin.ext
    blk_simp [idx t]
  refine Eq.trans ?_ (congr (congr (congrArg (dwAt (hA m c) (yA m c)) h0) h1) h2)
  exact Finset.sum_congr rfl fun r _ => congrArg₂ (· * ·) (h_blk m c t r (y 1)) (y_blk m c t r (y 2))

end Cert.Kernel18Ideal.Dw

namespace Cert.Reference18Ideal.Dw

open Cert.Reference18Ideal Cert.Reference18Ideal.Gen

/-- The product of the cotangents with the input, its columns cut into shards. -/
def dw (h : FVec Ideal S4096x256 .f32) (y : FVec Ideal S4096x1024 .bf16) : FVec Ideal S8x256x128 .bf16 :=
  truncf .bf16 (transpose S8x256x128 [1, 0, 2] (shapeCast _ (transpose S256x1024 [1, 0] (Host.dotGeneral dot_S4096x1024_S4096x256_S1024x256_0_0_1_1_n_n none (extf .f32 y bitsLt_bf16_f32) h) transposes_S1024x256_S256x1024_1_0) shapeCasts_S256x1024_S256x8x128) transposes_S256x8x128_S8x256x128_1_0_2) bitsLt_bf16_f32

theorem dw_at (h : FVec Ideal S4096x256 .f32) (y : FVec Ideal S4096x1024 .bf16) (s : Fin 8) (a : Fin 256) (b : Fin 128) :
    dw h y (ix3 s a b) = Cert.Kernel18Ideal.Dw.dwAt h y s a b := by
  pointwise [dw]
  refine Finset.sum_congr rfl fun r _ => ?_
  exact mul_comm _ _

end Cert.Reference18Ideal.Dw

namespace Cert.Kernel20Ideal.Out

open Cert.Kernel20Ideal Cert.Kernel20Ideal.Gen

/-- The product, at an entry: a row of the input against a column of the matrix. -/
def outAt (h : FVec Ideal S4096x256 .f32) (w : FVec Ideal S8x256x128 .bf16) (r : Fin 4096) (x : Fin 1024) : EReal :=
  ∑ d : Fin 256, h (ix2 r d) * w (ix3 ⟨x.val / 128, by omega⟩ d ⟨x.val % 128, by omega⟩)

/-- An entry's column is a column of its shard. -/
theorem shard_out (h : FVec Ideal S4096x256 .f32) (w : FVec Ideal S8x256x128 .bf16) (r : Fin 4096) (s : Fin 8) (x : Fin 128) :
    ∑ d : Fin 256, h (ix2 r d) * w (ix3 s d x) = outAt h w r ⟨s.val * 128 + x.val, by omega⟩ := by
  have hs : (⟨(s.val * 128 + x.val) / 128, by omega⟩ : Fin 8) = s := Fin.ext (by show _ / _ = _; omega)
  have hx : (⟨(s.val * 128 + x.val) % 128, by omega⟩ : Fin 128) = x := Fin.ext (by show _ % _ = _; omega)
  rw [outAt]
  simp only [hs, hx]

variable (m : (ℓ : Loc nD τ sig) → Buf (Elt Ideal) ℓ)

/-- The input and the matrix. -/
abbrev hA (c : Dev nD) : FVec Ideal S4096x256 .f32 := m ((c.tc : Thread nD τ).loc main_arg0)
abbrev wA (c : Dev nD) : FVec Ideal S8x256x128 .bf16 := m ((c.tc : Thread nD τ).loc main_arg1)

/-- The blocks a grid point names. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem lt16 (t : Fin cfg0.N) : t.val < 16 := t.isLt

theorem h_blk (c : Dev nD) (t : Fin cfg0.N) (r : Fin 2048) (d : Fin 256) :
    iblk m c 0 t (ix2 r d) = hA m c (ix2 ⟨t.val / 8 * 2048 + r.val, by have := lt16 t; omega⟩ d) := by
  blk_point [iblk, V, idx t]

theorem w_blk (c : Dev nD) (t : Fin cfg0.N) (d : Fin 256) (x : Fin 128) :
    iblk m c 1 t (ix3 0 d x) = wA m c (ix3 ⟨t.val % 8, by omega⟩ d x) := by
  blk_point [iblk, V, idx t]

/-- What a point computes of its blocks. -/
def part (w : FVec Ideal S1x256x128 .bf16) (h : FVec Ideal S2048x256 .f32) (j : S2048x128.Idx) : EReal :=
  ∑ d : Fin 256, h (ix2 (j 0) d) * w (ix3 0 d (j 1))

theorem pay_at (w : FVec Ideal S1x256x128 .bf16) (h : FVec Ideal S2048x256 .f32) (j : S2048x128.Idx) :
    k0_pay1 (F := Ideal) w h j = part w h j := by
  idx_vars j
  pointwise [k0_pay1]
  rfl

/-- The product after the launch. -/
theorem arr_out (c : Dev nD) : (dats m 0 c).arrAt 2 cfg0.N = fun i : S4096x1024.Idx => outAt (hA m c) (wA m c) (i 0) (i 1) := by
  refine (dats m 0 c).arrAt_eq_of_covers 2 _ (by decide +kernel) fun t hf y => ?_
  blk_simp
  rw [after0_2]
  frame_out
  have ht := lt16 t
  have y0 : (y 0).val < 2048 := (y 0).isLt
  have y1 : (y 1).val < 128 := (y 1).isLt
  have i0 : (⟨t.val / 8 * 2048 + (y 0).val, by omega⟩ : Fin 4096) = (win0_2.blk t).view.emb y 0 := by
    apply Fin.ext
    blk_simp [idx t]
  have i1 : (⟨t.val % 8 * 128 + (y 1).val, by omega⟩ : Fin 1024) = (win0_2.blk t).view.emb y 1 := by
    apply Fin.ext
    blk_simp [idx t]
  refine (pay_at _ _ y).trans (Eq.trans ?_ (congrArg₂ (outAt (hA m c) (wA m c)) i0 i1))
  exact Eq.trans (Finset.sum_congr rfl fun d _ => congrArg₂ (· * ·) (h_blk m c t (y 0) d) (w_blk m c t d (y 1)))
    (shard_out _ _ _ ⟨t.val % 8, by omega⟩ (y 1))

end Cert.Kernel20Ideal.Out

namespace Cert.Reference20Ideal.Out

open Cert.Reference20Ideal Cert.Reference20Ideal.Gen

/-- The product of the input with the matrix. -/
def out (h : FVec Ideal S4096x256 .f32) (w : FVec Ideal S8x256x128 .bf16) : FVec Ideal S4096x1024 .f32 :=
  Host.dotGeneral dot_S4096x256_S256x1024_S4096x1024_1_0_0_1_n_n none h (shapeCast _ (transpose S256x8x128 [1, 0, 2] (extf .f32 w bitsLt_bf16_f32) transposes_S8x256x128_S256x8x128_1_0_2) shapeCasts_S256x8x128_S256x1024)

theorem out_at (h : FVec Ideal S4096x256 .f32) (w : FVec Ideal S8x256x128 .bf16) (r : Fin 4096) (x : Fin 1024) :
    out h w (ix2 r x) = Cert.Kernel20Ideal.Out.outAt h w r x := by
  pointwise [out]
  rfl

end Cert.Reference20Ideal.Out

end
-- ==== Proof.AttUpDx.lean ====
/- The gradient of the merged attention, its projection's matrix in eight shards of 128 columns. -/
module

public import proofs.«01_k».proof.Proof.Gen.Kernel19Ideal.Value
public import proofs.«01_k».proof.Proof.Gen.Reference19Ideal.Run
public import proofs.«01_k».proof.Proof.Sums
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel19Ideal.Dx

open Cert.K Cert.Kernel19Ideal Cert.Kernel19Ideal.Gen

/-- Row `d` of the matrix, at its column `x`. -/
def col (w : FVec Ideal S8x256x128 .bf16) (d : Fin 256) (x : Fin 1024) : EReal :=
  w (ix3 ⟨x.val / 128, by omega⟩ d ⟨x.val % 128, by omega⟩)

/-- Entry `(r, d)` of the gradient: row `r` of the cotangents against row `d` of the matrix. -/
def dxAt (y : FVec Ideal S4096x1024 .bf16) (w : FVec Ideal S8x256x128 .bf16) (r : Fin 4096) (d : Fin 256) : EReal :=
  ∑ x : Fin 1024, y (ix2 r x) * col w d x

/-- A sum over four slices of 256 is a sum over 1024. -/
theorem sum_slices_1024 (f : Fin 1024 → EReal) :
    ∑ k : Fin 4, ∑ x : Fin 256, f ⟨k.val * 256 + x.val, by omega⟩ = ∑ x : Fin 1024, f x :=
  Fin.sum_mul_add_congr fun _ _ _ => rfl

/-- A sum over 256 is the sum of its halves. -/
theorem sum_halves_256 (f : Fin 256 → EReal) :
    ∑ x : Fin 128, f ⟨x.val, by omega⟩ + ∑ x : Fin 128, f ⟨128 + x.val, by omega⟩ = ∑ x : Fin 256, f x := by
  have e : ∑ k : Fin 2, ∑ x : Fin 128, f ⟨k.val * 128 + x.val, by omega⟩ = ∑ x : Fin 256, f x :=
    Fin.sum_mul_add_congr fun _ _ _ => rfl
  rw [← e, Fin.sum_univ_two]
  refine congrArg₂ (· + ·) ?_ ?_ <;> exact Finset.sum_congr rfl fun x _ => congrArg f (Fin.ext (by simp))

variable (m : (ℓ : Loc nD τ sig) → Buf (Elt Ideal) ℓ)

/-- The cotangents and the matrix. -/
abbrev yA (c : Dev nD) : FVec Ideal S4096x1024 .bf16 := m ((c.tc : Thread nD τ).loc main_arg0)
abbrev wA (c : Dev nD) : FVec Ideal S8x256x128 .bf16 := m ((c.tc : Thread nD τ).loc main_arg1)

/-- The blocks a grid point names. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

theorem lt8 (t : Fin cfg0.N) : t.val < 8 := t.isLt

theorem y_blk (c : Dev nD) (t : Fin cfg0.N) (r : Fin 2048) (x : Fin 256) :
    iblk m c 0 t (ix2 r x) = yA m c (ix2 ⟨t.val / 4 * 2048 + r.val, by have := lt8 t; omega⟩ ⟨t.val % 4 * 256 + x.val, by omega⟩) := by
  blk_point [iblk, V, idx t]

theorem w_blk (c : Dev nD) (t : Fin cfg0.N) (s : Fin 2) (d : Fin 256) (x : Fin 128) :
    iblk m c 1 t (ix3 s d x) = wA m c (ix3 ⟨t.val % 4 * 2 + s.val, by omega⟩ d x) := by
  blk_point [iblk, V, idx t]

/-- A slice of the contraction, of the block of rows and of two shards. -/
def part (y : FVec Ideal S2048x256 .bf16) (w0 w1 : FVec Ideal S1x256x128 .bf16) (j : S2048x256.Idx) : EReal :=
  ∑ x : Fin 128, y (ix2 (j 0) ⟨x.val, by omega⟩) * w0 (ix3 0 (j 1) x)
    + ∑ x : Fin 128, y (ix2 (j 0) ⟨128 + x.val, by omega⟩) * w1 (ix3 0 (j 1) x)

theorem pay1_at (w0 w1 : FVec Ideal S1x256x128 .bf16) (y : FVec Ideal S2048x256 .bf16) (j : S2048x256.Idx) :
    k0_pay1 (F := Ideal) w0 w1 y j = part y w0 w1 j := by
  idx_vars j
  pointwise [k0_pay1]
  rfl

theorem pay2_at (a : FVec Ideal S2048x256 .f32) (w0 w1 : FVec Ideal S1x256x128 .bf16) (y : FVec Ideal S2048x256 .bf16)
    (j : S2048x256.Idx) : k0_pay2 (F := Ideal) a w0 w1 y j = a j + part y w0 w1 j := by
  rw [← pay1_at]
  idx_vars j
  pointwise [k0_pay1, k0_pay2]

theorem pay3_at (a : FVec Ideal S2048x256 .f32) (w0 w1 : FVec Ideal S1x256x128 .bf16) (y : FVec Ideal S2048x256 .bf16)
    (j : S2048x256.Idx) : k0_pay3 (F := Ideal) a w0 w1 y j = a j + part y w0 w1 j := by
  rw [← pay1_at]
  idx_vars j
  pointwise [k0_pay1, k0_pay3]

/-- What point `t` adds. -/
def term (c : Dev nD) (t : Fin cfg0.N) (j : S2048x256.Idx) : EReal :=
  ∑ x : Fin 256, yA m c (ix2 ⟨t.val / 4 * 2048 + (j 0).val, by have := lt8 t; have : (j 0).val < 2048 := (j 0).isLt; omega⟩ ⟨t.val % 4 * 256 + x.val, by omega⟩)
    * col (wA m c) (j 1) ⟨t.val % 4 * 256 + x.val, by omega⟩

/-- The slice of a point's blocks is what the point adds. -/
theorem part_term (c : Dev nD) (t : Fin cfg0.N) (w0 w1 : FVec Ideal S1x256x128 .bf16) (j : S2048x256.Idx)
    (h0 : ∀ d x, w0 (ix3 0 d x) = iblk m c 1 t (ix3 0 d x)) (h1 : ∀ d x, w1 (ix3 0 d x) = iblk m c 1 t (ix3 1 d x)) :
    part (iblk m c 0 t) w0 w1 j = term m c t j := by
  rw [term, ← sum_halves_256, part]
  refine congrArg₂ (· + ·) (Finset.sum_congr rfl fun x _ => ?_) (Finset.sum_congr rfl fun x _ => ?_)
  · refine congrArg₂ (· * ·) (y_blk m c t (j 0) ⟨x.val, by omega⟩) ?_
    exact ((h0 (j 1) x).trans (w_blk m c t 0 (j 1) x)).trans (congrArg (wA m c) (congrArg₂ (fun a b => ix3 a (j 1) b) (Fin.ext (by show t.val % 4 * 2 + 0 = (t.val % 4 * 256 + x.val) / 128; omega))
      (Fin.ext (by show x.val = (t.val % 4 * 256 + x.val) % 128; omega))))
  · refine congrArg₂ (· * ·) (y_blk m c t (j 0) ⟨128 + x.val, by omega⟩) ?_
    exact ((h1 (j 1) x).trans (w_blk m c t 1 (j 1) x)).trans (congrArg (wA m c) (congrArg₂ (fun a b => ix3 a (j 1) b) (Fin.ext (by show t.val % 4 * 2 + 1 = (t.val % 4 * 256 + (128 + x.val)) / 128; omega))
      (Fin.ext (by show x.val = (t.val % 4 * 256 + (128 + x.val)) % 128; omega))))

theorem sA (c : Dev nD) (t : Fin cfg0.N) (h : t.val % 4 = 0) (j : S2048x256.Idx) : (outsAt0 m c t.val t.isLt).2 j = term m c t j := by
  rw [outsAt0_A m c t h (by omega) (by omega)]
  frame_out
  refine (pay1_at _ _ _ j).trans (part_term m c t _ _ j ?_ ?_)
  all_goals intro d x; pointwise

theorem sB (c : Dev nD) (t : Fin cfg0.N) (h : 1 ≤ t.val % 4 ∧ t.val % 4 ≤ 2) (j : S2048x256.Idx) : (outsAt0 m c t.val t.isLt).2 j
    = (outsAt0 m c (t.val - 1) (Nat.lt_of_le_of_lt (Nat.sub_le _ _) t.isLt)).2 j + term m c t j := by
  rw [outsAt0_B m c t (by omega) h (by omega)]
  frame_out
  refine (pay2_at _ _ _ _ j).trans (congrArg₂ (· + ·) ?_ (part_term m c t _ _ j ?_ ?_))
  · exact congrFun (Memref.IsWhole.read_unread _ _) j
  all_goals intro d x; pointwise

theorem oC (c : Dev nD) (t : Fin cfg0.N) (h : t.val % 4 = 3) (j : S2048x256.Idx) : (outsAt0 m c t.val t.isLt).1 j
    = (outsAt0 m c (t.val - 1) (Nat.lt_of_le_of_lt (Nat.sub_le _ _) t.isLt)).2 j + term m c t j := by
  rw [outsAt0_C m c t (by omega) (by omega) h]
  frame_out
  refine (pay3_at _ _ _ _ j).trans (congrArg₂ (· + ·) ?_ (part_term m c t _ _ j ?_ ?_))
  · exact congrFun (Memref.IsWhole.read_unread _ _) j
  all_goals intro d x; pointwise

/-- The gradient after the launch. -/
theorem arr_dx (c : Dev nD) : (dats m 0 c).arrAt 2 cfg0.N
    = fun i : S4096x256.Idx => dxAt (yA m c) (wA m c) (i 0) (i 1) := by
  refine (dats m 0 c).arrAt_eq_of_covers 2 _ (by decide +kernel) fun t hf y => ?_
  blk_simp
  rw [after0_2]
  have h3 : t.val % 4 = 3 := (flush0_2 t).mp hf
  have ht := lt8 t
  have y0 : (y 0).val < 2048 := (y 0).isLt
  have h0 : (⟨t.val / 4 * 2048 + (y 0).val, by omega⟩ : Fin 4096) = (win0_2.blk t).view.emb y 0 := by
    apply Fin.ext
    blk_simp [idx t]
  have h1 : (y 1 : Fin 256) = (win0_2.blk t).view.emb y 1 := by
    apply Fin.ext
    blk_simp [idx t]
  have e := run_four (fun n h => (outsAt0 m c n h).1) (fun n h => (outsAt0 m c n h).2) (term m c) (sA m c) (sB m c) (oC m c) t h3 y
  refine e.trans (Eq.trans ?_ (congr (congrArg (dxAt (yA m c) (wA m c)) h0) h1))
  refine Eq.trans ?_ (sum_slices_1024 fun x => yA m c (ix2 ⟨t.val / 4 * 2048 + (y 0).val, by omega⟩ x) * col (wA m c) (y 1) x)
  refine Finset.sum_congr rfl fun k _ => Finset.sum_congr rfl fun x _ => ?_
  have hr : (⟨(4 * (t.val / 4) + k.val) / 4 * 2048 + (y 0).val, by omega⟩ : Fin 4096) = ⟨t.val / 4 * 2048 + (y 0).val, by omega⟩ :=
    Fin.ext (by show _ + _ = _ + _; omega)
  have hx : (⟨(4 * (t.val / 4) + k.val) % 4 * 256 + x.val, by omega⟩ : Fin 1024) = ⟨k.val * 256 + x.val, by omega⟩ :=
    Fin.ext (by show _ + _ = _ + _; omega)
  exact congrArg₂ (fun r x' => yA m c (ix2 r x') * col (wA m c) (y 1) x') hr hx

end Cert.Kernel19Ideal.Dx

namespace Cert.Reference19Ideal.Dx

open Cert.Reference19Ideal Cert.Reference19Ideal.Gen

/-- The product of the cotangents with the matrix's rows. -/
def dx (y : FVec Ideal S4096x1024 .bf16) (w : FVec Ideal S8x256x128 .bf16) : FVec Ideal S4096x256 .f32 :=
  Host.dotGeneral dot_S4096x1024_S256x1024_S4096x256_1_1_0_0_n_n none (extf .f32 y bitsLt_bf16_f32) (shapeCast _ (transpose S256x8x128 [1, 0, 2] (extf .f32 w bitsLt_bf16_f32) transposes_S8x256x128_S256x8x128_1_0_2) shapeCasts_S256x8x128_S256x1024)

theorem dx_at (y : FVec Ideal S4096x1024 .bf16) (w : FVec Ideal S8x256x128 .bf16) (r : Fin 4096) (d : Fin 256) :
    dx y w (ix2 r d) = Cert.Kernel19Ideal.Dx.dxAt y w r d := by
  pointwise [dx]
  rfl

end Cert.Reference19Ideal.Dx

end
-- ==== Proof.MemKv.lean ====
/- The memory's keys and values, their matrix in eight shards of 256 columns, and the matrix's gradient. -/
module

public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel21Ideal.Dw

open Cert.Kernel21Ideal Cert.Kernel21Ideal.Gen

/-- Entry `(a, b)` of shard `s` of the gradient: column `a` of the input against column `s * 256 + b` of the cotangents. -/
def dwAt (h : FVec Ideal S256x1024 .f32) (y : FVec Ideal S256x2048 .f32) (s : Fin 8) (a : Fin 1024) (b : Fin 256) : EReal :=
  ∑ r : Fin 256, h (ix2 r a) * y (ix2 r ⟨s.val * 256 + b.val, by omega⟩)

variable (m : (ℓ : Loc nD τ sig) → Buf (Elt Ideal) ℓ)

/-- The input and the cotangents. -/
abbrev hA (c : Dev nD) : FVec Ideal S256x1024 .f32 := m ((c.tc : Thread nD τ).loc main_arg0)
abbrev yA (c : Dev nD) : FVec Ideal S256x2048 .f32 := m ((c.tc : Thread nD τ).loc main_arg1)

/-- The blocks a grid point names. -/
theorem idx : ∀ t : Fin cfg0.N, win0_0.index t = ![0, 0] ∧ win0_1.index t = ![0, t.val] ∧ win0_2.index t = ![t.val, 0, 0] :=
  (by decide +kernel : ∀ t : Fin grid0.N, _)

theorem lt8 (t : Fin cfg0.N) : t.val < 8 := t.isLt

theorem h_blk (c : Dev nD) (t : Fin cfg0.N) (r : Fin 256) (x : Fin 1024) : iblk m c 0 t (ix2 r x) = hA m c (ix2 r x) := by
  blk_point [iblk, V, idx t]

theorem y_blk (c : Dev nD) (t : Fin cfg0.N) (r : Fin 256) (x : Fin 256) :
    iblk m c 1 t (ix2 r x) = yA m c (ix2 r ⟨t.val * 256 + x.val, by have := lt8 t; omega⟩) := by
  blk_point [iblk, V, idx t]

/-- What a point computes. -/
theorem pay_at (y : FVec Ideal S256x256 .f32) (h : FVec Ideal S256x1024 .f32) (j : S1x1024x256.Idx) :
    k0_pay1 (F := Ideal) y h j = ∑ r : Fin 256, h (ix2 r (j 1)) * y (ix2 r (j 2)) := by
  idx_vars j
  pointwise [k0_pay1]

/-- The gradient after the launch. -/
theorem arr_dw (c : Dev nD) : (dats m 0 c).arrAt 2 cfg0.N
    = fun i : S8x1024x256.Idx => dwAt (hA m c) (yA m c) (i 0) (i 1) (i 2) := by
  refine (dats m 0 c).arrAt_eq_of_covers 2 _ (by decide +kernel) fun t hf y => ?_
  blk_simp
  rw [after0_2]
  frame_out
  refine (pay_at _ _ y).trans ?_
  have h0 : (⟨t.val, lt8 t⟩ : Fin 8) = (win0_2.blk t).view.emb y 0 := by
    apply Fin.ext
    blk_simp [idx t]
  have h1 : (y 1 : Fin 1024) = (win0_2.blk t).view.emb y 1 := by
    apply Fin.ext
    blk_simp [idx t]
  have h2 : (y 2 : Fin 256) = (win0_2.blk t).view.emb y 2 := by
    apply Fin.ext
    blk_simp [idx t]
  refine Eq.trans ?_ (congr (congr (congrArg (dwAt (hA m c) (yA m c)) h0) h1) h2)
  exact Finset.sum_congr rfl fun r _ => congrArg₂ (· * ·) (h_blk m c t r (y 1)) (y_blk m c t r (y 2))

end Cert.Kernel21Ideal.Dw

namespace Cert.Reference21Ideal.Dw

open Cert.Reference21Ideal Cert.Reference21Ideal.Gen

/-- The product of the cotangents with the input, its columns cut into shards. -/
def dw (h : FVec Ideal S256x1024 .f32) (y : FVec Ideal S256x2048 .f32) : FVec Ideal S8x1024x256 .bf16 :=
  truncf .bf16 (transpose S8x1024x256 [1, 0, 2] (shapeCast _ (transpose S1024x2048 [1, 0] (Host.dotGeneral dot_S256x2048_S256x1024_S2048x1024_0_0_1_1_n_n none y h) transposes_S2048x1024_S1024x2048_1_0) shapeCasts_S1024x2048_S1024x8x256) transposes_S1024x8x256_S8x1024x256_1_0_2) bitsLt_bf16_f32

theorem dw_at (h : FVec Ideal S256x1024 .f32) (y : FVec Ideal S256x2048 .f32) (s : Fin 8) (a : Fin 1024) (b : Fin 256) :
    dw h y (ix3 s a b) = Cert.Kernel21Ideal.Dw.dwAt h y s a b := by
  pointwise [dw]
  refine Finset.sum_congr rfl fun r _ => ?_
  exact mul_comm _ _

end Cert.Reference21Ideal.Dw

namespace Cert.Kernel22Ideal.Out

open Cert.Kernel22Ideal Cert.Kernel22Ideal.Gen

/-- The product, at an entry: a row of the input against a column of the matrix. -/
def outAt (h : FVec Ideal S256x1024 .f32) (w : FVec Ideal S8x1024x256 .bf16) (r : Fin 256) (x : Fin 2048) : EReal :=
  ∑ d : Fin 1024, h (ix2 r d) * w (ix3 ⟨x.val / 256, by omega⟩ d ⟨x.val % 256, by omega⟩)

/-- An entry's column is a column of its shard. -/
theorem shard_out (h : FVec Ideal S256x1024 .f32) (w : FVec Ideal S8x1024x256 .bf16) (r : Fin 256) (s : Fin 8) (x : Fin 256) :
    ∑ d : Fin 1024, h (ix2 r d) * w (ix3 s d x) = outAt h w r ⟨s.val * 256 + x.val, by omega⟩ := by
  have hs : (⟨(s.val * 256 + x.val) / 256, by omega⟩ : Fin 8) = s := Fin.ext (by show _ / _ = _; omega)
  have hx : (⟨(s.val * 256 + x.val) % 256, by omega⟩ : Fin 256) = x := Fin.ext (by show _ % _ = _; omega)
  rw [outAt]
  simp only [hs, hx]

variable (m : (ℓ : Loc nD τ sig) → Buf (Elt Ideal) ℓ)

/-- The input and the matrix. -/
abbrev hA (c : Dev nD) : FVec Ideal S256x1024 .f32 := m ((c.tc : Thread nD τ).loc main_arg0)
abbrev wA (c : Dev nD) : FVec Ideal S8x1024x256 .bf16 := m ((c.tc : Thread nD τ).loc main_arg1)

/-- The blocks a grid point names. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem lt8 (t : Fin cfg0.N) : t.val < 8 := t.isLt

theorem h_blk (c : Dev nD) (t : Fin cfg0.N) (r : Fin 256) (d : Fin 1024) :
    iblk m c 0 t (ix2 r d) = hA m c (ix2 ⟨t.val / 8 * 256 + r.val, by have := lt8 t; omega⟩ d) := by
  blk_point [iblk, V, idx t]

theorem w_blk (c : Dev nD) (t : Fin cfg0.N) (d : Fin 1024) (x : Fin 256) :
    iblk m c 1 t (ix3 0 d x) = wA m c (ix3 ⟨t.val % 8, by omega⟩ d x) := by
  blk_point [iblk, V, idx t]

/-- What a point computes of its blocks. -/
def part (w : FVec Ideal S1x1024x256 .bf16) (h : FVec Ideal S256x1024 .f32) (j : S256x256.Idx) : EReal :=
  ∑ d : Fin 1024, h (ix2 (j 0) d) * w (ix3 0 d (j 1))

theorem pay_at (w : FVec Ideal S1x1024x256 .bf16) (h : FVec Ideal S256x1024 .f32) (j : S256x256.Idx) :
    k0_pay1 (F := Ideal) w h j = part w h j := by
  idx_vars j
  pointwise [k0_pay1]
  rfl

/-- The product after the launch. -/
theorem arr_out (c : Dev nD) : (dats m 0 c).arrAt 2 cfg0.N = fun i : S256x2048.Idx => outAt (hA m c) (wA m c) (i 0) (i 1) := by
  refine (dats m 0 c).arrAt_eq_of_covers 2 _ (by decide +kernel) fun t hf y => ?_
  blk_simp
  rw [after0_2]
  frame_out
  have ht := lt8 t
  have y0 : (y 0).val < 256 := (y 0).isLt
  have y1 : (y 1).val < 256 := (y 1).isLt
  have i0 : (⟨t.val / 8 * 256 + (y 0).val, by omega⟩ : Fin 256) = (win0_2.blk t).view.emb y 0 := by
    apply Fin.ext
    blk_simp [idx t]
  have i1 : (⟨t.val % 8 * 256 + (y 1).val, by omega⟩ : Fin 2048) = (win0_2.blk t).view.emb y 1 := by
    apply Fin.ext
    blk_simp [idx t]
  refine (pay_at _ _ y).trans (Eq.trans ?_ (congrArg₂ (outAt (hA m c) (wA m c)) i0 i1))
  exact Eq.trans (Finset.sum_congr rfl fun d _ => congrArg₂ (· * ·) (h_blk m c t (y 0) d) (w_blk m c t d (y 1)))
    (shard_out _ _ _ ⟨t.val % 8, by omega⟩ (y 1))

end Cert.Kernel22Ideal.Out

namespace Cert.Reference22Ideal.Out

open Cert.Reference22Ideal Cert.Reference22Ideal.Gen

/-- The product of the input with the matrix. -/
def out (h : FVec Ideal S256x1024 .f32) (w : FVec Ideal S8x1024x256 .bf16) : FVec Ideal S256x2048 .bf16 :=
  truncf .bf16 (Host.dotGeneral dot_S256x1024_S1024x2048_S256x2048_1_0_0_1_n_n none h (shapeCast _ (transpose S1024x8x256 [1, 0, 2] (extf .f32 w bitsLt_bf16_f32) transposes_S8x1024x256_S1024x8x256_1_0_2) shapeCasts_S1024x8x256_S1024x2048)) bitsLt_bf16_f32

theorem out_at (h : FVec Ideal S256x1024 .f32) (w : FVec Ideal S8x1024x256 .bf16) (r : Fin 256) (x : Fin 2048) :
    out h w (ix2 r x) = Cert.Kernel22Ideal.Out.outAt h w r x := by
  pointwise [out]
  rfl

end Cert.Reference22Ideal.Out

end
-- ==== Proof.lean ====
/- The assembly of the certificate's claims, launch by launch: the frames of the programs, and that the launch's results
   are the reference's — each brought to the same closed form of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_real_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Pre_real_entries
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.ArrDkv
public import proofs.«01_k».proof.Proof.RefRead
public import proofs.«01_k».proof.Proof.Pre
public import proofs.«01_k».proof.Proof.DilAlg
public import proofs.«01_k».proof.Proof.Ff2Dx
public import proofs.«01_k».proof.Proof.Ff2Dw
public import proofs.«01_k».proof.Proof.Ff1Dw
public import proofs.«01_k».proof.Proof.Ff1Dx
public import proofs.«01_k».proof.Proof.DilOut
public import proofs.«01_k».proof.Proof.InDw
public import proofs.«01_k».proof.Proof.InDx
public import proofs.«01_k».proof.Proof.Ff1Fwd
public import proofs.«01_k».proof.Proof.Ff2Fwd
public import proofs.«01_k».proof.Proof.GluDw
public import proofs.«01_k».proof.Proof.GluDx
public import proofs.«01_k».proof.Proof.GluFwd
public import proofs.«01_k».proof.Proof.Square
public import proofs.«01_k».proof.Proof.AttUp
public import proofs.«01_k».proof.Proof.AttUpDx
public import proofs.«01_k».proof.Proof.MemKv
public import Idealize.ShloMosaic.Adequacy
public import Idealize.ShloMosaic.Init

@[expose] public section

noncomputable section

namespace Cert.Proof

open Idealize.ShloMosaic Idealize.SL.Sem Cert.Kernel

/-! ## The memory attention's cotangents -/

/-- The reference runs, leaves its arguments alone, and declares no semaphore. -/
theorem frame_ref : Cert.quiescent_ReferenceIdeal (hReferenceIdeal := Cert.ReferenceIdeal.Gen.facts) := fun m g _ =>
  (θ_run Cert.ReferenceIdeal.defs _ _).mono (fun r h => And.intro (fun c => (h c).2.2)
    (Idealize.ShloMosaic.sem_eq_zero_of_no_sems (by decide) r.2)) (Cert.ReferenceIdeal.Value.run (F := Ideal) m g)

/-- The launch and the reference end with the same gradients. -/
theorem xatt : Cert.algebraic_KernelIdeal_ReferenceIdeal_pre_real_scores (hKernelIdeal := Cert.KernelIdeal.Gen.facts)
    (hReferenceIdeal := Cert.ReferenceIdeal.Gen.facts) (hPre_real_scores := Cert.Pre_real_scores.Gen.facts) := by
  intro m g m' g' hpre hagree
  refine ⟨fun c => (Cert.KernelIdeal.Gen.dats m 0 c).arrAt 3 Cert.KernelIdeal.cfg0.N,
    fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2.1.trans ?_, (h c).2.2⟩)
    (Cert.ReferenceIdeal.Value.run (F := Ideal) m' g')
  · refine (Cert.ReferenceIdeal.Read.res0_eq m' c).trans ?_
    rw [(hagree c).1, (hagree c).2.1, (hagree c).2.2]
    refine Eq.trans ?_ (Cert.KernelIdeal.Blk.arr_dq m c).symm
    obtain ⟨hq, hk⟩ := Cert.K.real_entries _ _ _ (hpre c)
    funext i
    rw [ValueIdx.eq_ix2 i]
    exact Cert.ReferenceIdeal.Read.dq_eq _ _ _ (fun r h i => Cert.K.real_sRow _ _ (fun c => hq (ix2 r c)) hk h i) _ _
  · refine (Cert.ReferenceIdeal.Read.res1_eq m' c).trans ?_
    rw [(hagree c).1, (hagree c).2.1, (hagree c).2.2]
    refine Eq.trans ?_ (Cert.KernelIdeal.Blk.arr_dkv m c).symm
    obtain ⟨hq, hk⟩ := Cert.K.real_entries _ _ _ (hpre c)
    funext i
    rw [ValueIdx.eq_ix2 i]
    exact Cert.ReferenceIdeal.Read.dkv_eq _ _ _ (fun r h i => Cert.K.real_sRow _ _ (fun c => hq (ix2 r c)) hk h i) _ _

/-! ## The cotangents of the hidden layer -/

theorem frame_ref2 : Cert.quiescent_Reference2Ideal (hReference2Ideal := Cert.Reference2Ideal.Gen.facts) := fun m g _ =>
  (θ_run Cert.Reference2Ideal.defs _ _).mono (fun r h => And.intro (fun c => (h c).2.2)
    (Idealize.ShloMosaic.sem_eq_zero_of_no_sems (by decide) r.2)) (Cert.Reference2Ideal.Value.run (F := Ideal) m g)

/-- The launch and the reference end with the same cotangents and the same sums. -/
theorem alg2 : Cert.algebraic_Kernel2Ideal_Reference2Ideal (hKernel2Ideal := Cert.Kernel2Ideal.Gen.facts)
    (hReference2Ideal := Cert.Reference2Ideal.Gen.facts) := by
  intro m g m' g' hpre hagree
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N, Cert.Kernel2Ideal.Value.run_blocks m g, ?_⟩
  refine (θ_run Cert.Reference2Ideal.defs _ _).mono (fun r h c => ⟨(h c).1.trans ?_, (h c).2.1.trans ?_, (h c).2.2⟩)
    (Cert.Reference2Ideal.Value.run (F := Ideal) m' g')
  · rw [(hagree c).1, (hagree c).2.1, (hagree c).2.2.1, (hagree c).2.2.2.1, (hagree c).2.2.2.2]
    refine Eq.trans ?_ (Cert.Kernel2Ideal.Dx.arr_d m c).symm
    funext i
    rw [ValueIdx.eq_ix2 i]
    exact (Cert.Reference2Ideal.Dx.dp_at _ _ _ _ _).trans (congrArg _ (Cert.Reference2Ideal.Dx.pre_at _ _ _ _ _))
  · rw [(hagree c).1, (hagree c).2.1, (hagree c).2.2.1, (hagree c).2.2.2.1, (hagree c).2.2.2.2]
    refine Eq.trans ?_ (Cert.Kernel2Ideal.Dx.arr_sum m c).symm
    funext i
    rw [ValueIdx.eq_ix2 i]
    exact (Cert.Reference2Ideal.Dx.sums_at _ _ _).trans (Finset.sum_congr rfl fun r _ =>
      (Cert.Reference2Ideal.Dx.dp_at _ _ _ _ _).trans (congrArg _ (Cert.Reference2Ideal.Dx.pre_at _ _ _ _ _)))

/-! ## The gradient of the second matrix -/

theorem frame_ref3 : Cert.quiescent_Reference3Ideal (hReference3Ideal := Cert.Reference3Ideal.Gen.facts) := fun m g _ =>
  (θ_run Cert.Reference3Ideal.defs _ _).mono (fun r h => And.intro (fun c => (h c).2)
    (Idealize.ShloMosaic.sem_eq_zero_of_no_sems (by decide) r.2)) (Cert.Reference3Ideal.Value.run (F := Ideal) m g)

/-- The launch and the reference end with the same gradient. -/
theorem alg3 : Cert.algebraic_Kernel3Ideal_Reference3Ideal (hKernel3Ideal := Cert.Kernel3Ideal.Gen.facts)
    (hReference3Ideal := Cert.Reference3Ideal.Gen.facts) := by
  intro m g m' g' hpre hagree
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ⟨(h c).1.trans ?_, (h c).2⟩)
    (Cert.Reference3Ideal.Value.run (F := Ideal) m' g')
  rw [(hagree c).1, (hagree c).2.1, (hagree c).2.2.1, (hagree c).2.2.2]
  refine Eq.trans ?_ (Cert.Kernel3Ideal.Dw.arr_dw m c).symm
  funext i
  rw [ValueIdx.eq_ix2 i]
  exact Cert.Reference3Ideal.Dw.dw_at _ _ _ _ _ _

/-! ## The gradient of the first matrix -/

theorem frame_ref4 : Cert.quiescent_Reference4Ideal (hReference4Ideal := Cert.Reference4Ideal.Gen.facts) := fun m g _ =>
  (θ_run Cert.Reference4Ideal.defs _ _).mono (fun r h => And.intro (fun c => (h c).2)
    (Idealize.ShloMosaic.sem_eq_zero_of_no_sems (by decide) r.2)) (Cert.Reference4Ideal.Value.run (F := Ideal) m g)

/-- The launch and the reference end with the same gradient. -/
theorem alg4 : Cert.algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ⟨(h c).1.trans ?_, (h c).2⟩)
    (Cert.Reference4Ideal.Value.run (F := Ideal) m' g')
  rw [(hagree c).1, (hagree c).2]
  refine Eq.trans ?_ (Cert.Kernel4Ideal.Dw.arr_dw m c).symm
  funext i
  rw [ValueIdx.eq_ix3 i]
  exact Cert.Reference4Ideal.Dw.dw_at _ _ _ _ _

/-! ## The gradient of the feed-forward layer's input -/

theorem frame_ref5 : Cert.quiescent_Reference5Ideal (hReference5Ideal := Cert.Reference5Ideal.Gen.facts) := fun m g _ =>
  (θ_run Cert.Reference5Ideal.defs _ _).mono (fun r h => And.intro (fun c => (h c).2)
    (Idealize.ShloMosaic.sem_eq_zero_of_no_sems (by decide) r.2)) (Cert.Reference5Ideal.Value.run (F := Ideal) m g)

/-- The launch and the reference end with the same gradient. -/
theorem alg5 : Cert.algebraic_Kernel5Ideal_Reference5Ideal (hKernel5Ideal := Cert.Kernel5Ideal.Gen.facts)
    (hReference5Ideal := Cert.Reference5Ideal.Gen.facts) := by
  intro m g m' g' hpre hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩)
    (Cert.Reference5Ideal.Value.run (F := Ideal) m' g')
  rw [(hagree c).1, (hagree c).2]
  refine Eq.trans ?_ (Cert.Kernel5Ideal.Dx.arr_dx m c).symm
  funext i
  rw [ValueIdx.eq_ix2 i]
  exact Cert.Reference5Ideal.Dx.dx_at _ _ _ _

/-! ## The dilated attention's gradients -/

theorem frame_ref6 : Cert.quiescent_Reference6Ideal (hReference6Ideal := Cert.Reference6Ideal.Gen.facts) := fun m g _ =>
  (θ_run Cert.Reference6Ideal.defs _ _).mono (fun r h => And.intro (fun c => (h c).2.2.2.2.2.2)
    (Idealize.ShloMosaic.sem_eq_zero_of_no_sems (by decide) r.2)) (Cert.Reference6Ideal.Value.run (F := Ideal) m g)

/-- On real entries the launch and the reference end with the same gradients, each in two halves of columns. -/
theorem alg6 : Cert.algebraic_Kernel6Ideal_Reference6Ideal_pre_real_entries (hKernel6Ideal := Cert.Kernel6Ideal.Gen.facts)
    (hReference6Ideal := Cert.Reference6Ideal.Gen.facts) (hPre_real_entries := Cert.Pre_real_entries.Gen.facts) := by
  intro m g m' g' hpre hagree
  have hx (c) := Cert.Reference6Ideal.Dil.args_eq m m' c (hagree c).1 (hagree c).2.1 (hagree c).2.2.1 (hagree c).2.2.2.1 (hagree c).2.2.2.2.1
    (hagree c).2.2.2.2.2.1 (hagree c).2.2.2.2.2.2.1 (hagree c).2.2.2.2.2.2.2
  have hf (c) := Cert.Reference6Ideal.Dil.finite_of_pre (Cert.Kernel6Ideal.Dil.args m c) (hpre c)
  refine ⟨fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N, Cert.Kernel6Ideal.Value.run_blocks m g, ?_⟩
  refine (θ_run Cert.Reference6Ideal.defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference6Ideal.Value.run (F := Ideal) m' g')
  · exact (Cert.Reference6Ideal.Dil.q_lo _ _ (hx c) (hf c)).trans (Cert.Kernel6Ideal.Dil.arr_dq_lo m c).symm
  · exact (Cert.Reference6Ideal.Dil.q_hi _ _ (hx c) (hf c)).trans (Cert.Kernel6Ideal.Dil.arr_dq_hi m c).symm
  · exact (Cert.Reference6Ideal.Dil.k_lo _ _ (hx c) (hf c)).trans (Cert.Kernel6Ideal.Dil.arr_dk_lo m c).symm
  · exact (Cert.Reference6Ideal.Dil.k_hi _ _ (hx c) (hf c)).trans (Cert.Kernel6Ideal.Dil.arr_dk_hi m c).symm
  · exact (Cert.Reference6Ideal.Dil.v_lo _ _ (hx c) (hf c)).trans (Cert.Kernel6Ideal.Dil.arr_dv_lo m c).symm
  · exact (Cert.Reference6Ideal.Dil.v_hi _ _ (hx c) (hf c)).trans (Cert.Kernel6Ideal.Dil.arr_dv_hi m c).symm

/-! ## The gradient of the input projection's matrix -/

theorem frame_ref7 : Cert.quiescent_Reference7Ideal (hReference7Ideal := Cert.Reference7Ideal.Gen.facts) := fun m g _ =>
  (θ_run Cert.Reference7Ideal.defs _ _).mono (fun r h => And.intro (fun c => (h c).2)
    (Idealize.ShloMosaic.sem_eq_zero_of_no_sems (by decide) r.2)) (Cert.Reference7Ideal.Value.run (F := Ideal) m g)

/-- The launch and the reference end with the same gradient. -/
theorem alg7 : Cert.algebraic_Kernel7Ideal_Reference7Ideal (hKernel7Ideal := Cert.Kernel7Ideal.Gen.facts)
    (hReference7Ideal := Cert.Reference7Ideal.Gen.facts) := by
  intro m g m' g' hpre hagree
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩)
    (Cert.Reference7Ideal.Value.run (F := Ideal) m' g')
  rw [(hagree c).1, (hagree c).2]
  refine Eq.trans ?_ (Cert.Kernel7Ideal.Dw.arr_dw m c).symm
  funext i
  rw [ValueIdx.eq_ix3 i]
  exact Cert.Reference7Ideal.Dw.dw_at _ _ _ _ _

/-! ## The gradient of the input projection's input -/

theorem frame_ref8 : Cert.quiescent_Reference8Ideal (hReference8Ideal := Cert.Reference8Ideal.Gen.facts) := fun m g _ =>
  (θ_run Cert.Reference8Ideal.defs _ _).mono (fun r h => And.intro (fun c => (h c).2)
    (Idealize.ShloMosaic.sem_eq_zero_of_no_sems (by decide) r.2)) (Cert.Reference8Ideal.Value.run (F := Ideal) m g)

/-- The launch and the reference end with the same gradient. -/
theorem alg8 : Cert.algebraic_Kernel8Ideal_Reference8Ideal (hKernel8Ideal := Cert.Kernel8Ideal.Gen.facts)
    (hReference8Ideal := Cert.Reference8Ideal.Gen.facts) := by
  intro m g m' g' hpre hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩)
    (Cert.Reference8Ideal.Value.run (F := Ideal) m' g')
  rw [(hagree c).1, (hagree c).2]
  refine Eq.trans ?_ (Cert.Kernel8Ideal.Dx.arr_dx m c).symm
  funext i
  rw [ValueIdx.eq_ix2 i]
  exact Cert.Reference8Ideal.Dx.dx_at _ _ _ _

/-! ## The channel mixer's pre-activations and activations -/

theorem frame_ref9 : Cert.quiescent_Reference9Ideal (hReference9Ideal := Cert.Reference9Ideal.Gen.facts) := fun m g _ =>
  (θ_run Cert.Reference9Ideal.defs _ _).mono (fun r h => And.intro (fun c => (h c).2.2)
    (Idealize.ShloMosaic.sem_eq_zero_of_no_sems (by decide) r.2)) (Cert.Reference9Ideal.Value.run (F := Ideal) m g)

/-- The launch and the reference end with the same pre-activations and the same activations. -/
theorem alg9 : Cert.algebraic_Kernel9Ideal_Reference9Ideal (hKernel9Ideal := Cert.Kernel9Ideal.Gen.facts)
    (hReference9Ideal := Cert.Reference9Ideal.Gen.facts) := by
  intro m g m' g' hpre hagree
  refine ⟨fun c => (Cert.Kernel9Ideal.Gen.dats m 0 c).arrAt 3 Cert.Kernel9Ideal.cfg0.N,
    fun c => (Cert.Kernel9Ideal.Gen.dats m 0 c).arrAt 4 Cert.Kernel9Ideal.cfg0.N, Cert.Kernel9Ideal.Value.run_blocks m g, ?_⟩
  refine (θ_run Cert.Reference9Ideal.defs _ _).mono (fun r h c => ⟨(h c).1.trans ?_, (h c).2.1.trans ?_, (h c).2.2⟩)
    (Cert.Reference9Ideal.Value.run (F := Ideal) m' g')
  · rw [(hagree c).1, (hagree c).2.1, (hagree c).2.2]
    refine Eq.trans ?_ (Cert.Kernel9Ideal.Hid.arr_pre m c).symm
    funext i
    rw [ValueIdx.eq_ix2 i]
    exact Cert.Reference9Ideal.Hid.pre_at _ _ _ _ _
  · rw [(hagree c).1, (hagree c).2.1, (hagree c).2.2]
    refine Eq.trans ?_ (Cert.Kernel9Ideal.Hid.arr_act m c).symm
    funext i
    rw [ValueIdx.eq_ix2 i]
    exact (Cert.Reference9Ideal.Hid.act_at _ _ _).trans (congrArg _ (Cert.Reference9Ideal.Hid.pre_at _ _ _ _ _))

/-! ## The channel mixer's output -/

theorem frame_ref10 : Cert.quiescent_Reference10Ideal (hReference10Ideal := Cert.Reference10Ideal.Gen.facts) := fun m g _ =>
  (θ_run Cert.Reference10Ideal.defs _ _).mono (fun r h => And.intro (fun c => (h c).2)
    (Idealize.ShloMosaic.sem_eq_zero_of_no_sems (by decide) r.2)) (Cert.Reference10Ideal.Value.run (F := Ideal) m g)

/-- The launch and the reference end with the same output. -/
theorem alg10 : Cert.algebraic_Kernel10Ideal_Reference10Ideal (hKernel10Ideal := Cert.Kernel10Ideal.Gen.facts)
    (hReference10Ideal := Cert.Reference10Ideal.Gen.facts) := by
  intro m g m' g' hpre hagree
  refine ⟨fun c => (Cert.Kernel10Ideal.Gen.dats m 0 c).arrAt 3 Cert.Kernel10Ideal.cfg0.N, Cert.Kernel10Ideal.Value.run_blocks m g, ?_⟩
  refine (θ_run Cert.Reference10Ideal.defs _ _).mono (fun r h c => ⟨(h c).1.trans ?_, (h c).2⟩)
    (Cert.Reference10Ideal.Value.run (F := Ideal) m' g')
  rw [(hagree c).1, (hagree c).2.1, (hagree c).2.2.1, (hagree c).2.2.2.1, (hagree c).2.2.2.2]
  refine Eq.trans ?_ (Cert.Kernel10Ideal.Out.arr_out m c).symm
  funext i
  rw [ValueIdx.eq_ix2 i]
  exact Cert.Reference10Ideal.Out.out_at _ _ _ _ _ _ _

/-! ## The gradient of the gated linear unit's matrix -/

theorem frame_ref11 : Cert.quiescent_Reference11Ideal (hReference11Ideal := Cert.Reference11Ideal.Gen.facts) := fun m g _ =>
  (θ_run Cert.Reference11Ideal.defs _ _).mono (fun r h => And.intro (fun c => (h c).2)
    (Idealize.ShloMosaic.sem_eq_zero_of_no_sems (by decide) r.2)) (Cert.Reference11Ideal.Value.run (F := Ideal) m g)

/-- The launch and the reference end with the same gradient. -/
theorem alg11 : Cert.algebraic_Kernel11Ideal_Reference11Ideal (hKernel11Ideal := Cert.Kernel11Ideal.Gen.facts)
    (hReference11Ideal := Cert.Reference11Ideal.Gen.facts) := by
  intro m g m' g' hpre hagree
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ⟨(h c).1.trans ?_, (h c).2⟩)
    (Cert.Reference11Ideal.Value.run (F := Ideal) m' g')
  rw [(hagree c).1, (hagree c).2]
  refine Eq.trans ?_ (Cert.Kernel11Ideal.Dw.arr_dw m c).symm
  funext i
  rw [ValueIdx.eq_ix3 i]
  exact Cert.Reference11Ideal.Dw.dw_at _ _ _ _ _

/-! ## The gradient of the gated linear unit's input -/

theorem frame_ref12 : Cert.quiescent_Reference12Ideal (hReference12Ideal := Cert.Reference12Ideal.Gen.facts) := fun m g _ =>
  (θ_run Cert.Reference12Ideal.defs _ _).mono (fun r h => And.intro (fun c => (h c).2)
    (Idealize.ShloMosaic.sem_eq_zero_of_no_sems (by decide) r.2)) (Cert.Reference12Ideal.Value.run (F := Ideal) m g)

/-- The launch and the reference end with the same gradient. -/
theorem alg12 : Cert.algebraic_Kernel12Ideal_Reference12Ideal (hKernel12Ideal := Cert.Kernel12Ideal.Gen.facts)
    (hReference12Ideal := Cert.Reference12Ideal.Gen.facts) := by
  intro m g m' g' hpre hagree
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ⟨(h c).1.trans ?_, (h c).2⟩)
    (Cert.Reference12Ideal.Value.run (F := Ideal) m' g')
  rw [(hagree c).1, (hagree c).2]
  refine Eq.trans ?_ (Cert.Kernel12Ideal.Dx.arr_dx m c).symm
  funext i
  rw [ValueIdx.eq_ix2 i]
  exact Cert.Reference12Ideal.Dx.dx_at _ _ _ _

/-! ## The gated linear unit's projection -/

theorem frame_ref13 : Cert.quiescent_Reference13Ideal (hReference13Ideal := Cert.Reference13Ideal.Gen.facts) := fun m g _ =>
  (θ_run Cert.Reference13Ideal.defs _ _).mono (fun r h => And.intro (fun c => (h c).2)
    (Idealize.ShloMosaic.sem_eq_zero_of_no_sems (by decide) r.2)) (Cert.Reference13Ideal.Value.run (F := Ideal) m g)

/-- The launch and the reference end with the same output. -/
theorem alg13 : Cert.algebraic_Kernel13Ideal_Reference13Ideal (hKernel13Ideal := Cert.Kernel13Ideal.Gen.facts)
    (hReference13Ideal := Cert.Reference13Ideal.Gen.facts) := by
  intro m g m' g' hpre hagree
  refine ⟨fun c => (Cert.Kernel13Ideal.Gen.dats m 0 c).arrAt 3 Cert.Kernel13Ideal.cfg0.N, Cert.Kernel13Ideal.Value.run_blocks m g, ?_⟩
  refine (θ_run Cert.Reference13Ideal.defs _ _).mono (fun r h c => ⟨(h c).1.trans ?_, (h c).2⟩)
    (Cert.Reference13Ideal.Value.run (F := Ideal) m' g')
  rw [(hagree c).1, (hagree c).2.1, (hagree c).2.2]
  refine Eq.trans ?_ (Cert.Kernel13Ideal.Out.arr_out m c).symm
  funext i
  rw [ValueIdx.eq_ix2 i]
  exact Cert.Reference13Ideal.Out.out_at _ _ _ _ _

/-! ## The gradient of the square matrices -/

theorem frame_ref14 : Cert.quiescent_Reference14Ideal (hReference14Ideal := Cert.Reference14Ideal.Gen.facts) := fun m g _ =>
  (θ_run Cert.Reference14Ideal.defs _ _).mono (fun r h => And.intro (fun c => (h c).2)
    (Idealize.ShloMosaic.sem_eq_zero_of_no_sems (by decide) r.2)) (Cert.Reference14Ideal.Value.run (F := Ideal) m g)

/-- The launch and the reference end with the same gradient. -/
theorem alg14 : Cert.algebraic_Kernel14Ideal_Reference14Ideal (hKernel14Ideal := Cert.Kernel14Ideal.Gen.facts)
    (hReference14Ideal := Cert.Reference14Ideal.Gen.facts) := by
  intro m g m' g' hpre hagree
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ⟨(h c).1.trans ?_, (h c).2⟩)
    (Cert.Reference14Ideal.Value.run (F := Ideal) m' g')
  rw [(hagree c).1, (hagree c).2]
  refine Eq.trans ?_ (Cert.Kernel14Ideal.Sq.arr_dw m c).symm
  funext i
  rw [ValueIdx.eq_ix2 i]
  exact Cert.Reference14Ideal.Sq.dw_at _ _ _ _

/-! ## The gradient of the attention's heads -/

theorem frame_ref15 : Cert.quiescent_Reference15Ideal (hReference15Ideal := Cert.Reference15Ideal.Gen.facts) := fun m g _ =>
  (θ_run Cert.Reference15Ideal.defs _ _).mono (fun r h => And.intro (fun c => (h c).2)
    (Idealize.ShloMosaic.sem_eq_zero_of_no_sems (by decide) r.2)) (Cert.Reference15Ideal.Value.run (F := Ideal) m g)

/-- The launch and the reference end with the same gradient. -/
theorem alg15 : Cert.algebraic_Kernel15Ideal_Reference15Ideal (hKernel15Ideal := Cert.Kernel15Ideal.Gen.facts)
    (hReference15Ideal := Cert.Reference15Ideal.Gen.facts) := by
  intro m g m' g' hpre hagree
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ⟨(h c).1.trans ?_, (h c).2⟩)
    (Cert.Reference15Ideal.Value.run (F := Ideal) m' g')
  rw [(hagree c).1, (hagree c).2]
  refine Eq.trans ?_ (Cert.Kernel15Ideal.Sq.arr m c).symm
  funext i
  rw [ValueIdx.eq_ix2 i]
  exact Cert.Reference15Ideal.Sq.val_at _ _ _ _

/-! ## The gradient of the gates' mixture -/

theorem frame_ref16 : Cert.quiescent_Reference16Ideal (hReference16Ideal := Cert.Reference16Ideal.Gen.facts) := fun m g _ =>
  (θ_run Cert.Reference16Ideal.defs _ _).mono (fun r h => And.intro (fun c => (h c).2)
    (Idealize.ShloMosaic.sem_eq_zero_of_no_sems (by decide) r.2)) (Cert.Reference16Ideal.Value.run (F := Ideal) m g)

/-- The launch and the reference end with the same gradient. -/
theorem alg16 : Cert.algebraic_Kernel16Ideal_Reference16Ideal (hKernel16Ideal := Cert.Kernel16Ideal.Gen.facts)
    (hReference16Ideal := Cert.Reference16Ideal.Gen.facts) := by
  intro m g m' g' hpre hagree
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ⟨(h c).1.trans ?_, (h c).2⟩)
    (Cert.Reference16Ideal.Value.run (F := Ideal) m' g')
  rw [(hagree c).1, (hagree c).2]
  refine Eq.trans ?_ (Cert.Kernel16Ideal.Sq.arr m c).symm
  funext i
  rw [ValueIdx.eq_ix2 i]
  exact Cert.Reference16Ideal.Sq.val_at _ _ _ _

/-! ## The cross attention's queries -/

theorem frame_ref17 : Cert.quiescent_Reference17Ideal (hReference17Ideal := Cert.Reference17Ideal.Gen.facts) := fun m g _ =>
  (θ_run Cert.Reference17Ideal.defs _ _).mono (fun r h => And.intro (fun c => (h c).2)
    (Idealize.ShloMosaic.sem_eq_zero_of_no_sems (by decide) r.2)) (Cert.Reference17Ideal.Value.run (F := Ideal) m g)

/-- The launch and the reference end with the same queries. -/
theorem alg17 : Cert.algebraic_Kernel17Ideal_Reference17Ideal (hKernel17Ideal := Cert.Kernel17Ideal.Gen.facts)
    (hReference17Ideal := Cert.Reference17Ideal.Gen.facts) := by
  intro m g m' g' hpre hagree
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ⟨(h c).1.trans ?_, (h c).2⟩)
    (Cert.Reference17Ideal.Value.run (F := Ideal) m' g')
  rw [(hagree c).1, (hagree c).2]
  refine Eq.trans ?_ (Cert.Kernel17Ideal.Sq.arr m c).symm
  funext i
  rw [ValueIdx.eq_ix2 i]
  exact Cert.Reference17Ideal.Sq.val_at _ _ _ _

/-! ## The gradient of the attention's projection's matrix -/

theorem frame_ref18 : Cert.quiescent_Reference18Ideal (hReference18Ideal := Cert.Reference18Ideal.Gen.facts) := fun m g _ =>
  (θ_run Cert.Reference18Ideal.defs _ _).mono (fun r h => And.intro (fun c => (h c).2)
    (Idealize.ShloMosaic.sem_eq_zero_of_no_sems (by decide) r.2)) (Cert.Reference18Ideal.Value.run (F := Ideal) m g)

/-- The launch and the reference end with the same gradient. -/
theorem alg18 : Cert.algebraic_Kernel18Ideal_Reference18Ideal (hKernel18Ideal := Cert.Kernel18Ideal.Gen.facts)
    (hReference18Ideal := Cert.Reference18Ideal.Gen.facts) := by
  intro m g m' g' hpre hagree
  refine ⟨fun c => (Cert.Kernel18Ideal.Gen.dats m 0 c).arrAt 2 Cert.Kernel18Ideal.cfg0.N, Cert.Kernel18Ideal.Value.run_blocks m g, ?_⟩
  refine (θ_run Cert.Reference18Ideal.defs _ _).mono (fun r h c => ⟨(h c).1.trans ?_, (h c).2⟩)
    (Cert.Reference18Ideal.Value.run (F := Ideal) m' g')
  rw [(hagree c).1, (hagree c).2]
  refine Eq.trans ?_ (Cert.Kernel18Ideal.Dw.arr_dw m c).symm
  funext i
  rw [ValueIdx.eq_ix3 i]
  exact Cert.Reference18Ideal.Dw.dw_at _ _ _ _ _

/-! ## The gradient of the attention's projection's input -/

theorem frame_ref19 : Cert.quiescent_Reference19Ideal (hReference19Ideal := Cert.Reference19Ideal.Gen.facts) := fun m g _ =>
  (θ_run Cert.Reference19Ideal.defs _ _).mono (fun r h => And.intro (fun c => (h c).2)
    (Idealize.ShloMosaic.sem_eq_zero_of_no_sems (by decide) r.2)) (Cert.Reference19Ideal.Value.run (F := Ideal) m g)

/-- The launch and the reference end with the same gradient. -/
theorem alg19 : Cert.algebraic_Kernel19Ideal_Reference19Ideal (hKernel19Ideal := Cert.Kernel19Ideal.Gen.facts)
    (hReference19Ideal := Cert.Reference19Ideal.Gen.facts) := by
  intro m g m' g' hpre hagree
  refine ⟨fun c => (Cert.Kernel19Ideal.Gen.dats m 0 c).arrAt 2 Cert.Kernel19Ideal.cfg0.N, Cert.Kernel19Ideal.Value.run_blocks m g, ?_⟩
  refine (θ_run Cert.Reference19Ideal.defs _ _).mono (fun r h c => ⟨(h c).1.trans ?_, (h c).2⟩)
    (Cert.Reference19Ideal.Value.run (F := Ideal) m' g')
  rw [(hagree c).1, (hagree c).2]
  refine Eq.trans ?_ (Cert.Kernel19Ideal.Dx.arr_dx m c).symm
  funext i
  rw [ValueIdx.eq_ix2 i]
  exact Cert.Reference19Ideal.Dx.dx_at _ _ _ _

/-! ## The attention's projection -/

theorem frame_ref20 : Cert.quiescent_Reference20Ideal (hReference20Ideal := Cert.Reference20Ideal.Gen.facts) := fun m g _ =>
  (θ_run Cert.Reference20Ideal.defs _ _).mono (fun r h => And.intro (fun c => (h c).2)
    (Idealize.ShloMosaic.sem_eq_zero_of_no_sems (by decide) r.2)) (Cert.Reference20Ideal.Value.run (F := Ideal) m g)

/-- The launch and the reference end with the same output. -/
theorem alg20 : Cert.algebraic_Kernel20Ideal_Reference20Ideal (hKernel20Ideal := Cert.Kernel20Ideal.Gen.facts)
    (hReference20Ideal := Cert.Reference20Ideal.Gen.facts) := by
  intro m g m' g' hpre hagree
  refine ⟨fun c => (Cert.Kernel20Ideal.Gen.dats m 0 c).arrAt 2 Cert.Kernel20Ideal.cfg0.N, Cert.Kernel20Ideal.Value.run_blocks m g, ?_⟩
  refine (θ_run Cert.Reference20Ideal.defs _ _).mono (fun r h c => ⟨(h c).1.trans ?_, (h c).2⟩)
    (Cert.Reference20Ideal.Value.run (F := Ideal) m' g')
  rw [(hagree c).1, (hagree c).2]
  refine Eq.trans ?_ (Cert.Kernel20Ideal.Out.arr_out m c).symm
  funext i
  rw [ValueIdx.eq_ix2 i]
  exact Cert.Reference20Ideal.Out.out_at _ _ _ _

/-! ## The gradient of the memory's matrix -/

theorem frame_ref21 : Cert.quiescent_Reference21Ideal (hReference21Ideal := Cert.Reference21Ideal.Gen.facts) := fun m g _ =>
  (θ_run Cert.Reference21Ideal.defs _ _).mono (fun r h => And.intro (fun c => (h c).2)
    (Idealize.ShloMosaic.sem_eq_zero_of_no_sems (by decide) r.2)) (Cert.Reference21Ideal.Value.run (F := Ideal) m g)

/-- The launch and the reference end with the same gradient. -/
theorem alg21 : Cert.algebraic_Kernel21Ideal_Reference21Ideal (hKernel21Ideal := Cert.Kernel21Ideal.Gen.facts)
    (hReference21Ideal := Cert.Reference21Ideal.Gen.facts) := by
  intro m g m' g' hpre hagree
  refine ⟨fun c => (Cert.Kernel21Ideal.Gen.dats m 0 c).arrAt 2 Cert.Kernel21Ideal.cfg0.N, Cert.Kernel21Ideal.Value.run_blocks m g, ?_⟩
  refine (θ_run Cert.Reference21Ideal.defs _ _).mono (fun r h c => ⟨(h c).1.trans ?_, (h c).2⟩)
    (Cert.Reference21Ideal.Value.run (F := Ideal) m' g')
  rw [(hagree c).1, (hagree c).2]
  refine Eq.trans ?_ (Cert.Kernel21Ideal.Dw.arr_dw m c).symm
  funext i
  rw [ValueIdx.eq_ix3 i]
  exact Cert.Reference21Ideal.Dw.dw_at _ _ _ _ _

/-! ## The memory's keys and values -/

theorem frame_ref22 : Cert.quiescent_Reference22Ideal (hReference22Ideal := Cert.Reference22Ideal.Gen.facts) := fun m g _ =>
  (θ_run Cert.Reference22Ideal.defs _ _).mono (fun r h => And.intro (fun c => (h c).2)
    (Idealize.ShloMosaic.sem_eq_zero_of_no_sems (by decide) r.2)) (Cert.Reference22Ideal.Value.run (F := Ideal) m g)

/-- The launch and the reference end with the same keys and values. -/
theorem alg22 : Cert.algebraic_Kernel22Ideal_Reference22Ideal (hKernel22Ideal := Cert.Kernel22Ideal.Gen.facts)
    (hReference22Ideal := Cert.Reference22Ideal.Gen.facts) := by
  intro m g m' g' hpre hagree
  refine ⟨fun c => (Cert.Kernel22Ideal.Gen.dats m 0 c).arrAt 2 Cert.Kernel22Ideal.cfg0.N, Cert.Kernel22Ideal.Value.run_blocks m g, ?_⟩
  refine (θ_run Cert.Reference22Ideal.defs _ _).mono (fun r h c => ⟨(h c).1.trans ?_, (h c).2⟩)
    (Cert.Reference22Ideal.Value.run (F := Ideal) m' g')
  rw [(hagree c).1, (hagree c).2]
  refine Eq.trans ?_ (Cert.Kernel22Ideal.Out.arr_out m c).symm
  funext i
  rw [ValueIdx.eq_ix2 i]
  exact Cert.Reference22Ideal.Out.out_at _ _ _ _

/-- The claims, together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_real_scores.Gen.facts,
  Cert.Pre_real_entries.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, fun m ρ _ => Cert.Kernel6Ideal.Gen.frame m ρ, frame_ref6, fun m ρ _ => frame_ref6 m ρ trivial,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  fun m ρ _ => Cert.Kernel16.Gen.frame m ρ, fun m ρ _ => Cert.Kernel16Ideal.Gen.frame m ρ, frame_ref16,
  fun m ρ _ => Cert.Kernel17.Gen.frame m ρ, fun m ρ _ => Cert.Kernel17Ideal.Gen.frame m ρ, frame_ref17,
  fun m ρ _ => Cert.Kernel18.Gen.frame m ρ, fun m ρ _ => Cert.Kernel18Ideal.Gen.frame m ρ, frame_ref18,
  fun m ρ _ => Cert.Kernel19.Gen.frame m ρ, fun m ρ _ => Cert.Kernel19Ideal.Gen.frame m ρ, frame_ref19,
  fun m ρ _ => Cert.Kernel20.Gen.frame m ρ, fun m ρ _ => Cert.Kernel20Ideal.Gen.frame m ρ, frame_ref20,
  fun m ρ _ => Cert.Kernel21.Gen.frame m ρ, fun m ρ _ => Cert.Kernel21Ideal.Gen.frame m ρ, frame_ref21,
  fun m ρ _ => Cert.Kernel22.Gen.frame m ρ, fun m ρ _ => Cert.Kernel22Ideal.Gen.frame m ρ, frame_ref22,
  trivial, xatt, trivial, alg2, trivial, alg3, trivial, alg4, trivial, alg5, trivial, alg6, trivial, alg7, trivial, alg8, trivial, alg9, trivial, alg10, trivial, alg11, trivial, alg12, trivial, alg13, trivial, alg14, trivial, alg15, trivial, alg16, trivial, alg17, trivial, alg18, trivial, alg19, trivial, alg20, trivial, alg21, trivial, alg22⟩

end Cert.Proof

end
